-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x200 : Shape := ⟨2, ![16384, 200]⟩
abbrev S100x10 : Shape := ⟨2, ![100, 10]⟩
abbrev S1x10 : Shape := ⟨2, ![1, 10]⟩
abbrev S1 : Shape := ⟨1, ![1]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S100x10 .f32) (main_arg2 : FVec F S1x10 .f32) (main_arg3 : FVec F S1 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 100#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S100x10 : Shape := ⟨2, ![100, 10]⟩
abbrev S1x10 : Shape := ⟨2, ![1, 10]⟩
abbrev S1 : Shape := ⟨1, ![1]⟩
abbrev S1000 : Shape := ⟨1, ![1000]⟩
abbrev S_ : Shape := ⟨0, ![]⟩
abbrev S1120 : Shape := ⟨1, ![1120]⟩
abbrev S10 : Shape := ⟨1, ![10]⟩
abbrev S11 : Shape := ⟨1, ![11]⟩
abbrev S11x16 : Shape := ⟨2, ![11, 16]⟩
abbrev S176 : Shape := ⟨1, ![176]⟩
abbrev S4096x200 : Shape := ⟨2, ![4096, 200]⟩
abbrev S112 : Shape := ⟨1, ![112]⟩
abbrev S16x200 : Shape := ⟨2, ![16, 200]⟩
abbrev S64x200 : Shape := ⟨2, ![64, 200]⟩
abbrev S16 : Shape := ⟨1, ![16]⟩
abbrev S1x16 : Shape := ⟨2, ![1, 16]⟩
abbrev S16384x200x1 : Shape := ⟨3, ![16384, 200, 1]⟩

abbrev nBuf : Table → Nat
  | .hbm => 31
  | .local .scVector .vmem => 7
  | _ => 0

abbrev bufTy : (tb : Table) → Fin (nBuf tb) → BufTy
  | .hbm, ⟨0, _⟩ => ⟨S16384x200, .i32⟩
  | .hbm, ⟨1, _⟩ => ⟨S100x10, .f32⟩
  | .hbm, ⟨2, _⟩ => ⟨S1x10, .f32⟩
  | .hbm, ⟨3, _⟩ => ⟨S1, .f32⟩
  | .hbm, ⟨4, _⟩ => ⟨S1000, .f32⟩
  | .hbm, ⟨5, _⟩ => ⟨S_, .i32⟩
  | .hbm, ⟨6, _⟩ => ⟨S_, .f32⟩
  | .hbm, ⟨7, _⟩ => ⟨S1120, .f32⟩
  | .hbm, ⟨8, _⟩ => ⟨S10, .f32⟩
  | .hbm, ⟨9, _⟩ => ⟨S11, .f32⟩
  | .hbm, ⟨10, _⟩ => ⟨S11x16, .f32⟩
  | .hbm, ⟨11, _⟩ => ⟨S176, .f32⟩
  | .hbm, ⟨12, _⟩ => ⟨S4096x200, .i32⟩
  | .hbm, ⟨13, _⟩ => ⟨S4096x200, .i32⟩
  | .hbm, ⟨14, _⟩ => ⟨S_, .i32⟩
  | .hbm, ⟨15, _⟩ => ⟨S4096x200, .i32⟩
  | .hbm, ⟨16, _⟩ => ⟨S4096x200, .i32⟩
  | .hbm, ⟨17, _⟩ => ⟨S4096x200, .i32⟩
  | .hbm, ⟨18, _⟩ => ⟨S4096x200, .i32⟩
  | .hbm, ⟨19, _⟩ => ⟨S_, .i32⟩
  | .hbm, ⟨20, _⟩ => ⟨S4096x200, .i32⟩
  | .hbm, ⟨21, _⟩ => ⟨S4096x200, .i32⟩
  | .hbm, ⟨22, _⟩ => ⟨S4096x200, .i32⟩
  | .hbm, ⟨23, _⟩ => ⟨S4096x200, .i32⟩
  | .hbm, ⟨24, _⟩ => ⟨S_, .i32⟩
  | .hbm, ⟨25, _⟩ => ⟨S4096x200, .i32⟩
  | .hbm, ⟨26, _⟩ => ⟨S4096x200, .i32⟩
  | .hbm, ⟨27, _⟩ => ⟨S4096x200, .i32⟩
  | .hbm, ⟨28, _⟩ => ⟨S4096x200, .i32⟩
  | .hbm, ⟨29, _⟩ => ⟨S16384x200, .f32⟩
  | .hbm, ⟨30, _⟩ => ⟨S16384x200x1, .f32⟩
  | .local .scVector .vmem, ⟨0, _⟩ => ⟨S1120, .f32⟩
  | .local .scVector .vmem, ⟨1, _⟩ => ⟨S176, .f32⟩
  | .local .scVector .vmem, ⟨2, _⟩ => ⟨S112, .f32⟩
  | .local .scVector .vmem, ⟨3, _⟩ => ⟨S16x200, .i32⟩
  | .local .scVector .vmem, ⟨4, _⟩ => ⟨S16x200, .i32⟩
  | .local .scVector .vmem, ⟨5, _⟩ => ⟨S64x200, .f32⟩
  | .local .scVector .vmem, ⟨6, _⟩ => ⟨S64x200, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v19_scv : Ref sig .scVector := ⟨.hbm, 28, rfl⟩
abbrev main_v1_scv : Ref sig .scVector := ⟨.hbm, 7, rfl⟩
abbrev main_v5_scv : Ref sig .scVector := ⟨.hbm, 11, rfl⟩
abbrev main_v20_scv : Ref sig .scVector := ⟨.hbm, 29, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_0 : BitVec 32 := 0#32
  ![v3.toNat, 0]

def k0_chk1 (v26 : IVec S16 32) : Prop :=
  (∀ a x, ((![v26] : Fin 1 → IVec S16 32) a x).toNat < S1120.size a)
theorem k0_idx1_inb : ∀ (v26 : IVec S16 32) (k0_hw1 : k0_chk1 v26), ∀ a x, ((![v26] : Fin 1 → IVec S16 32) a x).toNat < S1120.size a := fun v26 k0_hw1 => k0_hw1

def k0_chk2 (v31 : IVec S16 32) : Prop :=
  (∀ a x, ((![v31] : Fin 1 → IVec S16 32) a x).toNat < S1120.size a)
theorem k0_idx2_inb : ∀ (v31 : IVec S16 32) (k0_hw2 : k0_chk2 v31), ∀ a x, ((![v31] : Fin 1 → IVec S16 32) a x).toNat < S1120.size a := fun v31 k0_hw2 => k0_hw2

def k0_chk3 (v36 : IVec S16 32) : Prop :=
  (∀ a x, ((![v36] : Fin 1 → IVec S16 32) a x).toNat < S1120.size a)
theorem k0_idx3_inb : ∀ (v36 : IVec S16 32) (k0_hw3 : k0_chk3 v36), ∀ a x, ((![v36] : Fin 1 → IVec S16 32) a x).toNat < S1120.size a := fun v36 k0_hw3 => k0_hw3

def k0_chk4 (v41 : IVec S16 32) : Prop :=
  (∀ a x, ((![v41] : Fin 1 → IVec S16 32) a x).toNat < S1120.size a)
theorem k0_idx4_inb : ∀ (v41 : IVec S16 32) (k0_hw4 : k0_chk4 v41), ∀ a x, ((![v41] : Fin 1 → IVec S16 32) a x).toNat < S1120.size a := fun v41 k0_hw4 => k0_hw4

def k0_chk5 (v46 : IVec S16 32) : Prop :=
  (∀ a x, ((![v46] : Fin 1 → IVec S16 32) a x).toNat < S1120.size a)
theorem k0_idx5_inb : ∀ (v46 : IVec S16 32) (k0_hw5 : k0_chk5 v46), ∀ a x, ((![v46] : Fin 1 → IVec S16 32) a x).toNat < S1120.size a := fun v46 k0_hw5 => k0_hw5

def k0_chk6 (v51 : IVec S16 32) : Prop :=
  (∀ a x, ((![v51] : Fin 1 → IVec S16 32) a x).toNat < S1120.size a)
theorem k0_idx6_inb : ∀ (v51 : IVec S16 32) (k0_hw6 : k0_chk6 v51), ∀ a x, ((![v51] : Fin 1 → IVec S16 32) a x).toNat < S1120.size a := fun v51 k0_hw6 => k0_hw6

def k0_chk7 (v56 : IVec S16 32) : Prop :=
  (∀ a x, ((![v56] : Fin 1 → IVec S16 32) a x).toNat < S1120.size a)
theorem k0_idx7_inb : ∀ (v56 : IVec S16 32) (k0_hw7 : k0_chk7 v56), ∀ a x, ((![v56] : Fin 1 → IVec S16 32) a x).toNat < S1120.size a := fun v56 k0_hw7 => k0_hw7

def k0_chk8 (v61 : IVec S16 32) : Prop :=
  (∀ a x, ((![v61] : Fin 1 → IVec S16 32) a x).toNat < S1120.size a)
theorem k0_idx8_inb : ∀ (v61 : IVec S16 32) (k0_hw8 : k0_chk8 v61), ∀ a x, ((![v61] : Fin 1 → IVec S16 32) a x).toNat < S1120.size a := fun v61 k0_hw8 => k0_hw8

def k0_chk9 (v66 : IVec S16 32) : Prop :=
  (∀ a x, ((![v66] : Fin 1 → IVec S16 32) a x).toNat < S1120.size a)
theorem k0_idx9_inb : ∀ (v66 : IVec S16 32) (k0_hw9 : k0_chk9 v66), ∀ a x, ((![v66] : Fin 1 → IVec S16 32) a x).toNat < S1120.size a := fun v66 k0_hw9 => k0_hw9

def k0_chk10 (v71 : IVec S16 32) : Prop :=
  (∀ a x, ((![v71] : Fin 1 → IVec S16 32) a x).toNat < S1120.size a)
theorem k0_idx10_inb : ∀ (v71 : IVec S16 32) (k0_hw10 : k0_chk10 v71), ∀ a x, ((![v71] : Fin 1 → IVec S16 32) a x).toNat < S1120.size a := fun v71 k0_hw10 => k0_hw10

def k0_chk11 (v81 : IVec S16 32) : Prop :=
  (∀ a x, ((![v81] : Fin 1 → IVec S16 32) a x).toNat < S1120.size a)
theorem k0_idx11_inb : ∀ (v81 : IVec S16 32) (k0_hw11 : k0_chk11 v81), ∀ a x, ((![v81] : Fin 1 → IVec S16 32) a x).toNat < S1120.size a := fun v81 k0_hw11 => k0_hw11

def k0_chk12 (v86 : IVec S16 32) : Prop :=
  (∀ a x, ((![v86] : Fin 1 → IVec S16 32) a x).toNat < S1120.size a)
theorem k0_idx12_inb : ∀ (v86 : IVec S16 32) (k0_hw12 : k0_chk12 v86), ∀ a x, ((![v86] : Fin 1 → IVec S16 32) a x).toNat < S1120.size a := fun v86 k0_hw12 => k0_hw12

def k0_chk13 (v91 : IVec S16 32) : Prop :=
  (∀ a x, ((![v91] : Fin 1 → IVec S16 32) a x).toNat < S1120.size a)
theorem k0_idx13_inb : ∀ (v91 : IVec S16 32) (k0_hw13 : k0_chk13 v91), ∀ a x, ((![v91] : Fin 1 → IVec S16 32) a x).toNat < S1120.size a := fun v91 k0_hw13 => k0_hw13

def k0_chk14 (v96 : IVec S16 32) : Prop :=
  (∀ a x, ((![v96] : Fin 1 → IVec S16 32) a x).toNat < S1120.size a)
theorem k0_idx14_inb : ∀ (v96 : IVec S16 32) (k0_hw14 : k0_chk14 v96), ∀ a x, ((![v96] : Fin 1 → IVec S16 32) a x).toNat < S1120.size a := fun v96 k0_hw14 => k0_hw14

def k0_chk15 (v101 : IVec S16 32) : Prop :=
  (∀ a x, ((![v101] : Fin 1 → IVec S16 32) a x).toNat < S1120.size a)
theorem k0_idx15_inb : ∀ (v101 : IVec S16 32) (k0_hw15 : k0_chk15 v101), ∀ a x, ((![v101] : Fin 1 → IVec S16 32) a x).toNat < S1120.size a := fun v101 k0_hw15 => k0_hw15

def k0_chk16 (v106 : IVec S16 32) : Prop :=
  (∀ a x, ((![v106] : Fin 1 → IVec S16 32) a x).toNat < S1120.size a)
theorem k0_idx16_inb : ∀ (v106 : IVec S16 32) (k0_hw16 : k0_chk16 v106), ∀ a x, ((![v106] : Fin 1 → IVec S16 32) a x).toNat < S1120.size a := fun v106 k0_hw16 => k0_hw16

def k0_chk17 (v111 : IVec S16 32) : Prop :=
  (∀ a x, ((![v111] : Fin 1 → IVec S16 32) a x).toNat < S1120.size a)
theorem k0_idx17_inb : ∀ (v111 : IVec S16 32) (k0_hw17 : k0_chk17 v111), ∀ a x, ((![v111] : Fin 1 → IVec S16 32) a x).toNat < S1120.size a := fun v111 k0_hw17 => k0_hw17

def k0_chk18 (v116 : IVec S16 32) : Prop :=
  (∀ a x, ((![v116] : Fin 1 → IVec S16 32) a x).toNat < S1120.size a)
theorem k0_idx18_inb : ∀ (v116 : IVec S16 32) (k0_hw18 : k0_chk18 v116), ∀ a x, ((![v116] : Fin 1 → IVec S16 32) a x).toNat < S1120.size a := fun v116 k0_hw18 => k0_hw18

def k0_chk19 (v121 : IVec S16 32) : Prop :=
  (∀ a x, ((![v121] : Fin 1 → IVec S16 32) a x).toNat < S1120.size a)
theorem k0_idx19_inb : ∀ (v121 : IVec S16 32) (k0_hw19 : k0_chk19 v121), ∀ a x, ((![v121] : Fin 1 → IVec S16 32) a x).toNat < S1120.size a := fun v121 k0_hw19 => k0_hw19

def k0_chk20 (v126 : IVec S16 32) : Prop :=
  (∀ a x, ((![v126] : Fin 1 → IVec S16 32) a x).toNat < S1120.size a)
theorem k0_idx20_inb : ∀ (v126 : IVec S16 32) (k0_hw20 : k0_chk20 v126), ∀ a x, ((![v126] : Fin 1 → IVec S16 32) a x).toNat < S1120.size a := fun v126 k0_hw20 => k0_hw20

def k0_chk21 (v136 : IVec S16 32) : Prop :=
  (∀ a x, ((![v136] : Fin 1 → IVec S16 32) a x).toNat < S1120.size a)
theorem k0_idx21_inb : ∀ (v136 : IVec S16 32) (k0_hw21 : k0_chk21 v136), ∀ a x, ((![v136] : Fin 1 → IVec S16 32) a x).toNat < S1120.size a := fun v136 k0_hw21 => k0_hw21

def k0_chk22 (v141 : IVec S16 32) : Prop :=
  (∀ a x, ((![v141] : Fin 1 → IVec S16 32) a x).toNat < S1120.size a)
theorem k0_idx22_inb : ∀ (v141 : IVec S16 32) (k0_hw22 : k0_chk22 v141), ∀ a x, ((![v141] : Fin 1 → IVec S16 32) a x).toNat < S1120.size a := fun v141 k0_hw22 => k0_hw22

def k0_chk23 (v146 : IVec S16 32) : Prop :=
  (∀ a x, ((![v146] : Fin 1 → IVec S16 32) a x).toNat < S1120.size a)
theorem k0_idx23_inb : ∀ (v146 : IVec S16 32) (k0_hw23 : k0_chk23 v146), ∀ a x, ((![v146] : Fin 1 → IVec S16 32) a x).toNat < S1120.size a := fun v146 k0_hw23 => k0_hw23

def k0_chk24 (v151 : IVec S16 32) : Prop :=
  (∀ a x, ((![v151] : Fin 1 → IVec S16 32) a x).toNat < S1120.size a)
theorem k0_idx24_inb : ∀ (v151 : IVec S16 32) (k0_hw24 : k0_chk24 v151), ∀ a x, ((![v151] : Fin 1 → IVec S16 32) a x).toNat < S1120.size a := fun v151 k0_hw24 => k0_hw24

def k0_chk25 (v156 : IVec S16 32) : Prop :=
  (∀ a x, ((![v156] : Fin 1 → IVec S16 32) a x).toNat < S1120.size a)
theorem k0_idx25_inb : ∀ (v156 : IVec S16 32) (k0_hw25 : k0_chk25 v156), ∀ a x, ((![v156] : Fin 1 → IVec S16 32) a x).toNat < S1120.size a := fun v156 k0_hw25 => k0_hw25

def k0_chk26 (v161 : IVec S16 32) : Prop :=
  (∀ a x, ((![v161] : Fin 1 → IVec S16 32) a x).toNat < S1120.size a)
theorem k0_idx26_inb : ∀ (v161 : IVec S16 32) (k0_hw26 : k0_chk26 v161), ∀ a x, ((![v161] : Fin 1 → IVec S16 32) a x).toNat < S1120.size a := fun v161 k0_hw26 => k0_hw26

def k0_chk27 (v166 : IVec S16 32) : Prop :=
  (∀ a x, ((![v166] : Fin 1 → IVec S16 32) a x).toNat < S1120.size a)
theorem k0_idx27_inb : ∀ (v166 : IVec S16 32) (k0_hw27 : k0_chk27 v166), ∀ a x, ((![v166] : Fin 1 → IVec S16 32) a x).toNat < S1120.size a := fun v166 k0_hw27 => k0_hw27

def k0_chk28 (v171 : IVec S16 32) : Prop :=
  (∀ a x, ((![v171] : Fin 1 → IVec S16 32) a x).toNat < S1120.size a)
theorem k0_idx28_inb : ∀ (v171 : IVec S16 32) (k0_hw28 : k0_chk28 v171), ∀ a x, ((![v171] : Fin 1 → IVec S16 32) a x).toNat < S1120.size a := fun v171 k0_hw28 => k0_hw28

def k0_chk29 (v176 : IVec S16 32) : Prop :=
  (∀ a x, ((![v176] : Fin 1 → IVec S16 32) a x).toNat < S1120.size a)
theorem k0_idx29_inb : ∀ (v176 : IVec S16 32) (k0_hw29 : k0_chk29 v176), ∀ a x, ((![v176] : Fin 1 → IVec S16 32) a x).toNat < S1120.size a := fun v176 k0_hw29 => k0_hw29

def k0_chk30 (v181 : IVec S16 32) : Prop :=
  (∀ a x, ((![v181] : Fin 1 → IVec S16 32) a x).toNat < S1120.size a)
theorem k0_idx30_inb : ∀ (v181 : IVec S16 32) (k0_hw30 : k0_chk30 v181), ∀ a x, ((![v181] : Fin 1 → IVec S16 32) a x).toNat < S1120.size a := fun v181 k0_hw30 => k0_hw30

def k0_chk31 (v191 : IVec S16 32) : Prop :=
  (∀ a x, ((![v191] : Fin 1 → IVec S16 32) a x).toNat < S1120.size a)
theorem k0_idx31_inb : ∀ (v191 : IVec S16 32) (k0_hw31 : k0_chk31 v191), ∀ a x, ((![v191] : Fin 1 → IVec S16 32) a x).toNat < S1120.size a := fun v191 k0_hw31 => k0_hw31

def k0_chk32 (v196 : IVec S16 32) : Prop :=
  (∀ a x, ((![v196] : Fin 1 → IVec S16 32) a x).toNat < S1120.size a)
theorem k0_idx32_inb : ∀ (v196 : IVec S16 32) (k0_hw32 : k0_chk32 v196), ∀ a x, ((![v196] : Fin 1 → IVec S16 32) a x).toNat < S1120.size a := fun v196 k0_hw32 => k0_hw32

def k0_chk33 (v201 : IVec S16 32) : Prop :=
  (∀ a x, ((![v201] : Fin 1 → IVec S16 32) a x).toNat < S1120.size a)
theorem k0_idx33_inb : ∀ (v201 : IVec S16 32) (k0_hw33 : k0_chk33 v201), ∀ a x, ((![v201] : Fin 1 → IVec S16 32) a x).toNat < S1120.size a := fun v201 k0_hw33 => k0_hw33

def k0_chk34 (v206 : IVec S16 32) : Prop :=
  (∀ a x, ((![v206] : Fin 1 → IVec S16 32) a x).toNat < S1120.size a)
theorem k0_idx34_inb : ∀ (v206 : IVec S16 32) (k0_hw34 : k0_chk34 v206), ∀ a x, ((![v206] : Fin 1 → IVec S16 32) a x).toNat < S1120.size a := fun v206 k0_hw34 => k0_hw34

def k0_chk35 (v211 : IVec S16 32) : Prop :=
  (∀ a x, ((![v211] : Fin 1 → IVec S16 32) a x).toNat < S1120.size a)
theorem k0_idx35_inb : ∀ (v211 : IVec S16 32) (k0_hw35 : k0_chk35 v211), ∀ a x, ((![v211] : Fin 1 → IVec S16 32) a x).toNat < S1120.size a := fun v211 k0_hw35 => k0_hw35

def k0_chk36 (v216 : IVec S16 32) : Prop :=
  (∀ a x, ((![v216] : Fin 1 → IVec S16 32) a x).toNat < S1120.size a)
theorem k0_idx36_inb : ∀ (v216 : IVec S16 32) (k0_hw36 : k0_chk36 v216), ∀ a x, ((![v216] : Fin 1 → IVec S16 32) a x).toNat < S1120.size a := fun v216 k0_hw36 => k0_hw36

def k0_chk37 (v221 : IVec S16 32) : Prop :=
  (∀ a x, ((![v221] : Fin 1 → IVec S16 32) a x).toNat < S1120.size a)
theorem k0_idx37_inb : ∀ (v221 : IVec S16 32) (k0_hw37 : k0_chk37 v221), ∀ a x, ((![v221] : Fin 1 → IVec S16 32) a x).toNat < S1120.size a := fun v221 k0_hw37 => k0_hw37

def k0_chk38 (v226 : IVec S16 32) : Prop :=
  (∀ a x, ((![v226] : Fin 1 → IVec S16 32) a x).toNat < S1120.size a)
theorem k0_idx38_inb : ∀ (v226 : IVec S16 32) (k0_hw38 : k0_chk38 v226), ∀ a x, ((![v226] : Fin 1 → IVec S16 32) a x).toNat < S1120.size a := fun v226 k0_hw38 => k0_hw38

def k0_chk39 (v231 : IVec S16 32) : Prop :=
  (∀ a x, ((![v231] : Fin 1 → IVec S16 32) a x).toNat < S1120.size a)
theorem k0_idx39_inb : ∀ (v231 : IVec S16 32) (k0_hw39 : k0_chk39 v231), ∀ a x, ((![v231] : Fin 1 → IVec S16 32) a x).toNat < S1120.size a := fun v231 k0_hw39 => k0_hw39

def k0_chk40 (v236 : IVec S16 32) : Prop :=
  (∀ a x, ((![v236] : Fin 1 → IVec S16 32) a x).toNat < S1120.size a)
theorem k0_idx40_inb : ∀ (v236 : IVec S16 32) (k0_hw40 : k0_chk40 v236), ∀ a x, ((![v236] : Fin 1 → IVec S16 32) a x).toNat < S1120.size a := fun v236 k0_hw40 => k0_hw40

def k0_chk41 (v246 : IVec S16 32) : Prop :=
  (∀ a x, ((![v246] : Fin 1 → IVec S16 32) a x).toNat < S1120.size a)
theorem k0_idx41_inb : ∀ (v246 : IVec S16 32) (k0_hw41 : k0_chk41 v246), ∀ a x, ((![v246] : Fin 1 → IVec S16 32) a x).toNat < S1120.size a := fun v246 k0_hw41 => k0_hw41

def k0_chk42 (v251 : IVec S16 32) : Prop :=
  (∀ a x, ((![v251] : Fin 1 → IVec S16 32) a x).toNat < S1120.size a)
theorem k0_idx42_inb : ∀ (v251 : IVec S16 32) (k0_hw42 : k0_chk42 v251), ∀ a x, ((![v251] : Fin 1 → IVec S16 32) a x).toNat < S1120.size a := fun v251 k0_hw42 => k0_hw42

def k0_chk43 (v256 : IVec S16 32) : Prop :=
  (∀ a x, ((![v256] : Fin 1 → IVec S16 32) a x).toNat < S1120.size a)
theorem k0_idx43_inb : ∀ (v256 : IVec S16 32) (k0_hw43 : k0_chk43 v256), ∀ a x, ((![v256] : Fin 1 → IVec S16 32) a x).toNat < S1120.size a := fun v256 k0_hw43 => k0_hw43

def k0_chk44 (v261 : IVec S16 32) : Prop :=
  (∀ a x, ((![v261] : Fin 1 → IVec S16 32) a x).toNat < S1120.size a)
theorem k0_idx44_inb : ∀ (v261 : IVec S16 32) (k0_hw44 : k0_chk44 v261), ∀ a x, ((![v261] : Fin 1 → IVec S16 32) a x).toNat < S1120.size a := fun v261 k0_hw44 => k0_hw44

def k0_chk45 (v266 : IVec S16 32) : Prop :=
  (∀ a x, ((![v266] : Fin 1 → IVec S16 32) a x).toNat < S1120.size a)
theorem k0_idx45_inb : ∀ (v266 : IVec S16 32) (k0_hw45 : k0_chk45 v266), ∀ a x, ((![v266] : Fin 1 → IVec S16 32) a x).toNat < S1120.size a := fun v266 k0_hw45 => k0_hw45

def k0_chk46 (v271 : IVec S16 32) : Prop :=
  (∀ a x, ((![v271] : Fin 1 → IVec S16 32) a x).toNat < S1120.size a)
theorem k0_idx46_inb : ∀ (v271 : IVec S16 32) (k0_hw46 : k0_chk46 v271), ∀ a x, ((![v271] : Fin 1 → IVec S16 32) a x).toNat < S1120.size a := fun v271 k0_hw46 => k0_hw46

def k0_chk47 (v276 : IVec S16 32) : Prop :=
  (∀ a x, ((![v276] : Fin 1 → IVec S16 32) a x).toNat < S1120.size a)
theorem k0_idx47_inb : ∀ (v276 : IVec S16 32) (k0_hw47 : k0_chk47 v276), ∀ a x, ((![v276] : Fin 1 → IVec S16 32) a x).toNat < S1120.size a := fun v276 k0_hw47 => k0_hw47

def k0_chk48 (v281 : IVec S16 32) : Prop :=
  (∀ a x, ((![v281] : Fin 1 → IVec S16 32) a x).toNat < S1120.size a)
theorem k0_idx48_inb : ∀ (v281 : IVec S16 32) (k0_hw48 : k0_chk48 v281), ∀ a x, ((![v281] : Fin 1 → IVec S16 32) a x).toNat < S1120.size a := fun v281 k0_hw48 => k0_hw48

def k0_chk49 (v286 : IVec S16 32) : Prop :=
  (∀ a x, ((![v286] : Fin 1 → IVec S16 32) a x).toNat < S1120.size a)
theorem k0_idx49_inb : ∀ (v286 : IVec S16 32) (k0_hw49 : k0_chk49 v286), ∀ a x, ((![v286] : Fin 1 → IVec S16 32) a x).toNat < S1120.size a := fun v286 k0_hw49 => k0_hw49

def k0_chk50 (v291 : IVec S16 32) : Prop :=
  (∀ a x, ((![v291] : Fin 1 → IVec S16 32) a x).toNat < S1120.size a)
theorem k0_idx50_inb : ∀ (v291 : IVec S16 32) (k0_hw50 : k0_chk50 v291), ∀ a x, ((![v291] : Fin 1 → IVec S16 32) a x).toNat < S1120.size a := fun v291 k0_hw50 => k0_hw50

def k0_chk51 (v301 : IVec S16 32) : Prop :=
  (∀ a x, ((![v301] : Fin 1 → IVec S16 32) a x).toNat < S1120.size a)
theorem k0_idx51_inb : ∀ (v301 : IVec S16 32) (k0_hw51 : k0_chk51 v301), ∀ a x, ((![v301] : Fin 1 → IVec S16 32) a x).toNat < S1120.size a := fun v301 k0_hw51 => k0_hw51

def k0_chk52 (v306 : IVec S16 32) : Prop :=
  (∀ a x, ((![v306] : Fin 1 → IVec S16 32) a x).toNat < S1120.size a)
theorem k0_idx52_inb : ∀ (v306 : IVec S16 32) (k0_hw52 : k0_chk52 v306), ∀ a x, ((![v306] : Fin 1 → IVec S16 32) a x).toNat < S1120.size a := fun v306 k0_hw52 => k0_hw52

def k0_chk53 (v311 : IVec S16 32) : Prop :=
  (∀ a x, ((![v311] : Fin 1 → IVec S16 32) a x).toNat < S1120.size a)
theorem k0_idx53_inb : ∀ (v311 : IVec S16 32) (k0_hw53 : k0_chk53 v311), ∀ a x, ((![v311] : Fin 1 → IVec S16 32) a x).toNat < S1120.size a := fun v311 k0_hw53 => k0_hw53

def k0_chk54 (v316 : IVec S16 32) : Prop :=
  (∀ a x, ((![v316] : Fin 1 → IVec S16 32) a x).toNat < S1120.size a)
theorem k0_idx54_inb : ∀ (v316 : IVec S16 32) (k0_hw54 : k0_chk54 v316), ∀ a x, ((![v316] : Fin 1 → IVec S16 32) a x).toNat < S1120.size a := fun v316 k0_hw54 => k0_hw54

def k0_chk55 (v321 : IVec S16 32) : Prop :=
  (∀ a x, ((![v321] : Fin 1 → IVec S16 32) a x).toNat < S1120.size a)
theorem k0_idx55_inb : ∀ (v321 : IVec S16 32) (k0_hw55 : k0_chk55 v321), ∀ a x, ((![v321] : Fin 1 → IVec S16 32) a x).toNat < S1120.size a := fun v321 k0_hw55 => k0_hw55

def k0_chk56 (v326 : IVec S16 32) : Prop :=
  (∀ a x, ((![v326] : Fin 1 → IVec S16 32) a x).toNat < S1120.size a)
theorem k0_idx56_inb : ∀ (v326 : IVec S16 32) (k0_hw56 : k0_chk56 v326), ∀ a x, ((![v326] : Fin 1 → IVec S16 32) a x).toNat < S1120.size a := fun v326 k0_hw56 => k0_hw56

def k0_chk57 (v331 : IVec S16 32) : Prop :=
  (∀ a x, ((![v331] : Fin 1 → IVec S16 32) a x).toNat < S1120.size a)
theorem k0_idx57_inb : ∀ (v331 : IVec S16 32) (k0_hw57 : k0_chk57 v331), ∀ a x, ((![v331] : Fin 1 → IVec S16 32) a x).toNat < S1120.size a := fun v331 k0_hw57 => k0_hw57

def k0_chk58 (v336 : IVec S16 32) : Prop :=
  (∀ a x, ((![v336] : Fin 1 → IVec S16 32) a x).toNat < S1120.size a)
theorem k0_idx58_inb : ∀ (v336 : IVec S16 32) (k0_hw58 : k0_chk58 v336), ∀ a x, ((![v336] : Fin 1 → IVec S16 32) a x).toNat < S1120.size a := fun v336 k0_hw58 => k0_hw58

def k0_chk59 (v341 : IVec S16 32) : Prop :=
  (∀ a x, ((![v341] : Fin 1 → IVec S16 32) a x).toNat < S1120.size a)
theorem k0_idx59_inb : ∀ (v341 : IVec S16 32) (k0_hw59 : k0_chk59 v341), ∀ a x, ((![v341] : Fin 1 → IVec S16 32) a x).toNat < S1120.size a := fun v341 k0_hw59 => k0_hw59

def k0_chk60 (v346 : IVec S16 32) : Prop :=
  (∀ a x, ((![v346] : Fin 1 → IVec S16 32) a x).toNat < S1120.size a)
theorem k0_idx60_inb : ∀ (v346 : IVec S16 32) (k0_hw60 : k0_chk60 v346), ∀ a x, ((![v346] : Fin 1 → IVec S16 32) a x).toNat < S1120.size a := fun v346 k0_hw60 => k0_hw60

def k0_chk61 (v356 : IVec S16 32) : Prop :=
  (∀ a x, ((![v356] : Fin 1 → IVec S16 32) a x).toNat < S1120.size a)
theorem k0_idx61_inb : ∀ (v356 : IVec S16 32) (k0_hw61 : k0_chk61 v356), ∀ a x, ((![v356] : Fin 1 → IVec S16 32) a x).toNat < S1120.size a := fun v356 k0_hw61 => k0_hw61

def k0_chk62 (v361 : IVec S16 32) : Prop :=
  (∀ a x, ((![v361] : Fin 1 → IVec S16 32) a x).toNat < S1120.size a)
theorem k0_idx62_inb : ∀ (v361 : IVec S16 32) (k0_hw62 : k0_chk62 v361), ∀ a x, ((![v361] : Fin 1 → IVec S16 32) a x).toNat < S1120.size a := fun v361 k0_hw62 => k0_hw62

def k0_chk63 (v366 : IVec S16 32) : Prop :=
  (∀ a x, ((![v366] : Fin 1 → IVec S16 32) a x).toNat < S1120.size a)
theorem k0_idx63_inb : ∀ (v366 : IVec S16 32) (k0_hw63 : k0_chk63 v366), ∀ a x, ((![v366] : Fin 1 → IVec S16 32) a x).toNat < S1120.size a := fun v366 k0_hw63 => k0_hw63

def k0_chk64 (v371 : IVec S16 32) : Prop :=
  (∀ a x, ((![v371] : Fin 1 → IVec S16 32) a x).toNat < S1120.size a)
theorem k0_idx64_inb : ∀ (v371 : IVec S16 32) (k0_hw64 : k0_chk64 v371), ∀ a x, ((![v371] : Fin 1 → IVec S16 32) a x).toNat < S1120.size a := fun v371 k0_hw64 => k0_hw64

def k0_chk65 (v376 : IVec S16 32) : Prop :=
  (∀ a x, ((![v376] : Fin 1 → IVec S16 32) a x).toNat < S1120.size a)
theorem k0_idx65_inb : ∀ (v376 : IVec S16 32) (k0_hw65 : k0_chk65 v376), ∀ a x, ((![v376] : Fin 1 → IVec S16 32) a x).toNat < S1120.size a := fun v376 k0_hw65 => k0_hw65

def k0_chk66 (v381 : IVec S16 32) : Prop :=
  (∀ a x, ((![v381] : Fin 1 → IVec S16 32) a x).toNat < S1120.size a)
theorem k0_idx66_inb : ∀ (v381 : IVec S16 32) (k0_hw66 : k0_chk66 v381), ∀ a x, ((![v381] : Fin 1 → IVec S16 32) a x).toNat < S1120.size a := fun v381 k0_hw66 => k0_hw66

def k0_chk67 (v386 : IVec S16 32) : Prop :=
  (∀ a x, ((![v386] : Fin 1 → IVec S16 32) a x).toNat < S1120.size a)
theorem k0_idx67_inb : ∀ (v386 : IVec S16 32) (k0_hw67 : k0_chk67 v386), ∀ a x, ((![v386] : Fin 1 → IVec S16 32) a x).toNat < S1120.size a := fun v386 k0_hw67 => k0_hw67

def k0_chk68 (v391 : IVec S16 32) : Prop :=
  (∀ a x, ((![v391] : Fin 1 → IVec S16 32) a x).toNat < S1120.size a)
theorem k0_idx68_inb : ∀ (v391 : IVec S16 32) (k0_hw68 : k0_chk68 v391), ∀ a x, ((![v391] : Fin 1 → IVec S16 32) a x).toNat < S1120.size a := fun v391 k0_hw68 => k0_hw68

def k0_chk69 (v396 : IVec S16 32) : Prop :=
  (∀ a x, ((![v396] : Fin 1 → IVec S16 32) a x).toNat < S1120.size a)
theorem k0_idx69_inb : ∀ (v396 : IVec S16 32) (k0_hw69 : k0_chk69 v396), ∀ a x, ((![v396] : Fin 1 → IVec S16 32) a x).toNat < S1120.size a := fun v396 k0_hw69 => k0_hw69

def k0_chk70 (v401 : IVec S16 32) : Prop :=
  (∀ a x, ((![v401] : Fin 1 → IVec S16 32) a x).toNat < S1120.size a)
theorem k0_idx70_inb : ∀ (v401 : IVec S16 32) (k0_hw70 : k0_chk70 v401), ∀ a x, ((![v401] : Fin 1 → IVec S16 32) a x).toNat < S1120.size a := fun v401 k0_hw70 => k0_hw70
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v3 : BitVec 32 := Scalar.addi v2 c0_i32
  let c0_i32_94 : BitVec 32 := 0#32
  ![v3.toNat, 0]
@[reducible] def k0_t1_loop : Scf.Loop 32 :=
  let c0_i32_96 : BitVec 32 := 0#32
  let c16_i32_97 : BitVec 32 := 16#32
  let v451 : BitVec 32 := Scalar.addi c0_i32_96 c16_i32_97
  let c1_i32_98 : BitVec 32 := 1#32
  ⟨c0_i32_96, v451, c1_i32_98⟩
def k0_off3 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk71 (v825 : IVec S16 32) : Prop :=
  (∀ a x, ((![v825] : Fin 1 → IVec S16 32) a x).toNat < S112.size a)
theorem k0_idx71_inb : ∀ (v825 : IVec S16 32) (k0_hw71 : k0_chk71 v825), ∀ a x, ((![v825] : Fin 1 → IVec S16 32) a x).toNat < S112.size a := fun v825 k0_hw71 => k0_hw71
def k0_off4 (k0_t1 : Fin k0_t1_loop.trips) : Fin 2 → Nat :=
  let c0_i32_640 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk72 (v832 : IVec S16 32) : Prop :=
  (∀ a x, ((![v832] : Fin 1 → IVec S16 32) a x).toNat < S112.size a)
theorem k0_idx72_inb : ∀ (v832 : IVec S16 32) (k0_hw72 : k0_chk72 v832), ∀ a x, ((![v832] : Fin 1 → IVec S16 32) a x).toNat < S112.size a := fun v832 k0_hw72 => k0_hw72
def k0_off5 (k0_t1 : Fin k0_t1_loop.trips) : Fin 2 → Nat :=
  let c16_i32_643 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk73 (v839 : IVec S16 32) : Prop :=
  (∀ a x, ((![v839] : Fin 1 → IVec S16 32) a x).toNat < S112.size a)
theorem k0_idx73_inb : ∀ (v839 : IVec S16 32) (k0_hw73 : k0_chk73 v839), ∀ a x, ((![v839] : Fin 1 → IVec S16 32) a x).toNat < S112.size a := fun v839 k0_hw73 => k0_hw73
def k0_off6 (k0_t1 : Fin k0_t1_loop.trips) : Fin 2 → Nat :=
  let c32_i32_646 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk74 (v846 : IVec S16 32) : Prop :=
  (∀ a x, ((![v846] : Fin 1 → IVec S16 32) a x).toNat < S112.size a)
theorem k0_idx74_inb : ∀ (v846 : IVec S16 32) (k0_hw74 : k0_chk74 v846), ∀ a x, ((![v846] : Fin 1 → IVec S16 32) a x).toNat < S112.size a := fun v846 k0_hw74 => k0_hw74
def k0_off7 (k0_t1 : Fin k0_t1_loop.trips) : Fin 2 → Nat :=
  let c48_i32_648 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off8 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk75 (v855 : IVec S16 32) : Prop :=
  (∀ a x, ((![v855] : Fin 1 → IVec S16 32) a x).toNat < S112.size a)
theorem k0_idx75_inb : ∀ (v855 : IVec S16 32) (k0_hw75 : k0_chk75 v855), ∀ a x, ((![v855] : Fin 1 → IVec S16 32) a x).toNat < S112.size a := fun v855 k0_hw75 => k0_hw75
def k0_off9 (k0_t1 : Fin k0_t1_loop.trips) : Fin 2 → Nat :=
  let c0_i32_652 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk76 (v862 : IVec S16 32) : Prop :=
  (∀ a x, ((![v862] : Fin 1 → IVec S16 32) a x).toNat < S112.size a)
theorem k0_idx76_inb : ∀ (v862 : IVec S16 32) (k0_hw76 : k0_chk76 v862), ∀ a x, ((![v862] : Fin 1 → IVec S16 32) a x).toNat < S112.size a := fun v862 k0_hw76 => k0_hw76
def k0_off10 (k0_t1 : Fin k0_t1_loop.trips) : Fin 2 → Nat :=
  let c16_i32_655 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk77 (v869 : IVec S16 32) : Prop :=
  (∀ a x, ((![v869] : Fin 1 → IVec S16 32) a x).toNat < S112.size a)
theorem k0_idx77_inb : ∀ (v869 : IVec S16 32) (k0_hw77 : k0_chk77 v869), ∀ a x, ((![v869] : Fin 1 → IVec S16 32) a x).toNat < S112.size a := fun v869 k0_hw77 => k0_hw77
def k0_off11 (k0_t1 : Fin k0_t1_loop.trips) : Fin 2 → Nat :=
  let c32_i32_658 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk78 (v876 : IVec S16 32) : Prop :=
  (∀ a x, ((![v876] : Fin 1 → IVec S16 32) a x).toNat < S112.size a)
theorem k0_idx78_inb : ∀ (v876 : IVec S16 32) (k0_hw78 : k0_chk78 v876), ∀ a x, ((![v876] : Fin 1 → IVec S16 32) a x).toNat < S112.size a := fun v876 k0_hw78 => k0_hw78
def k0_off12 (k0_t1 : Fin k0_t1_loop.trips) : Fin 2 → Nat :=
  let c48_i32_661 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off13 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk79 (v885 : IVec S16 32) : Prop :=
  (∀ a x, ((![v885] : Fin 1 → IVec S16 32) a x).toNat < S112.size a)
theorem k0_idx79_inb : ∀ (v885 : IVec S16 32) (k0_hw79 : k0_chk79 v885), ∀ a x, ((![v885] : Fin 1 → IVec S16 32) a x).toNat < S112.size a := fun v885 k0_hw79 => k0_hw79
def k0_off14 (k0_t1 : Fin k0_t1_loop.trips) : Fin 2 → Nat :=
  let c0_i32_665 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk80 (v892 : IVec S16 32) : Prop :=
  (∀ a x, ((![v892] : Fin 1 → IVec S16 32) a x).toNat < S112.size a)
theorem k0_idx80_inb : ∀ (v892 : IVec S16 32) (k0_hw80 : k0_chk80 v892), ∀ a x, ((![v892] : Fin 1 → IVec S16 32) a x).toNat < S112.size a := fun v892 k0_hw80 => k0_hw80
def k0_off15 (k0_t1 : Fin k0_t1_loop.trips) : Fin 2 → Nat :=
  let c16_i32_668 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk81 (v899 : IVec S16 32) : Prop :=
  (∀ a x, ((![v899] : Fin 1 → IVec S16 32) a x).toNat < S112.size a)
theorem k0_idx81_inb : ∀ (v899 : IVec S16 32) (k0_hw81 : k0_chk81 v899), ∀ a x, ((![v899] : Fin 1 → IVec S16 32) a x).toNat < S112.size a := fun v899 k0_hw81 => k0_hw81
def k0_off16 (k0_t1 : Fin k0_t1_loop.trips) : Fin 2 → Nat :=
  let c32_i32_671 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk82 (v906 : IVec S16 32) : Prop :=
  (∀ a x, ((![v906] : Fin 1 → IVec S16 32) a x).toNat < S112.size a)
theorem k0_idx82_inb : ∀ (v906 : IVec S16 32) (k0_hw82 : k0_chk82 v906), ∀ a x, ((![v906] : Fin 1 → IVec S16 32) a x).toNat < S112.size a := fun v906 k0_hw82 => k0_hw82
def k0_off17 (k0_t1 : Fin k0_t1_loop.trips) : Fin 2 → Nat :=
  let c48_i32_674 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off18 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk83 (v915 : IVec S16 32) : Prop :=
  (∀ a x, ((![v915] : Fin 1 → IVec S16 32) a x).toNat < S112.size a)
theorem k0_idx83_inb : ∀ (v915 : IVec S16 32) (k0_hw83 : k0_chk83 v915), ∀ a x, ((![v915] : Fin 1 → IVec S16 32) a x).toNat < S112.size a := fun v915 k0_hw83 => k0_hw83
def k0_off19 (k0_t1 : Fin k0_t1_loop.trips) : Fin 2 → Nat :=
  let c0_i32_678 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk84 (v922 : IVec S16 32) : Prop :=
  (∀ a x, ((![v922] : Fin 1 → IVec S16 32) a x).toNat < S112.size a)
theorem k0_idx84_inb : ∀ (v922 : IVec S16 32) (k0_hw84 : k0_chk84 v922), ∀ a x, ((![v922] : Fin 1 → IVec S16 32) a x).toNat < S112.size a := fun v922 k0_hw84 => k0_hw84
def k0_off20 (k0_t1 : Fin k0_t1_loop.trips) : Fin 2 → Nat :=
  let c16_i32_681 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk85 (v929 : IVec S16 32) : Prop :=
  (∀ a x, ((![v929] : Fin 1 → IVec S16 32) a x).toNat < S112.size a)
theorem k0_idx85_inb : ∀ (v929 : IVec S16 32) (k0_hw85 : k0_chk85 v929), ∀ a x, ((![v929] : Fin 1 → IVec S16 32) a x).toNat < S112.size a := fun v929 k0_hw85 => k0_hw85
def k0_off21 (k0_t1 : Fin k0_t1_loop.trips) : Fin 2 → Nat :=
  let c32_i32_684 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk86 (v936 : IVec S16 32) : Prop :=
  (∀ a x, ((![v936] : Fin 1 → IVec S16 32) a x).toNat < S112.size a)
theorem k0_idx86_inb : ∀ (v936 : IVec S16 32) (k0_hw86 : k0_chk86 v936), ∀ a x, ((![v936] : Fin 1 → IVec S16 32) a x).toNat < S112.size a := fun v936 k0_hw86 => k0_hw86
def k0_off22 (k0_t1 : Fin k0_t1_loop.trips) : Fin 2 → Nat :=
  let c48_i32_687 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off23 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk87 (v945 : IVec S16 32) : Prop :=
  (∀ a x, ((![v945] : Fin 1 → IVec S16 32) a x).toNat < S112.size a)
theorem k0_idx87_inb : ∀ (v945 : IVec S16 32) (k0_hw87 : k0_chk87 v945), ∀ a x, ((![v945] : Fin 1 → IVec S16 32) a x).toNat < S112.size a := fun v945 k0_hw87 => k0_hw87
def k0_off24 (k0_t1 : Fin k0_t1_loop.trips) : Fin 2 → Nat :=
  let c0_i32_691 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk88 (v952 : IVec S16 32) : Prop :=
  (∀ a x, ((![v952] : Fin 1 → IVec S16 32) a x).toNat < S112.size a)
theorem k0_idx88_inb : ∀ (v952 : IVec S16 32) (k0_hw88 : k0_chk88 v952), ∀ a x, ((![v952] : Fin 1 → IVec S16 32) a x).toNat < S112.size a := fun v952 k0_hw88 => k0_hw88
def k0_off25 (k0_t1 : Fin k0_t1_loop.trips) : Fin 2 → Nat :=
  let c16_i32_694 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk89 (v959 : IVec S16 32) : Prop :=
  (∀ a x, ((![v959] : Fin 1 → IVec S16 32) a x).toNat < S112.size a)
theorem k0_idx89_inb : ∀ (v959 : IVec S16 32) (k0_hw89 : k0_chk89 v959), ∀ a x, ((![v959] : Fin 1 → IVec S16 32) a x).toNat < S112.size a := fun v959 k0_hw89 => k0_hw89
def k0_off26 (k0_t1 : Fin k0_t1_loop.trips) : Fin 2 → Nat :=
  let c32_i32_697 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk90 (v966 : IVec S16 32) : Prop :=
  (∀ a x, ((![v966] : Fin 1 → IVec S16 32) a x).toNat < S112.size a)
theorem k0_idx90_inb : ∀ (v966 : IVec S16 32) (k0_hw90 : k0_chk90 v966), ∀ a x, ((![v966] : Fin 1 → IVec S16 32) a x).toNat < S112.size a := fun v966 k0_hw90 => k0_hw90
def k0_off27 (k0_t1 : Fin k0_t1_loop.trips) : Fin 2 → Nat :=
  let c48_i32_700 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off28 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk91 (v975 : IVec S16 32) : Prop :=
  (∀ a x, ((![v975] : Fin 1 → IVec S16 32) a x).toNat < S112.size a)
theorem k0_idx91_inb : ∀ (v975 : IVec S16 32) (k0_hw91 : k0_chk91 v975), ∀ a x, ((![v975] : Fin 1 → IVec S16 32) a x).toNat < S112.size a := fun v975 k0_hw91 => k0_hw91
def k0_off29 (k0_t1 : Fin k0_t1_loop.trips) : Fin 2 → Nat :=
  let c0_i32_704 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk92 (v982 : IVec S16 32) : Prop :=
  (∀ a x, ((![v982] : Fin 1 → IVec S16 32) a x).toNat < S112.size a)
theorem k0_idx92_inb : ∀ (v982 : IVec S16 32) (k0_hw92 : k0_chk92 v982), ∀ a x, ((![v982] : Fin 1 → IVec S16 32) a x).toNat < S112.size a := fun v982 k0_hw92 => k0_hw92
def k0_off30 (k0_t1 : Fin k0_t1_loop.trips) : Fin 2 → Nat :=
  let c16_i32_707 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk93 (v989 : IVec S16 32) : Prop :=
  (∀ a x, ((![v989] : Fin 1 → IVec S16 32) a x).toNat < S112.size a)
theorem k0_idx93_inb : ∀ (v989 : IVec S16 32) (k0_hw93 : k0_chk93 v989), ∀ a x, ((![v989] : Fin 1 → IVec S16 32) a x).toNat < S112.size a := fun v989 k0_hw93 => k0_hw93
def k0_off31 (k0_t1 : Fin k0_t1_loop.trips) : Fin 2 → Nat :=
  let c32_i32_710 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk94 (v996 : IVec S16 32) : Prop :=
  (∀ a x, ((![v996] : Fin 1 → IVec S16 32) a x).toNat < S112.size a)
theorem k0_idx94_inb : ∀ (v996 : IVec S16 32) (k0_hw94 : k0_chk94 v996), ∀ a x, ((![v996] : Fin 1 → IVec S16 32) a x).toNat < S112.size a := fun v996 k0_hw94 => k0_hw94
def k0_off32 (k0_t1 : Fin k0_t1_loop.trips) : Fin 2 → Nat :=
  let c48_i32_713 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off33 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk95 (v1005 : IVec S16 32) : Prop :=
  (∀ a x, ((![v1005] : Fin 1 → IVec S16 32) a x).toNat < S112.size a)
theorem k0_idx95_inb : ∀ (v1005 : IVec S16 32) (k0_hw95 : k0_chk95 v1005), ∀ a x, ((![v1005] : Fin 1 → IVec S16 32) a x).toNat < S112.size a := fun v1005 k0_hw95 => k0_hw95
def k0_off34 (k0_t1 : Fin k0_t1_loop.trips) : Fin 2 → Nat :=
  let c0_i32_717 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk96 (v1012 : IVec S16 32) : Prop :=
  (∀ a x, ((![v1012] : Fin 1 → IVec S16 32) a x).toNat < S112.size a)
theorem k0_idx96_inb : ∀ (v1012 : IVec S16 32) (k0_hw96 : k0_chk96 v1012), ∀ a x, ((![v1012] : Fin 1 → IVec S16 32) a x).toNat < S112.size a := fun v1012 k0_hw96 => k0_hw96
def k0_off35 (k0_t1 : Fin k0_t1_loop.trips) : Fin 2 → Nat :=
  let c16_i32_720 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk97 (v1019 : IVec S16 32) : Prop :=
  (∀ a x, ((![v1019] : Fin 1 → IVec S16 32) a x).toNat < S112.size a)
theorem k0_idx97_inb : ∀ (v1019 : IVec S16 32) (k0_hw97 : k0_chk97 v1019), ∀ a x, ((![v1019] : Fin 1 → IVec S16 32) a x).toNat < S112.size a := fun v1019 k0_hw97 => k0_hw97
def k0_off36 (k0_t1 : Fin k0_t1_loop.trips) : Fin 2 → Nat :=
  let c32_i32_723 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk98 (v1026 : IVec S16 32) : Prop :=
  (∀ a x, ((![v1026] : Fin 1 → IVec S16 32) a x).toNat < S112.size a)
theorem k0_idx98_inb : ∀ (v1026 : IVec S16 32) (k0_hw98 : k0_chk98 v1026), ∀ a x, ((![v1026] : Fin 1 → IVec S16 32) a x).toNat < S112.size a := fun v1026 k0_hw98 => k0_hw98
def k0_off37 (k0_t1 : Fin k0_t1_loop.trips) : Fin 2 → Nat :=
  let c48_i32_726 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off38 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk99 (v1035 : IVec S16 32) : Prop :=
  (∀ a x, ((![v1035] : Fin 1 → IVec S16 32) a x).toNat < S112.size a)
theorem k0_idx99_inb : ∀ (v1035 : IVec S16 32) (k0_hw99 : k0_chk99 v1035), ∀ a x, ((![v1035] : Fin 1 → IVec S16 32) a x).toNat < S112.size a := fun v1035 k0_hw99 => k0_hw99
def k0_off39 (k0_t1 : Fin k0_t1_loop.trips) : Fin 2 → Nat :=
  let c0_i32_730 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk100 (v1042 : IVec S16 32) : Prop :=
  (∀ a x, ((![v1042] : Fin 1 → IVec S16 32) a x).toNat < S112.size a)
theorem k0_idx100_inb : ∀ (v1042 : IVec S16 32) (k0_hw100 : k0_chk100 v1042), ∀ a x, ((![v1042] : Fin 1 → IVec S16 32) a x).toNat < S112.size a := fun v1042 k0_hw100 => k0_hw100
def k0_off40 (k0_t1 : Fin k0_t1_loop.trips) : Fin 2 → Nat :=
  let c16_i32_733 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk101 (v1049 : IVec S16 32) : Prop :=
  (∀ a x, ((![v1049] : Fin 1 → IVec S16 32) a x).toNat < S112.size a)
theorem k0_idx101_inb : ∀ (v1049 : IVec S16 32) (k0_hw101 : k0_chk101 v1049), ∀ a x, ((![v1049] : Fin 1 → IVec S16 32) a x).toNat < S112.size a := fun v1049 k0_hw101 => k0_hw101
def k0_off41 (k0_t1 : Fin k0_t1_loop.trips) : Fin 2 → Nat :=
  let c32_i32_736 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk102 (v1056 : IVec S16 32) : Prop :=
  (∀ a x, ((![v1056] : Fin 1 → IVec S16 32) a x).toNat < S112.size a)
theorem k0_idx102_inb : ∀ (v1056 : IVec S16 32) (k0_hw102 : k0_chk102 v1056), ∀ a x, ((![v1056] : Fin 1 → IVec S16 32) a x).toNat < S112.size a := fun v1056 k0_hw102 => k0_hw102
def k0_off42 (k0_t1 : Fin k0_t1_loop.trips) : Fin 2 → Nat :=
  let c48_i32_739 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off43 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk103 (v1065 : IVec S16 32) : Prop :=
  (∀ a x, ((![v1065] : Fin 1 → IVec S16 32) a x).toNat < S112.size a)
theorem k0_idx103_inb : ∀ (v1065 : IVec S16 32) (k0_hw103 : k0_chk103 v1065), ∀ a x, ((![v1065] : Fin 1 → IVec S16 32) a x).toNat < S112.size a := fun v1065 k0_hw103 => k0_hw103
def k0_off44 (k0_t1 : Fin k0_t1_loop.trips) : Fin 2 → Nat :=
  let c0_i32_743 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk104 (v1072 : IVec S16 32) : Prop :=
  (∀ a x, ((![v1072] : Fin 1 → IVec S16 32) a x).toNat < S112.size a)
theorem k0_idx104_inb : ∀ (v1072 : IVec S16 32) (k0_hw104 : k0_chk104 v1072), ∀ a x, ((![v1072] : Fin 1 → IVec S16 32) a x).toNat < S112.size a := fun v1072 k0_hw104 => k0_hw104
def k0_off45 (k0_t1 : Fin k0_t1_loop.trips) : Fin 2 → Nat :=
  let c16_i32_746 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk105 (v1079 : IVec S16 32) : Prop :=
  (∀ a x, ((![v1079] : Fin 1 → IVec S16 32) a x).toNat < S112.size a)
theorem k0_idx105_inb : ∀ (v1079 : IVec S16 32) (k0_hw105 : k0_chk105 v1079), ∀ a x, ((![v1079] : Fin 1 → IVec S16 32) a x).toNat < S112.size a := fun v1079 k0_hw105 => k0_hw105
def k0_off46 (k0_t1 : Fin k0_t1_loop.trips) : Fin 2 → Nat :=
  let c32_i32_749 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk106 (v1086 : IVec S16 32) : Prop :=
  (∀ a x, ((![v1086] : Fin 1 → IVec S16 32) a x).toNat < S112.size a)
theorem k0_idx106_inb : ∀ (v1086 : IVec S16 32) (k0_hw106 : k0_chk106 v1086), ∀ a x, ((![v1086] : Fin 1 → IVec S16 32) a x).toNat < S112.size a := fun v1086 k0_hw106 => k0_hw106
def k0_off47 (k0_t1 : Fin k0_t1_loop.trips) : Fin 2 → Nat :=
  let c48_i32_752 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off48 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk107 (v1095 : IVec S16 32) : Prop :=
  (∀ a x, ((![v1095] : Fin 1 → IVec S16 32) a x).toNat < S112.size a)
theorem k0_idx107_inb : ∀ (v1095 : IVec S16 32) (k0_hw107 : k0_chk107 v1095), ∀ a x, ((![v1095] : Fin 1 → IVec S16 32) a x).toNat < S112.size a := fun v1095 k0_hw107 => k0_hw107
def k0_off49 (k0_t1 : Fin k0_t1_loop.trips) : Fin 2 → Nat :=
  let c0_i32_756 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk108 (v1102 : IVec S16 32) : Prop :=
  (∀ a x, ((![v1102] : Fin 1 → IVec S16 32) a x).toNat < S112.size a)
theorem k0_idx108_inb : ∀ (v1102 : IVec S16 32) (k0_hw108 : k0_chk108 v1102), ∀ a x, ((![v1102] : Fin 1 → IVec S16 32) a x).toNat < S112.size a := fun v1102 k0_hw108 => k0_hw108
def k0_off50 (k0_t1 : Fin k0_t1_loop.trips) : Fin 2 → Nat :=
  let c16_i32_759 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk109 (v1109 : IVec S16 32) : Prop :=
  (∀ a x, ((![v1109] : Fin 1 → IVec S16 32) a x).toNat < S112.size a)
theorem k0_idx109_inb : ∀ (v1109 : IVec S16 32) (k0_hw109 : k0_chk109 v1109), ∀ a x, ((![v1109] : Fin 1 → IVec S16 32) a x).toNat < S112.size a := fun v1109 k0_hw109 => k0_hw109
def k0_off51 (k0_t1 : Fin k0_t1_loop.trips) : Fin 2 → Nat :=
  let c32_i32_762 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk110 (v1116 : IVec S16 32) : Prop :=
  (∀ a x, ((![v1116] : Fin 1 → IVec S16 32) a x).toNat < S112.size a)
theorem k0_idx110_inb : ∀ (v1116 : IVec S16 32) (k0_hw110 : k0_chk110 v1116), ∀ a x, ((![v1116] : Fin 1 → IVec S16 32) a x).toNat < S112.size a := fun v1116 k0_hw110 => k0_hw110
def k0_off52 (k0_t1 : Fin k0_t1_loop.trips) : Fin 2 → Nat :=
  let c48_i32_765 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off53 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk111 (v1125 : IVec S16 32) : Prop :=
  (∀ a x, ((![v1125] : Fin 1 → IVec S16 32) a x).toNat < S112.size a)
theorem k0_idx111_inb : ∀ (v1125 : IVec S16 32) (k0_hw111 : k0_chk111 v1125), ∀ a x, ((![v1125] : Fin 1 → IVec S16 32) a x).toNat < S112.size a := fun v1125 k0_hw111 => k0_hw111
def k0_off54 (k0_t1 : Fin k0_t1_loop.trips) : Fin 2 → Nat :=
  let c0_i32_769 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk112 (v1132 : IVec S16 32) : Prop :=
  (∀ a x, ((![v1132] : Fin 1 → IVec S16 32) a x).toNat < S112.size a)
theorem k0_idx112_inb : ∀ (v1132 : IVec S16 32) (k0_hw112 : k0_chk112 v1132), ∀ a x, ((![v1132] : Fin 1 → IVec S16 32) a x).toNat < S112.size a := fun v1132 k0_hw112 => k0_hw112
def k0_off55 (k0_t1 : Fin k0_t1_loop.trips) : Fin 2 → Nat :=
  let c16_i32_772 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk113 (v1139 : IVec S16 32) : Prop :=
  (∀ a x, ((![v1139] : Fin 1 → IVec S16 32) a x).toNat < S112.size a)
theorem k0_idx113_inb : ∀ (v1139 : IVec S16 32) (k0_hw113 : k0_chk113 v1139), ∀ a x, ((![v1139] : Fin 1 → IVec S16 32) a x).toNat < S112.size a := fun v1139 k0_hw113 => k0_hw113
def k0_off56 (k0_t1 : Fin k0_t1_loop.trips) : Fin 2 → Nat :=
  let c32_i32_775 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk114 (v1146 : IVec S16 32) : Prop :=
  (∀ a x, ((![v1146] : Fin 1 → IVec S16 32) a x).toNat < S112.size a)
theorem k0_idx114_inb : ∀ (v1146 : IVec S16 32) (k0_hw114 : k0_chk114 v1146), ∀ a x, ((![v1146] : Fin 1 → IVec S16 32) a x).toNat < S112.size a := fun v1146 k0_hw114 => k0_hw114
def k0_off57 (k0_t1 : Fin k0_t1_loop.trips) : Fin 2 → Nat :=
  let c48_i32_778 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off58 (k0_t1 : Fin k0_t1_loop.trips) : Fin 2 → Nat :=
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk115 (v1155 : IVec S16 32) : Prop :=
  (∀ a x, ((![v1155] : Fin 1 → IVec S16 32) a x).toNat < S112.size a)
theorem k0_idx115_inb : ∀ (v1155 : IVec S16 32) (k0_hw115 : k0_chk115 v1155), ∀ a x, ((![v1155] : Fin 1 → IVec S16 32) a x).toNat < S112.size a := fun v1155 k0_hw115 => k0_hw115
def k0_off59 (k0_t1 : Fin k0_t1_loop.trips) : Fin 2 → Nat :=
  let c0_i32_781 : BitVec 32 := 0#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk116 (v1162 : IVec S16 32) : Prop :=
  (∀ a x, ((![v1162] : Fin 1 → IVec S16 32) a x).toNat < S112.size a)
theorem k0_idx116_inb : ∀ (v1162 : IVec S16 32) (k0_hw116 : k0_chk116 v1162), ∀ a x, ((![v1162] : Fin 1 → IVec S16 32) a x).toNat < S112.size a := fun v1162 k0_hw116 => k0_hw116
def k0_off60 (k0_t1 : Fin k0_t1_loop.trips) : Fin 2 → Nat :=
  let c16_i32_784 : BitVec 32 := 16#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk117 (v1169 : IVec S16 32) : Prop :=
  (∀ a x, ((![v1169] : Fin 1 → IVec S16 32) a x).toNat < S112.size a)
theorem k0_idx117_inb : ∀ (v1169 : IVec S16 32) (k0_hw117 : k0_chk117 v1169), ∀ a x, ((![v1169] : Fin 1 → IVec S16 32) a x).toNat < S112.size a := fun v1169 k0_hw117 => k0_hw117
def k0_off61 (k0_t1 : Fin k0_t1_loop.trips) : Fin 2 → Nat :=
  let c32_i32_787 : BitVec 32 := 32#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk118 (v1176 : IVec S16 32) : Prop :=
  (∀ a x, ((![v1176] : Fin 1 → IVec S16 32) a x).toNat < S112.size a)
theorem k0_idx118_inb : ∀ (v1176 : IVec S16 32) (k0_hw118 : k0_chk118 v1176), ∀ a x, ((![v1176] : Fin 1 → IVec S16 32) a x).toNat < S112.size a := fun v1176 k0_hw118 => k0_hw118
def k0_off62 (k0_t1 : Fin k0_t1_loop.trips) : Fin 2 → Nat :=
  let c48_i32_790 : BitVec 32 := 48#32
  let c0_i32_637 : BitVec 32 := 0#32
  let c0_i32_96 : BitVec 32 := 0#32
  let c1_i32_98 : BitVec 32 := 1#32
  let arg17 : BitVec 32 := Scf.iv c0_i32_96 c1_i32_98 k0_t1
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t2_loop : Scf.Loop 32 :=
  let c0_i32_100 : BitVec 32 := 0#32
  let c8_i32_101 : BitVec 32 := 8#32
  let v452 : BitVec 32 := Scalar.addi c0_i32_100 c8_i32_101
  let c1_i32_102 : BitVec 32 := 1#32
  ⟨c0_i32_100, v452, c1_i32_102⟩

def k0_chk119 (v447 : IVec S16 32) (v823 : IVec S16 32) : Prop :=
  (∀ a x, ((![v823, v447] : Fin 2 → IVec S16 32) a x).toNat < S16x200.size a)
theorem k0_idx119_inb : ∀ (v447 : IVec S16 32) (v823 : IVec S16 32) (k0_hw119 : k0_chk119 v447 v823), ∀ a x, ((![v823, v447] : Fin 2 → IVec S16 32) a x).toNat < S16x200.size a := fun v447 v823 k0_hw119 => k0_hw119

def k0_chk120 (v827 : IVec S16 32) : Prop :=
  (∀ a x, ((![v827] : Fin 1 → IVec S16 32) a x).toNat < S112.size a)
theorem k0_idx120_inb : ∀ (v827 : IVec S16 32) (k0_hw120 : k0_chk120 v827), ∀ a x, ((![v827] : Fin 1 → IVec S16 32) a x).toNat < S112.size a := fun v827 k0_hw120 => k0_hw120

def k0_chk121 (v447 : IVec S16 32) (v829 : IVec S16 32) : Prop :=
  (∀ a x, ((![v829, v447] : Fin 2 → IVec S16 32) a x).toNat < S64x200.size a)
theorem k0_idx121_inb : ∀ (v447 : IVec S16 32) (v829 : IVec S16 32) (k0_hw121 : k0_chk121 v447 v829), ∀ a x, ((![v829, v447] : Fin 2 → IVec S16 32) a x).toNat < S64x200.size a := fun v447 v829 k0_hw121 => k0_hw121

def k0_chk122 (v833 : IVec S16 32) : Prop :=
  (∀ a x, ((![v833] : Fin 1 → IVec S16 32) a x).toNat < S112.size a)
theorem k0_idx122_inb : ∀ (v833 : IVec S16 32) (k0_hw122 : k0_chk122 v833), ∀ a x, ((![v833] : Fin 1 → IVec S16 32) a x).toNat < S112.size a := fun v833 k0_hw122 => k0_hw122

def k0_chk123 (v447 : IVec S16 32) (v835 : IVec S16 32) : Prop :=
  (∀ a x, ((![v835, v447] : Fin 2 → IVec S16 32) a x).toNat < S64x200.size a)
theorem k0_idx123_inb : ∀ (v447 : IVec S16 32) (v835 : IVec S16 32) (k0_hw123 : k0_chk123 v447 v835), ∀ a x, ((![v835, v447] : Fin 2 → IVec S16 32) a x).toNat < S64x200.size a := fun v447 v835 k0_hw123 => k0_hw123

def k0_chk124 (v839 : IVec S16 32) : Prop :=
  (∀ a x, ((![v839] : Fin 1 → IVec S16 32) a x).toNat < S112.size a)
theorem k0_idx124_inb : ∀ (v839 : IVec S16 32) (k0_hw124 : k0_chk124 v839), ∀ a x, ((![v839] : Fin 1 → IVec S16 32) a x).toNat < S112.size a := fun v839 k0_hw124 => k0_hw124

def k0_chk125 (v447 : IVec S16 32) (v841 : IVec S16 32) : Prop :=
  (∀ a x, ((![v841, v447] : Fin 2 → IVec S16 32) a x).toNat < S64x200.size a)
theorem k0_idx125_inb : ∀ (v447 : IVec S16 32) (v841 : IVec S16 32) (k0_hw125 : k0_chk125 v447 v841), ∀ a x, ((![v841, v447] : Fin 2 → IVec S16 32) a x).toNat < S64x200.size a := fun v447 v841 k0_hw125 => k0_hw125

def k0_chk126 (v845 : IVec S16 32) : Prop :=
  (∀ a x, ((![v845] : Fin 1 → IVec S16 32) a x).toNat < S112.size a)
theorem k0_idx126_inb : ∀ (v845 : IVec S16 32) (k0_hw126 : k0_chk126 v845), ∀ a x, ((![v845] : Fin 1 → IVec S16 32) a x).toNat < S112.size a := fun v845 k0_hw126 => k0_hw126

def k0_chk127 (v447 : IVec S16 32) (v847 : IVec S16 32) : Prop :=
  (∀ a x, ((![v847, v447] : Fin 2 → IVec S16 32) a x).toNat < S64x200.size a)
theorem k0_idx127_inb : ∀ (v447 : IVec S16 32) (v847 : IVec S16 32) (k0_hw127 : k0_chk127 v447 v847), ∀ a x, ((![v847, v447] : Fin 2 → IVec S16 32) a x).toNat < S64x200.size a := fun v447 v847 k0_hw127 => k0_hw127
def k0_off63 (i : grid0.Coords) (c32_i32_104 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v453 : BitVec 32 := Scalar.addi v2 c32_i32_104
  let c0_i32_105 : BitVec 32 := 0#32
  ![v453.toNat, 0]
def k0_off64 (i : grid0.Coords) (c0_i32_107 : BitVec 32) (c0_i32_108 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v456 : BitVec 32 := Scalar.addi c0_i32_107 v2
  let v457 : BitVec 32 := Scalar.addi v456 c0_i32_108
  let c0_i32_111 : BitVec 32 := 0#32
  ![v457.toNat, 0]
@[reducible] def k0_t3_loop : Scf.Loop 32 :=
  let c0_i32_138 : BitVec 32 := 0#32
  let c16_i32_139 : BitVec 32 := 16#32
  let v482 : BitVec 32 := Scalar.addi c0_i32_138 c16_i32_139
  let c1_i32_140 : BitVec 32 := 1#32
  ⟨c0_i32_138, v482, c1_i32_140⟩
def k0_off65 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk128 (v825 : IVec S16 32) : Prop :=
  (∀ a x, ((![v825] : Fin 1 → IVec S16 32) a x).toNat < S112.size a)
theorem k0_idx128_inb : ∀ (v825 : IVec S16 32) (k0_hw128 : k0_chk128 v825), ∀ a x, ((![v825] : Fin 1 → IVec S16 32) a x).toNat < S112.size a := fun v825 k0_hw128 => k0_hw128
def k0_off66 (k0_t3 : Fin k0_t3_loop.trips) : Fin 2 → Nat :=
  let c0_i32_640 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk129 (v832 : IVec S16 32) : Prop :=
  (∀ a x, ((![v832] : Fin 1 → IVec S16 32) a x).toNat < S112.size a)
theorem k0_idx129_inb : ∀ (v832 : IVec S16 32) (k0_hw129 : k0_chk129 v832), ∀ a x, ((![v832] : Fin 1 → IVec S16 32) a x).toNat < S112.size a := fun v832 k0_hw129 => k0_hw129
def k0_off67 (k0_t3 : Fin k0_t3_loop.trips) : Fin 2 → Nat :=
  let c16_i32_643 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk130 (v839 : IVec S16 32) : Prop :=
  (∀ a x, ((![v839] : Fin 1 → IVec S16 32) a x).toNat < S112.size a)
theorem k0_idx130_inb : ∀ (v839 : IVec S16 32) (k0_hw130 : k0_chk130 v839), ∀ a x, ((![v839] : Fin 1 → IVec S16 32) a x).toNat < S112.size a := fun v839 k0_hw130 => k0_hw130
def k0_off68 (k0_t3 : Fin k0_t3_loop.trips) : Fin 2 → Nat :=
  let c32_i32_646 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk131 (v846 : IVec S16 32) : Prop :=
  (∀ a x, ((![v846] : Fin 1 → IVec S16 32) a x).toNat < S112.size a)
theorem k0_idx131_inb : ∀ (v846 : IVec S16 32) (k0_hw131 : k0_chk131 v846), ∀ a x, ((![v846] : Fin 1 → IVec S16 32) a x).toNat < S112.size a := fun v846 k0_hw131 => k0_hw131
def k0_off69 (k0_t3 : Fin k0_t3_loop.trips) : Fin 2 → Nat :=
  let c48_i32_648 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off70 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk132 (v855 : IVec S16 32) : Prop :=
  (∀ a x, ((![v855] : Fin 1 → IVec S16 32) a x).toNat < S112.size a)
theorem k0_idx132_inb : ∀ (v855 : IVec S16 32) (k0_hw132 : k0_chk132 v855), ∀ a x, ((![v855] : Fin 1 → IVec S16 32) a x).toNat < S112.size a := fun v855 k0_hw132 => k0_hw132
def k0_off71 (k0_t3 : Fin k0_t3_loop.trips) : Fin 2 → Nat :=
  let c0_i32_652 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk133 (v862 : IVec S16 32) : Prop :=
  (∀ a x, ((![v862] : Fin 1 → IVec S16 32) a x).toNat < S112.size a)
theorem k0_idx133_inb : ∀ (v862 : IVec S16 32) (k0_hw133 : k0_chk133 v862), ∀ a x, ((![v862] : Fin 1 → IVec S16 32) a x).toNat < S112.size a := fun v862 k0_hw133 => k0_hw133
def k0_off72 (k0_t3 : Fin k0_t3_loop.trips) : Fin 2 → Nat :=
  let c16_i32_655 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk134 (v869 : IVec S16 32) : Prop :=
  (∀ a x, ((![v869] : Fin 1 → IVec S16 32) a x).toNat < S112.size a)
theorem k0_idx134_inb : ∀ (v869 : IVec S16 32) (k0_hw134 : k0_chk134 v869), ∀ a x, ((![v869] : Fin 1 → IVec S16 32) a x).toNat < S112.size a := fun v869 k0_hw134 => k0_hw134
def k0_off73 (k0_t3 : Fin k0_t3_loop.trips) : Fin 2 → Nat :=
  let c32_i32_658 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk135 (v876 : IVec S16 32) : Prop :=
  (∀ a x, ((![v876] : Fin 1 → IVec S16 32) a x).toNat < S112.size a)
theorem k0_idx135_inb : ∀ (v876 : IVec S16 32) (k0_hw135 : k0_chk135 v876), ∀ a x, ((![v876] : Fin 1 → IVec S16 32) a x).toNat < S112.size a := fun v876 k0_hw135 => k0_hw135
def k0_off74 (k0_t3 : Fin k0_t3_loop.trips) : Fin 2 → Nat :=
  let c48_i32_661 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off75 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk136 (v885 : IVec S16 32) : Prop :=
  (∀ a x, ((![v885] : Fin 1 → IVec S16 32) a x).toNat < S112.size a)
theorem k0_idx136_inb : ∀ (v885 : IVec S16 32) (k0_hw136 : k0_chk136 v885), ∀ a x, ((![v885] : Fin 1 → IVec S16 32) a x).toNat < S112.size a := fun v885 k0_hw136 => k0_hw136
def k0_off76 (k0_t3 : Fin k0_t3_loop.trips) : Fin 2 → Nat :=
  let c0_i32_665 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk137 (v892 : IVec S16 32) : Prop :=
  (∀ a x, ((![v892] : Fin 1 → IVec S16 32) a x).toNat < S112.size a)
theorem k0_idx137_inb : ∀ (v892 : IVec S16 32) (k0_hw137 : k0_chk137 v892), ∀ a x, ((![v892] : Fin 1 → IVec S16 32) a x).toNat < S112.size a := fun v892 k0_hw137 => k0_hw137
def k0_off77 (k0_t3 : Fin k0_t3_loop.trips) : Fin 2 → Nat :=
  let c16_i32_668 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk138 (v899 : IVec S16 32) : Prop :=
  (∀ a x, ((![v899] : Fin 1 → IVec S16 32) a x).toNat < S112.size a)
theorem k0_idx138_inb : ∀ (v899 : IVec S16 32) (k0_hw138 : k0_chk138 v899), ∀ a x, ((![v899] : Fin 1 → IVec S16 32) a x).toNat < S112.size a := fun v899 k0_hw138 => k0_hw138
def k0_off78 (k0_t3 : Fin k0_t3_loop.trips) : Fin 2 → Nat :=
  let c32_i32_671 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk139 (v906 : IVec S16 32) : Prop :=
  (∀ a x, ((![v906] : Fin 1 → IVec S16 32) a x).toNat < S112.size a)
theorem k0_idx139_inb : ∀ (v906 : IVec S16 32) (k0_hw139 : k0_chk139 v906), ∀ a x, ((![v906] : Fin 1 → IVec S16 32) a x).toNat < S112.size a := fun v906 k0_hw139 => k0_hw139
def k0_off79 (k0_t3 : Fin k0_t3_loop.trips) : Fin 2 → Nat :=
  let c48_i32_674 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off80 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk140 (v915 : IVec S16 32) : Prop :=
  (∀ a x, ((![v915] : Fin 1 → IVec S16 32) a x).toNat < S112.size a)
theorem k0_idx140_inb : ∀ (v915 : IVec S16 32) (k0_hw140 : k0_chk140 v915), ∀ a x, ((![v915] : Fin 1 → IVec S16 32) a x).toNat < S112.size a := fun v915 k0_hw140 => k0_hw140
def k0_off81 (k0_t3 : Fin k0_t3_loop.trips) : Fin 2 → Nat :=
  let c0_i32_678 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk141 (v922 : IVec S16 32) : Prop :=
  (∀ a x, ((![v922] : Fin 1 → IVec S16 32) a x).toNat < S112.size a)
theorem k0_idx141_inb : ∀ (v922 : IVec S16 32) (k0_hw141 : k0_chk141 v922), ∀ a x, ((![v922] : Fin 1 → IVec S16 32) a x).toNat < S112.size a := fun v922 k0_hw141 => k0_hw141
def k0_off82 (k0_t3 : Fin k0_t3_loop.trips) : Fin 2 → Nat :=
  let c16_i32_681 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk142 (v929 : IVec S16 32) : Prop :=
  (∀ a x, ((![v929] : Fin 1 → IVec S16 32) a x).toNat < S112.size a)
theorem k0_idx142_inb : ∀ (v929 : IVec S16 32) (k0_hw142 : k0_chk142 v929), ∀ a x, ((![v929] : Fin 1 → IVec S16 32) a x).toNat < S112.size a := fun v929 k0_hw142 => k0_hw142
def k0_off83 (k0_t3 : Fin k0_t3_loop.trips) : Fin 2 → Nat :=
  let c32_i32_684 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk143 (v936 : IVec S16 32) : Prop :=
  (∀ a x, ((![v936] : Fin 1 → IVec S16 32) a x).toNat < S112.size a)
theorem k0_idx143_inb : ∀ (v936 : IVec S16 32) (k0_hw143 : k0_chk143 v936), ∀ a x, ((![v936] : Fin 1 → IVec S16 32) a x).toNat < S112.size a := fun v936 k0_hw143 => k0_hw143
def k0_off84 (k0_t3 : Fin k0_t3_loop.trips) : Fin 2 → Nat :=
  let c48_i32_687 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off85 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk144 (v945 : IVec S16 32) : Prop :=
  (∀ a x, ((![v945] : Fin 1 → IVec S16 32) a x).toNat < S112.size a)
theorem k0_idx144_inb : ∀ (v945 : IVec S16 32) (k0_hw144 : k0_chk144 v945), ∀ a x, ((![v945] : Fin 1 → IVec S16 32) a x).toNat < S112.size a := fun v945 k0_hw144 => k0_hw144
def k0_off86 (k0_t3 : Fin k0_t3_loop.trips) : Fin 2 → Nat :=
  let c0_i32_691 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk145 (v952 : IVec S16 32) : Prop :=
  (∀ a x, ((![v952] : Fin 1 → IVec S16 32) a x).toNat < S112.size a)
theorem k0_idx145_inb : ∀ (v952 : IVec S16 32) (k0_hw145 : k0_chk145 v952), ∀ a x, ((![v952] : Fin 1 → IVec S16 32) a x).toNat < S112.size a := fun v952 k0_hw145 => k0_hw145
def k0_off87 (k0_t3 : Fin k0_t3_loop.trips) : Fin 2 → Nat :=
  let c16_i32_694 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk146 (v959 : IVec S16 32) : Prop :=
  (∀ a x, ((![v959] : Fin 1 → IVec S16 32) a x).toNat < S112.size a)
theorem k0_idx146_inb : ∀ (v959 : IVec S16 32) (k0_hw146 : k0_chk146 v959), ∀ a x, ((![v959] : Fin 1 → IVec S16 32) a x).toNat < S112.size a := fun v959 k0_hw146 => k0_hw146
def k0_off88 (k0_t3 : Fin k0_t3_loop.trips) : Fin 2 → Nat :=
  let c32_i32_697 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk147 (v966 : IVec S16 32) : Prop :=
  (∀ a x, ((![v966] : Fin 1 → IVec S16 32) a x).toNat < S112.size a)
theorem k0_idx147_inb : ∀ (v966 : IVec S16 32) (k0_hw147 : k0_chk147 v966), ∀ a x, ((![v966] : Fin 1 → IVec S16 32) a x).toNat < S112.size a := fun v966 k0_hw147 => k0_hw147
def k0_off89 (k0_t3 : Fin k0_t3_loop.trips) : Fin 2 → Nat :=
  let c48_i32_700 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off90 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk148 (v975 : IVec S16 32) : Prop :=
  (∀ a x, ((![v975] : Fin 1 → IVec S16 32) a x).toNat < S112.size a)
theorem k0_idx148_inb : ∀ (v975 : IVec S16 32) (k0_hw148 : k0_chk148 v975), ∀ a x, ((![v975] : Fin 1 → IVec S16 32) a x).toNat < S112.size a := fun v975 k0_hw148 => k0_hw148
def k0_off91 (k0_t3 : Fin k0_t3_loop.trips) : Fin 2 → Nat :=
  let c0_i32_704 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk149 (v982 : IVec S16 32) : Prop :=
  (∀ a x, ((![v982] : Fin 1 → IVec S16 32) a x).toNat < S112.size a)
theorem k0_idx149_inb : ∀ (v982 : IVec S16 32) (k0_hw149 : k0_chk149 v982), ∀ a x, ((![v982] : Fin 1 → IVec S16 32) a x).toNat < S112.size a := fun v982 k0_hw149 => k0_hw149
def k0_off92 (k0_t3 : Fin k0_t3_loop.trips) : Fin 2 → Nat :=
  let c16_i32_707 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk150 (v989 : IVec S16 32) : Prop :=
  (∀ a x, ((![v989] : Fin 1 → IVec S16 32) a x).toNat < S112.size a)
theorem k0_idx150_inb : ∀ (v989 : IVec S16 32) (k0_hw150 : k0_chk150 v989), ∀ a x, ((![v989] : Fin 1 → IVec S16 32) a x).toNat < S112.size a := fun v989 k0_hw150 => k0_hw150
def k0_off93 (k0_t3 : Fin k0_t3_loop.trips) : Fin 2 → Nat :=
  let c32_i32_710 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk151 (v996 : IVec S16 32) : Prop :=
  (∀ a x, ((![v996] : Fin 1 → IVec S16 32) a x).toNat < S112.size a)
theorem k0_idx151_inb : ∀ (v996 : IVec S16 32) (k0_hw151 : k0_chk151 v996), ∀ a x, ((![v996] : Fin 1 → IVec S16 32) a x).toNat < S112.size a := fun v996 k0_hw151 => k0_hw151
def k0_off94 (k0_t3 : Fin k0_t3_loop.trips) : Fin 2 → Nat :=
  let c48_i32_713 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off95 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk152 (v1005 : IVec S16 32) : Prop :=
  (∀ a x, ((![v1005] : Fin 1 → IVec S16 32) a x).toNat < S112.size a)
theorem k0_idx152_inb : ∀ (v1005 : IVec S16 32) (k0_hw152 : k0_chk152 v1005), ∀ a x, ((![v1005] : Fin 1 → IVec S16 32) a x).toNat < S112.size a := fun v1005 k0_hw152 => k0_hw152
def k0_off96 (k0_t3 : Fin k0_t3_loop.trips) : Fin 2 → Nat :=
  let c0_i32_717 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk153 (v1012 : IVec S16 32) : Prop :=
  (∀ a x, ((![v1012] : Fin 1 → IVec S16 32) a x).toNat < S112.size a)
theorem k0_idx153_inb : ∀ (v1012 : IVec S16 32) (k0_hw153 : k0_chk153 v1012), ∀ a x, ((![v1012] : Fin 1 → IVec S16 32) a x).toNat < S112.size a := fun v1012 k0_hw153 => k0_hw153
def k0_off97 (k0_t3 : Fin k0_t3_loop.trips) : Fin 2 → Nat :=
  let c16_i32_720 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk154 (v1019 : IVec S16 32) : Prop :=
  (∀ a x, ((![v1019] : Fin 1 → IVec S16 32) a x).toNat < S112.size a)
theorem k0_idx154_inb : ∀ (v1019 : IVec S16 32) (k0_hw154 : k0_chk154 v1019), ∀ a x, ((![v1019] : Fin 1 → IVec S16 32) a x).toNat < S112.size a := fun v1019 k0_hw154 => k0_hw154
def k0_off98 (k0_t3 : Fin k0_t3_loop.trips) : Fin 2 → Nat :=
  let c32_i32_723 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk155 (v1026 : IVec S16 32) : Prop :=
  (∀ a x, ((![v1026] : Fin 1 → IVec S16 32) a x).toNat < S112.size a)
theorem k0_idx155_inb : ∀ (v1026 : IVec S16 32) (k0_hw155 : k0_chk155 v1026), ∀ a x, ((![v1026] : Fin 1 → IVec S16 32) a x).toNat < S112.size a := fun v1026 k0_hw155 => k0_hw155
def k0_off99 (k0_t3 : Fin k0_t3_loop.trips) : Fin 2 → Nat :=
  let c48_i32_726 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off100 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk156 (v1035 : IVec S16 32) : Prop :=
  (∀ a x, ((![v1035] : Fin 1 → IVec S16 32) a x).toNat < S112.size a)
theorem k0_idx156_inb : ∀ (v1035 : IVec S16 32) (k0_hw156 : k0_chk156 v1035), ∀ a x, ((![v1035] : Fin 1 → IVec S16 32) a x).toNat < S112.size a := fun v1035 k0_hw156 => k0_hw156
def k0_off101 (k0_t3 : Fin k0_t3_loop.trips) : Fin 2 → Nat :=
  let c0_i32_730 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk157 (v1042 : IVec S16 32) : Prop :=
  (∀ a x, ((![v1042] : Fin 1 → IVec S16 32) a x).toNat < S112.size a)
theorem k0_idx157_inb : ∀ (v1042 : IVec S16 32) (k0_hw157 : k0_chk157 v1042), ∀ a x, ((![v1042] : Fin 1 → IVec S16 32) a x).toNat < S112.size a := fun v1042 k0_hw157 => k0_hw157
def k0_off102 (k0_t3 : Fin k0_t3_loop.trips) : Fin 2 → Nat :=
  let c16_i32_733 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk158 (v1049 : IVec S16 32) : Prop :=
  (∀ a x, ((![v1049] : Fin 1 → IVec S16 32) a x).toNat < S112.size a)
theorem k0_idx158_inb : ∀ (v1049 : IVec S16 32) (k0_hw158 : k0_chk158 v1049), ∀ a x, ((![v1049] : Fin 1 → IVec S16 32) a x).toNat < S112.size a := fun v1049 k0_hw158 => k0_hw158
def k0_off103 (k0_t3 : Fin k0_t3_loop.trips) : Fin 2 → Nat :=
  let c32_i32_736 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk159 (v1056 : IVec S16 32) : Prop :=
  (∀ a x, ((![v1056] : Fin 1 → IVec S16 32) a x).toNat < S112.size a)
theorem k0_idx159_inb : ∀ (v1056 : IVec S16 32) (k0_hw159 : k0_chk159 v1056), ∀ a x, ((![v1056] : Fin 1 → IVec S16 32) a x).toNat < S112.size a := fun v1056 k0_hw159 => k0_hw159
def k0_off104 (k0_t3 : Fin k0_t3_loop.trips) : Fin 2 → Nat :=
  let c48_i32_739 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off105 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk160 (v1065 : IVec S16 32) : Prop :=
  (∀ a x, ((![v1065] : Fin 1 → IVec S16 32) a x).toNat < S112.size a)
theorem k0_idx160_inb : ∀ (v1065 : IVec S16 32) (k0_hw160 : k0_chk160 v1065), ∀ a x, ((![v1065] : Fin 1 → IVec S16 32) a x).toNat < S112.size a := fun v1065 k0_hw160 => k0_hw160
def k0_off106 (k0_t3 : Fin k0_t3_loop.trips) : Fin 2 → Nat :=
  let c0_i32_743 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk161 (v1072 : IVec S16 32) : Prop :=
  (∀ a x, ((![v1072] : Fin 1 → IVec S16 32) a x).toNat < S112.size a)
theorem k0_idx161_inb : ∀ (v1072 : IVec S16 32) (k0_hw161 : k0_chk161 v1072), ∀ a x, ((![v1072] : Fin 1 → IVec S16 32) a x).toNat < S112.size a := fun v1072 k0_hw161 => k0_hw161
def k0_off107 (k0_t3 : Fin k0_t3_loop.trips) : Fin 2 → Nat :=
  let c16_i32_746 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk162 (v1079 : IVec S16 32) : Prop :=
  (∀ a x, ((![v1079] : Fin 1 → IVec S16 32) a x).toNat < S112.size a)
theorem k0_idx162_inb : ∀ (v1079 : IVec S16 32) (k0_hw162 : k0_chk162 v1079), ∀ a x, ((![v1079] : Fin 1 → IVec S16 32) a x).toNat < S112.size a := fun v1079 k0_hw162 => k0_hw162
def k0_off108 (k0_t3 : Fin k0_t3_loop.trips) : Fin 2 → Nat :=
  let c32_i32_749 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk163 (v1086 : IVec S16 32) : Prop :=
  (∀ a x, ((![v1086] : Fin 1 → IVec S16 32) a x).toNat < S112.size a)
theorem k0_idx163_inb : ∀ (v1086 : IVec S16 32) (k0_hw163 : k0_chk163 v1086), ∀ a x, ((![v1086] : Fin 1 → IVec S16 32) a x).toNat < S112.size a := fun v1086 k0_hw163 => k0_hw163
def k0_off109 (k0_t3 : Fin k0_t3_loop.trips) : Fin 2 → Nat :=
  let c48_i32_752 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off110 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk164 (v1095 : IVec S16 32) : Prop :=
  (∀ a x, ((![v1095] : Fin 1 → IVec S16 32) a x).toNat < S112.size a)
theorem k0_idx164_inb : ∀ (v1095 : IVec S16 32) (k0_hw164 : k0_chk164 v1095), ∀ a x, ((![v1095] : Fin 1 → IVec S16 32) a x).toNat < S112.size a := fun v1095 k0_hw164 => k0_hw164
def k0_off111 (k0_t3 : Fin k0_t3_loop.trips) : Fin 2 → Nat :=
  let c0_i32_756 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk165 (v1102 : IVec S16 32) : Prop :=
  (∀ a x, ((![v1102] : Fin 1 → IVec S16 32) a x).toNat < S112.size a)
theorem k0_idx165_inb : ∀ (v1102 : IVec S16 32) (k0_hw165 : k0_chk165 v1102), ∀ a x, ((![v1102] : Fin 1 → IVec S16 32) a x).toNat < S112.size a := fun v1102 k0_hw165 => k0_hw165
def k0_off112 (k0_t3 : Fin k0_t3_loop.trips) : Fin 2 → Nat :=
  let c16_i32_759 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk166 (v1109 : IVec S16 32) : Prop :=
  (∀ a x, ((![v1109] : Fin 1 → IVec S16 32) a x).toNat < S112.size a)
theorem k0_idx166_inb : ∀ (v1109 : IVec S16 32) (k0_hw166 : k0_chk166 v1109), ∀ a x, ((![v1109] : Fin 1 → IVec S16 32) a x).toNat < S112.size a := fun v1109 k0_hw166 => k0_hw166
def k0_off113 (k0_t3 : Fin k0_t3_loop.trips) : Fin 2 → Nat :=
  let c32_i32_762 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk167 (v1116 : IVec S16 32) : Prop :=
  (∀ a x, ((![v1116] : Fin 1 → IVec S16 32) a x).toNat < S112.size a)
theorem k0_idx167_inb : ∀ (v1116 : IVec S16 32) (k0_hw167 : k0_chk167 v1116), ∀ a x, ((![v1116] : Fin 1 → IVec S16 32) a x).toNat < S112.size a := fun v1116 k0_hw167 => k0_hw167
def k0_off114 (k0_t3 : Fin k0_t3_loop.trips) : Fin 2 → Nat :=
  let c48_i32_765 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off115 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk168 (v1125 : IVec S16 32) : Prop :=
  (∀ a x, ((![v1125] : Fin 1 → IVec S16 32) a x).toNat < S112.size a)
theorem k0_idx168_inb : ∀ (v1125 : IVec S16 32) (k0_hw168 : k0_chk168 v1125), ∀ a x, ((![v1125] : Fin 1 → IVec S16 32) a x).toNat < S112.size a := fun v1125 k0_hw168 => k0_hw168
def k0_off116 (k0_t3 : Fin k0_t3_loop.trips) : Fin 2 → Nat :=
  let c0_i32_769 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk169 (v1132 : IVec S16 32) : Prop :=
  (∀ a x, ((![v1132] : Fin 1 → IVec S16 32) a x).toNat < S112.size a)
theorem k0_idx169_inb : ∀ (v1132 : IVec S16 32) (k0_hw169 : k0_chk169 v1132), ∀ a x, ((![v1132] : Fin 1 → IVec S16 32) a x).toNat < S112.size a := fun v1132 k0_hw169 => k0_hw169
def k0_off117 (k0_t3 : Fin k0_t3_loop.trips) : Fin 2 → Nat :=
  let c16_i32_772 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk170 (v1139 : IVec S16 32) : Prop :=
  (∀ a x, ((![v1139] : Fin 1 → IVec S16 32) a x).toNat < S112.size a)
theorem k0_idx170_inb : ∀ (v1139 : IVec S16 32) (k0_hw170 : k0_chk170 v1139), ∀ a x, ((![v1139] : Fin 1 → IVec S16 32) a x).toNat < S112.size a := fun v1139 k0_hw170 => k0_hw170
def k0_off118 (k0_t3 : Fin k0_t3_loop.trips) : Fin 2 → Nat :=
  let c32_i32_775 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk171 (v1146 : IVec S16 32) : Prop :=
  (∀ a x, ((![v1146] : Fin 1 → IVec S16 32) a x).toNat < S112.size a)
theorem k0_idx171_inb : ∀ (v1146 : IVec S16 32) (k0_hw171 : k0_chk171 v1146), ∀ a x, ((![v1146] : Fin 1 → IVec S16 32) a x).toNat < S112.size a := fun v1146 k0_hw171 => k0_hw171
def k0_off119 (k0_t3 : Fin k0_t3_loop.trips) : Fin 2 → Nat :=
  let c48_i32_778 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off120 (k0_t3 : Fin k0_t3_loop.trips) : Fin 2 → Nat :=
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk172 (v1155 : IVec S16 32) : Prop :=
  (∀ a x, ((![v1155] : Fin 1 → IVec S16 32) a x).toNat < S112.size a)
theorem k0_idx172_inb : ∀ (v1155 : IVec S16 32) (k0_hw172 : k0_chk172 v1155), ∀ a x, ((![v1155] : Fin 1 → IVec S16 32) a x).toNat < S112.size a := fun v1155 k0_hw172 => k0_hw172
def k0_off121 (k0_t3 : Fin k0_t3_loop.trips) : Fin 2 → Nat :=
  let c0_i32_781 : BitVec 32 := 0#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk173 (v1162 : IVec S16 32) : Prop :=
  (∀ a x, ((![v1162] : Fin 1 → IVec S16 32) a x).toNat < S112.size a)
theorem k0_idx173_inb : ∀ (v1162 : IVec S16 32) (k0_hw173 : k0_chk173 v1162), ∀ a x, ((![v1162] : Fin 1 → IVec S16 32) a x).toNat < S112.size a := fun v1162 k0_hw173 => k0_hw173
def k0_off122 (k0_t3 : Fin k0_t3_loop.trips) : Fin 2 → Nat :=
  let c16_i32_784 : BitVec 32 := 16#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk174 (v1169 : IVec S16 32) : Prop :=
  (∀ a x, ((![v1169] : Fin 1 → IVec S16 32) a x).toNat < S112.size a)
theorem k0_idx174_inb : ∀ (v1169 : IVec S16 32) (k0_hw174 : k0_chk174 v1169), ∀ a x, ((![v1169] : Fin 1 → IVec S16 32) a x).toNat < S112.size a := fun v1169 k0_hw174 => k0_hw174
def k0_off123 (k0_t3 : Fin k0_t3_loop.trips) : Fin 2 → Nat :=
  let c32_i32_787 : BitVec 32 := 32#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk175 (v1176 : IVec S16 32) : Prop :=
  (∀ a x, ((![v1176] : Fin 1 → IVec S16 32) a x).toNat < S112.size a)
theorem k0_idx175_inb : ∀ (v1176 : IVec S16 32) (k0_hw175 : k0_chk175 v1176), ∀ a x, ((![v1176] : Fin 1 → IVec S16 32) a x).toNat < S112.size a := fun v1176 k0_hw175 => k0_hw175
def k0_off124 (k0_t3 : Fin k0_t3_loop.trips) : Fin 2 → Nat :=
  let c48_i32_790 : BitVec 32 := 48#32
  let c0_i32_637 : BitVec 32 := 0#32
  let c0_i32_138 : BitVec 32 := 0#32
  let c1_i32_140 : BitVec 32 := 1#32
  let arg17 : BitVec 32 := Scf.iv c0_i32_138 c1_i32_140 k0_t3
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t4_loop : Scf.Loop 32 :=
  let c0_i32_142 : BitVec 32 := 0#32
  let c8_i32_143 : BitVec 32 := 8#32
  let v483 : BitVec 32 := Scalar.addi c0_i32_142 c8_i32_143
  let c1_i32_144 : BitVec 32 := 1#32
  ⟨c0_i32_142, v483, c1_i32_144⟩

def k0_chk176 (v447 : IVec S16 32) (v823 : IVec S16 32) : Prop :=
  (∀ a x, ((![v823, v447] : Fin 2 → IVec S16 32) a x).toNat < S16x200.size a)
theorem k0_idx176_inb : ∀ (v447 : IVec S16 32) (v823 : IVec S16 32) (k0_hw176 : k0_chk176 v447 v823), ∀ a x, ((![v823, v447] : Fin 2 → IVec S16 32) a x).toNat < S16x200.size a := fun v447 v823 k0_hw176 => k0_hw176

def k0_chk177 (v827 : IVec S16 32) : Prop :=
  (∀ a x, ((![v827] : Fin 1 → IVec S16 32) a x).toNat < S112.size a)
theorem k0_idx177_inb : ∀ (v827 : IVec S16 32) (k0_hw177 : k0_chk177 v827), ∀ a x, ((![v827] : Fin 1 → IVec S16 32) a x).toNat < S112.size a := fun v827 k0_hw177 => k0_hw177

def k0_chk178 (v447 : IVec S16 32) (v829 : IVec S16 32) : Prop :=
  (∀ a x, ((![v829, v447] : Fin 2 → IVec S16 32) a x).toNat < S64x200.size a)
theorem k0_idx178_inb : ∀ (v447 : IVec S16 32) (v829 : IVec S16 32) (k0_hw178 : k0_chk178 v447 v829), ∀ a x, ((![v829, v447] : Fin 2 → IVec S16 32) a x).toNat < S64x200.size a := fun v447 v829 k0_hw178 => k0_hw178

def k0_chk179 (v833 : IVec S16 32) : Prop :=
  (∀ a x, ((![v833] : Fin 1 → IVec S16 32) a x).toNat < S112.size a)
theorem k0_idx179_inb : ∀ (v833 : IVec S16 32) (k0_hw179 : k0_chk179 v833), ∀ a x, ((![v833] : Fin 1 → IVec S16 32) a x).toNat < S112.size a := fun v833 k0_hw179 => k0_hw179

def k0_chk180 (v447 : IVec S16 32) (v835 : IVec S16 32) : Prop :=
  (∀ a x, ((![v835, v447] : Fin 2 → IVec S16 32) a x).toNat < S64x200.size a)
theorem k0_idx180_inb : ∀ (v447 : IVec S16 32) (v835 : IVec S16 32) (k0_hw180 : k0_chk180 v447 v835), ∀ a x, ((![v835, v447] : Fin 2 → IVec S16 32) a x).toNat < S64x200.size a := fun v447 v835 k0_hw180 => k0_hw180

def k0_chk181 (v839 : IVec S16 32) : Prop :=
  (∀ a x, ((![v839] : Fin 1 → IVec S16 32) a x).toNat < S112.size a)
theorem k0_idx181_inb : ∀ (v839 : IVec S16 32) (k0_hw181 : k0_chk181 v839), ∀ a x, ((![v839] : Fin 1 → IVec S16 32) a x).toNat < S112.size a := fun v839 k0_hw181 => k0_hw181

def k0_chk182 (v447 : IVec S16 32) (v841 : IVec S16 32) : Prop :=
  (∀ a x, ((![v841, v447] : Fin 2 → IVec S16 32) a x).toNat < S64x200.size a)
theorem k0_idx182_inb : ∀ (v447 : IVec S16 32) (v841 : IVec S16 32) (k0_hw182 : k0_chk182 v447 v841), ∀ a x, ((![v841, v447] : Fin 2 → IVec S16 32) a x).toNat < S64x200.size a := fun v447 v841 k0_hw182 => k0_hw182

def k0_chk183 (v845 : IVec S16 32) : Prop :=
  (∀ a x, ((![v845] : Fin 1 → IVec S16 32) a x).toNat < S112.size a)
theorem k0_idx183_inb : ∀ (v845 : IVec S16 32) (k0_hw183 : k0_chk183 v845), ∀ a x, ((![v845] : Fin 1 → IVec S16 32) a x).toNat < S112.size a := fun v845 k0_hw183 => k0_hw183

def k0_chk184 (v447 : IVec S16 32) (v847 : IVec S16 32) : Prop :=
  (∀ a x, ((![v847, v447] : Fin 2 → IVec S16 32) a x).toNat < S64x200.size a)
theorem k0_idx184_inb : ∀ (v447 : IVec S16 32) (v847 : IVec S16 32) (k0_hw184 : k0_chk184 v447 v847), ∀ a x, ((![v847, v447] : Fin 2 → IVec S16 32) a x).toNat < S64x200.size a := fun v447 v847 k0_hw184 => k0_hw184
@[reducible] def k0_t5_loop : Scf.Loop 32 :=
  let c0_i32_207 : BitVec 32 := 0#32
  let c16_i32_208 : BitVec 32 := 16#32
  let v529 : BitVec 32 := Scalar.addi c0_i32_207 c16_i32_208
  let c1_i32_209 : BitVec 32 := 1#32
  ⟨c0_i32_207, v529, c1_i32_209⟩
def k0_off125 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk185 (v825 : IVec S16 32) : Prop :=
  (∀ a x, ((![v825] : Fin 1 → IVec S16 32) a x).toNat < S112.size a)
theorem k0_idx185_inb : ∀ (v825 : IVec S16 32) (k0_hw185 : k0_chk185 v825), ∀ a x, ((![v825] : Fin 1 → IVec S16 32) a x).toNat < S112.size a := fun v825 k0_hw185 => k0_hw185
def k0_off126 (k0_t5 : Fin k0_t5_loop.trips) : Fin 2 → Nat :=
  let c0_i32_640 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk186 (v832 : IVec S16 32) : Prop :=
  (∀ a x, ((![v832] : Fin 1 → IVec S16 32) a x).toNat < S112.size a)
theorem k0_idx186_inb : ∀ (v832 : IVec S16 32) (k0_hw186 : k0_chk186 v832), ∀ a x, ((![v832] : Fin 1 → IVec S16 32) a x).toNat < S112.size a := fun v832 k0_hw186 => k0_hw186
def k0_off127 (k0_t5 : Fin k0_t5_loop.trips) : Fin 2 → Nat :=
  let c16_i32_643 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk187 (v839 : IVec S16 32) : Prop :=
  (∀ a x, ((![v839] : Fin 1 → IVec S16 32) a x).toNat < S112.size a)
theorem k0_idx187_inb : ∀ (v839 : IVec S16 32) (k0_hw187 : k0_chk187 v839), ∀ a x, ((![v839] : Fin 1 → IVec S16 32) a x).toNat < S112.size a := fun v839 k0_hw187 => k0_hw187
def k0_off128 (k0_t5 : Fin k0_t5_loop.trips) : Fin 2 → Nat :=
  let c32_i32_646 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk188 (v846 : IVec S16 32) : Prop :=
  (∀ a x, ((![v846] : Fin 1 → IVec S16 32) a x).toNat < S112.size a)
theorem k0_idx188_inb : ∀ (v846 : IVec S16 32) (k0_hw188 : k0_chk188 v846), ∀ a x, ((![v846] : Fin 1 → IVec S16 32) a x).toNat < S112.size a := fun v846 k0_hw188 => k0_hw188
def k0_off129 (k0_t5 : Fin k0_t5_loop.trips) : Fin 2 → Nat :=
  let c48_i32_648 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off130 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk189 (v855 : IVec S16 32) : Prop :=
  (∀ a x, ((![v855] : Fin 1 → IVec S16 32) a x).toNat < S112.size a)
theorem k0_idx189_inb : ∀ (v855 : IVec S16 32) (k0_hw189 : k0_chk189 v855), ∀ a x, ((![v855] : Fin 1 → IVec S16 32) a x).toNat < S112.size a := fun v855 k0_hw189 => k0_hw189
def k0_off131 (k0_t5 : Fin k0_t5_loop.trips) : Fin 2 → Nat :=
  let c0_i32_652 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk190 (v862 : IVec S16 32) : Prop :=
  (∀ a x, ((![v862] : Fin 1 → IVec S16 32) a x).toNat < S112.size a)
theorem k0_idx190_inb : ∀ (v862 : IVec S16 32) (k0_hw190 : k0_chk190 v862), ∀ a x, ((![v862] : Fin 1 → IVec S16 32) a x).toNat < S112.size a := fun v862 k0_hw190 => k0_hw190
def k0_off132 (k0_t5 : Fin k0_t5_loop.trips) : Fin 2 → Nat :=
  let c16_i32_655 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk191 (v869 : IVec S16 32) : Prop :=
  (∀ a x, ((![v869] : Fin 1 → IVec S16 32) a x).toNat < S112.size a)
theorem k0_idx191_inb : ∀ (v869 : IVec S16 32) (k0_hw191 : k0_chk191 v869), ∀ a x, ((![v869] : Fin 1 → IVec S16 32) a x).toNat < S112.size a := fun v869 k0_hw191 => k0_hw191
def k0_off133 (k0_t5 : Fin k0_t5_loop.trips) : Fin 2 → Nat :=
  let c32_i32_658 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk192 (v876 : IVec S16 32) : Prop :=
  (∀ a x, ((![v876] : Fin 1 → IVec S16 32) a x).toNat < S112.size a)
theorem k0_idx192_inb : ∀ (v876 : IVec S16 32) (k0_hw192 : k0_chk192 v876), ∀ a x, ((![v876] : Fin 1 → IVec S16 32) a x).toNat < S112.size a := fun v876 k0_hw192 => k0_hw192
def k0_off134 (k0_t5 : Fin k0_t5_loop.trips) : Fin 2 → Nat :=
  let c48_i32_661 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off135 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk193 (v885 : IVec S16 32) : Prop :=
  (∀ a x, ((![v885] : Fin 1 → IVec S16 32) a x).toNat < S112.size a)
theorem k0_idx193_inb : ∀ (v885 : IVec S16 32) (k0_hw193 : k0_chk193 v885), ∀ a x, ((![v885] : Fin 1 → IVec S16 32) a x).toNat < S112.size a := fun v885 k0_hw193 => k0_hw193
def k0_off136 (k0_t5 : Fin k0_t5_loop.trips) : Fin 2 → Nat :=
  let c0_i32_665 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk194 (v892 : IVec S16 32) : Prop :=
  (∀ a x, ((![v892] : Fin 1 → IVec S16 32) a x).toNat < S112.size a)
theorem k0_idx194_inb : ∀ (v892 : IVec S16 32) (k0_hw194 : k0_chk194 v892), ∀ a x, ((![v892] : Fin 1 → IVec S16 32) a x).toNat < S112.size a := fun v892 k0_hw194 => k0_hw194
def k0_off137 (k0_t5 : Fin k0_t5_loop.trips) : Fin 2 → Nat :=
  let c16_i32_668 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk195 (v899 : IVec S16 32) : Prop :=
  (∀ a x, ((![v899] : Fin 1 → IVec S16 32) a x).toNat < S112.size a)
theorem k0_idx195_inb : ∀ (v899 : IVec S16 32) (k0_hw195 : k0_chk195 v899), ∀ a x, ((![v899] : Fin 1 → IVec S16 32) a x).toNat < S112.size a := fun v899 k0_hw195 => k0_hw195
def k0_off138 (k0_t5 : Fin k0_t5_loop.trips) : Fin 2 → Nat :=
  let c32_i32_671 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk196 (v906 : IVec S16 32) : Prop :=
  (∀ a x, ((![v906] : Fin 1 → IVec S16 32) a x).toNat < S112.size a)
theorem k0_idx196_inb : ∀ (v906 : IVec S16 32) (k0_hw196 : k0_chk196 v906), ∀ a x, ((![v906] : Fin 1 → IVec S16 32) a x).toNat < S112.size a := fun v906 k0_hw196 => k0_hw196
def k0_off139 (k0_t5 : Fin k0_t5_loop.trips) : Fin 2 → Nat :=
  let c48_i32_674 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off140 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk197 (v915 : IVec S16 32) : Prop :=
  (∀ a x, ((![v915] : Fin 1 → IVec S16 32) a x).toNat < S112.size a)
theorem k0_idx197_inb : ∀ (v915 : IVec S16 32) (k0_hw197 : k0_chk197 v915), ∀ a x, ((![v915] : Fin 1 → IVec S16 32) a x).toNat < S112.size a := fun v915 k0_hw197 => k0_hw197
def k0_off141 (k0_t5 : Fin k0_t5_loop.trips) : Fin 2 → Nat :=
  let c0_i32_678 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk198 (v922 : IVec S16 32) : Prop :=
  (∀ a x, ((![v922] : Fin 1 → IVec S16 32) a x).toNat < S112.size a)
theorem k0_idx198_inb : ∀ (v922 : IVec S16 32) (k0_hw198 : k0_chk198 v922), ∀ a x, ((![v922] : Fin 1 → IVec S16 32) a x).toNat < S112.size a := fun v922 k0_hw198 => k0_hw198
def k0_off142 (k0_t5 : Fin k0_t5_loop.trips) : Fin 2 → Nat :=
  let c16_i32_681 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk199 (v929 : IVec S16 32) : Prop :=
  (∀ a x, ((![v929] : Fin 1 → IVec S16 32) a x).toNat < S112.size a)
theorem k0_idx199_inb : ∀ (v929 : IVec S16 32) (k0_hw199 : k0_chk199 v929), ∀ a x, ((![v929] : Fin 1 → IVec S16 32) a x).toNat < S112.size a := fun v929 k0_hw199 => k0_hw199
def k0_off143 (k0_t5 : Fin k0_t5_loop.trips) : Fin 2 → Nat :=
  let c32_i32_684 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk200 (v936 : IVec S16 32) : Prop :=
  (∀ a x, ((![v936] : Fin 1 → IVec S16 32) a x).toNat < S112.size a)
theorem k0_idx200_inb : ∀ (v936 : IVec S16 32) (k0_hw200 : k0_chk200 v936), ∀ a x, ((![v936] : Fin 1 → IVec S16 32) a x).toNat < S112.size a := fun v936 k0_hw200 => k0_hw200
def k0_off144 (k0_t5 : Fin k0_t5_loop.trips) : Fin 2 → Nat :=
  let c48_i32_687 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off145 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk201 (v945 : IVec S16 32) : Prop :=
  (∀ a x, ((![v945] : Fin 1 → IVec S16 32) a x).toNat < S112.size a)
theorem k0_idx201_inb : ∀ (v945 : IVec S16 32) (k0_hw201 : k0_chk201 v945), ∀ a x, ((![v945] : Fin 1 → IVec S16 32) a x).toNat < S112.size a := fun v945 k0_hw201 => k0_hw201
def k0_off146 (k0_t5 : Fin k0_t5_loop.trips) : Fin 2 → Nat :=
  let c0_i32_691 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk202 (v952 : IVec S16 32) : Prop :=
  (∀ a x, ((![v952] : Fin 1 → IVec S16 32) a x).toNat < S112.size a)
theorem k0_idx202_inb : ∀ (v952 : IVec S16 32) (k0_hw202 : k0_chk202 v952), ∀ a x, ((![v952] : Fin 1 → IVec S16 32) a x).toNat < S112.size a := fun v952 k0_hw202 => k0_hw202
def k0_off147 (k0_t5 : Fin k0_t5_loop.trips) : Fin 2 → Nat :=
  let c16_i32_694 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk203 (v959 : IVec S16 32) : Prop :=
  (∀ a x, ((![v959] : Fin 1 → IVec S16 32) a x).toNat < S112.size a)
theorem k0_idx203_inb : ∀ (v959 : IVec S16 32) (k0_hw203 : k0_chk203 v959), ∀ a x, ((![v959] : Fin 1 → IVec S16 32) a x).toNat < S112.size a := fun v959 k0_hw203 => k0_hw203
def k0_off148 (k0_t5 : Fin k0_t5_loop.trips) : Fin 2 → Nat :=
  let c32_i32_697 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk204 (v966 : IVec S16 32) : Prop :=
  (∀ a x, ((![v966] : Fin 1 → IVec S16 32) a x).toNat < S112.size a)
theorem k0_idx204_inb : ∀ (v966 : IVec S16 32) (k0_hw204 : k0_chk204 v966), ∀ a x, ((![v966] : Fin 1 → IVec S16 32) a x).toNat < S112.size a := fun v966 k0_hw204 => k0_hw204
def k0_off149 (k0_t5 : Fin k0_t5_loop.trips) : Fin 2 → Nat :=
  let c48_i32_700 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off150 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk205 (v975 : IVec S16 32) : Prop :=
  (∀ a x, ((![v975] : Fin 1 → IVec S16 32) a x).toNat < S112.size a)
theorem k0_idx205_inb : ∀ (v975 : IVec S16 32) (k0_hw205 : k0_chk205 v975), ∀ a x, ((![v975] : Fin 1 → IVec S16 32) a x).toNat < S112.size a := fun v975 k0_hw205 => k0_hw205
def k0_off151 (k0_t5 : Fin k0_t5_loop.trips) : Fin 2 → Nat :=
  let c0_i32_704 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk206 (v982 : IVec S16 32) : Prop :=
  (∀ a x, ((![v982] : Fin 1 → IVec S16 32) a x).toNat < S112.size a)
theorem k0_idx206_inb : ∀ (v982 : IVec S16 32) (k0_hw206 : k0_chk206 v982), ∀ a x, ((![v982] : Fin 1 → IVec S16 32) a x).toNat < S112.size a := fun v982 k0_hw206 => k0_hw206
def k0_off152 (k0_t5 : Fin k0_t5_loop.trips) : Fin 2 → Nat :=
  let c16_i32_707 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk207 (v989 : IVec S16 32) : Prop :=
  (∀ a x, ((![v989] : Fin 1 → IVec S16 32) a x).toNat < S112.size a)
theorem k0_idx207_inb : ∀ (v989 : IVec S16 32) (k0_hw207 : k0_chk207 v989), ∀ a x, ((![v989] : Fin 1 → IVec S16 32) a x).toNat < S112.size a := fun v989 k0_hw207 => k0_hw207
def k0_off153 (k0_t5 : Fin k0_t5_loop.trips) : Fin 2 → Nat :=
  let c32_i32_710 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk208 (v996 : IVec S16 32) : Prop :=
  (∀ a x, ((![v996] : Fin 1 → IVec S16 32) a x).toNat < S112.size a)
theorem k0_idx208_inb : ∀ (v996 : IVec S16 32) (k0_hw208 : k0_chk208 v996), ∀ a x, ((![v996] : Fin 1 → IVec S16 32) a x).toNat < S112.size a := fun v996 k0_hw208 => k0_hw208
def k0_off154 (k0_t5 : Fin k0_t5_loop.trips) : Fin 2 → Nat :=
  let c48_i32_713 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off155 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk209 (v1005 : IVec S16 32) : Prop :=
  (∀ a x, ((![v1005] : Fin 1 → IVec S16 32) a x).toNat < S112.size a)
theorem k0_idx209_inb : ∀ (v1005 : IVec S16 32) (k0_hw209 : k0_chk209 v1005), ∀ a x, ((![v1005] : Fin 1 → IVec S16 32) a x).toNat < S112.size a := fun v1005 k0_hw209 => k0_hw209
def k0_off156 (k0_t5 : Fin k0_t5_loop.trips) : Fin 2 → Nat :=
  let c0_i32_717 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk210 (v1012 : IVec S16 32) : Prop :=
  (∀ a x, ((![v1012] : Fin 1 → IVec S16 32) a x).toNat < S112.size a)
theorem k0_idx210_inb : ∀ (v1012 : IVec S16 32) (k0_hw210 : k0_chk210 v1012), ∀ a x, ((![v1012] : Fin 1 → IVec S16 32) a x).toNat < S112.size a := fun v1012 k0_hw210 => k0_hw210
def k0_off157 (k0_t5 : Fin k0_t5_loop.trips) : Fin 2 → Nat :=
  let c16_i32_720 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk211 (v1019 : IVec S16 32) : Prop :=
  (∀ a x, ((![v1019] : Fin 1 → IVec S16 32) a x).toNat < S112.size a)
theorem k0_idx211_inb : ∀ (v1019 : IVec S16 32) (k0_hw211 : k0_chk211 v1019), ∀ a x, ((![v1019] : Fin 1 → IVec S16 32) a x).toNat < S112.size a := fun v1019 k0_hw211 => k0_hw211
def k0_off158 (k0_t5 : Fin k0_t5_loop.trips) : Fin 2 → Nat :=
  let c32_i32_723 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk212 (v1026 : IVec S16 32) : Prop :=
  (∀ a x, ((![v1026] : Fin 1 → IVec S16 32) a x).toNat < S112.size a)
theorem k0_idx212_inb : ∀ (v1026 : IVec S16 32) (k0_hw212 : k0_chk212 v1026), ∀ a x, ((![v1026] : Fin 1 → IVec S16 32) a x).toNat < S112.size a := fun v1026 k0_hw212 => k0_hw212
def k0_off159 (k0_t5 : Fin k0_t5_loop.trips) : Fin 2 → Nat :=
  let c48_i32_726 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off160 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk213 (v1035 : IVec S16 32) : Prop :=
  (∀ a x, ((![v1035] : Fin 1 → IVec S16 32) a x).toNat < S112.size a)
theorem k0_idx213_inb : ∀ (v1035 : IVec S16 32) (k0_hw213 : k0_chk213 v1035), ∀ a x, ((![v1035] : Fin 1 → IVec S16 32) a x).toNat < S112.size a := fun v1035 k0_hw213 => k0_hw213
def k0_off161 (k0_t5 : Fin k0_t5_loop.trips) : Fin 2 → Nat :=
  let c0_i32_730 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk214 (v1042 : IVec S16 32) : Prop :=
  (∀ a x, ((![v1042] : Fin 1 → IVec S16 32) a x).toNat < S112.size a)
theorem k0_idx214_inb : ∀ (v1042 : IVec S16 32) (k0_hw214 : k0_chk214 v1042), ∀ a x, ((![v1042] : Fin 1 → IVec S16 32) a x).toNat < S112.size a := fun v1042 k0_hw214 => k0_hw214
def k0_off162 (k0_t5 : Fin k0_t5_loop.trips) : Fin 2 → Nat :=
  let c16_i32_733 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk215 (v1049 : IVec S16 32) : Prop :=
  (∀ a x, ((![v1049] : Fin 1 → IVec S16 32) a x).toNat < S112.size a)
theorem k0_idx215_inb : ∀ (v1049 : IVec S16 32) (k0_hw215 : k0_chk215 v1049), ∀ a x, ((![v1049] : Fin 1 → IVec S16 32) a x).toNat < S112.size a := fun v1049 k0_hw215 => k0_hw215
def k0_off163 (k0_t5 : Fin k0_t5_loop.trips) : Fin 2 → Nat :=
  let c32_i32_736 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk216 (v1056 : IVec S16 32) : Prop :=
  (∀ a x, ((![v1056] : Fin 1 → IVec S16 32) a x).toNat < S112.size a)
theorem k0_idx216_inb : ∀ (v1056 : IVec S16 32) (k0_hw216 : k0_chk216 v1056), ∀ a x, ((![v1056] : Fin 1 → IVec S16 32) a x).toNat < S112.size a := fun v1056 k0_hw216 => k0_hw216
def k0_off164 (k0_t5 : Fin k0_t5_loop.trips) : Fin 2 → Nat :=
  let c48_i32_739 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off165 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk217 (v1065 : IVec S16 32) : Prop :=
  (∀ a x, ((![v1065] : Fin 1 → IVec S16 32) a x).toNat < S112.size a)
theorem k0_idx217_inb : ∀ (v1065 : IVec S16 32) (k0_hw217 : k0_chk217 v1065), ∀ a x, ((![v1065] : Fin 1 → IVec S16 32) a x).toNat < S112.size a := fun v1065 k0_hw217 => k0_hw217
def k0_off166 (k0_t5 : Fin k0_t5_loop.trips) : Fin 2 → Nat :=
  let c0_i32_743 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk218 (v1072 : IVec S16 32) : Prop :=
  (∀ a x, ((![v1072] : Fin 1 → IVec S16 32) a x).toNat < S112.size a)
theorem k0_idx218_inb : ∀ (v1072 : IVec S16 32) (k0_hw218 : k0_chk218 v1072), ∀ a x, ((![v1072] : Fin 1 → IVec S16 32) a x).toNat < S112.size a := fun v1072 k0_hw218 => k0_hw218
def k0_off167 (k0_t5 : Fin k0_t5_loop.trips) : Fin 2 → Nat :=
  let c16_i32_746 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk219 (v1079 : IVec S16 32) : Prop :=
  (∀ a x, ((![v1079] : Fin 1 → IVec S16 32) a x).toNat < S112.size a)
theorem k0_idx219_inb : ∀ (v1079 : IVec S16 32) (k0_hw219 : k0_chk219 v1079), ∀ a x, ((![v1079] : Fin 1 → IVec S16 32) a x).toNat < S112.size a := fun v1079 k0_hw219 => k0_hw219
def k0_off168 (k0_t5 : Fin k0_t5_loop.trips) : Fin 2 → Nat :=
  let c32_i32_749 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk220 (v1086 : IVec S16 32) : Prop :=
  (∀ a x, ((![v1086] : Fin 1 → IVec S16 32) a x).toNat < S112.size a)
theorem k0_idx220_inb : ∀ (v1086 : IVec S16 32) (k0_hw220 : k0_chk220 v1086), ∀ a x, ((![v1086] : Fin 1 → IVec S16 32) a x).toNat < S112.size a := fun v1086 k0_hw220 => k0_hw220
def k0_off169 (k0_t5 : Fin k0_t5_loop.trips) : Fin 2 → Nat :=
  let c48_i32_752 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off170 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk221 (v1095 : IVec S16 32) : Prop :=
  (∀ a x, ((![v1095] : Fin 1 → IVec S16 32) a x).toNat < S112.size a)
theorem k0_idx221_inb : ∀ (v1095 : IVec S16 32) (k0_hw221 : k0_chk221 v1095), ∀ a x, ((![v1095] : Fin 1 → IVec S16 32) a x).toNat < S112.size a := fun v1095 k0_hw221 => k0_hw221
def k0_off171 (k0_t5 : Fin k0_t5_loop.trips) : Fin 2 → Nat :=
  let c0_i32_756 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk222 (v1102 : IVec S16 32) : Prop :=
  (∀ a x, ((![v1102] : Fin 1 → IVec S16 32) a x).toNat < S112.size a)
theorem k0_idx222_inb : ∀ (v1102 : IVec S16 32) (k0_hw222 : k0_chk222 v1102), ∀ a x, ((![v1102] : Fin 1 → IVec S16 32) a x).toNat < S112.size a := fun v1102 k0_hw222 => k0_hw222
def k0_off172 (k0_t5 : Fin k0_t5_loop.trips) : Fin 2 → Nat :=
  let c16_i32_759 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk223 (v1109 : IVec S16 32) : Prop :=
  (∀ a x, ((![v1109] : Fin 1 → IVec S16 32) a x).toNat < S112.size a)
theorem k0_idx223_inb : ∀ (v1109 : IVec S16 32) (k0_hw223 : k0_chk223 v1109), ∀ a x, ((![v1109] : Fin 1 → IVec S16 32) a x).toNat < S112.size a := fun v1109 k0_hw223 => k0_hw223
def k0_off173 (k0_t5 : Fin k0_t5_loop.trips) : Fin 2 → Nat :=
  let c32_i32_762 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk224 (v1116 : IVec S16 32) : Prop :=
  (∀ a x, ((![v1116] : Fin 1 → IVec S16 32) a x).toNat < S112.size a)
theorem k0_idx224_inb : ∀ (v1116 : IVec S16 32) (k0_hw224 : k0_chk224 v1116), ∀ a x, ((![v1116] : Fin 1 → IVec S16 32) a x).toNat < S112.size a := fun v1116 k0_hw224 => k0_hw224
def k0_off174 (k0_t5 : Fin k0_t5_loop.trips) : Fin 2 → Nat :=
  let c48_i32_765 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off175 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk225 (v1125 : IVec S16 32) : Prop :=
  (∀ a x, ((![v1125] : Fin 1 → IVec S16 32) a x).toNat < S112.size a)
theorem k0_idx225_inb : ∀ (v1125 : IVec S16 32) (k0_hw225 : k0_chk225 v1125), ∀ a x, ((![v1125] : Fin 1 → IVec S16 32) a x).toNat < S112.size a := fun v1125 k0_hw225 => k0_hw225
def k0_off176 (k0_t5 : Fin k0_t5_loop.trips) : Fin 2 → Nat :=
  let c0_i32_769 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk226 (v1132 : IVec S16 32) : Prop :=
  (∀ a x, ((![v1132] : Fin 1 → IVec S16 32) a x).toNat < S112.size a)
theorem k0_idx226_inb : ∀ (v1132 : IVec S16 32) (k0_hw226 : k0_chk226 v1132), ∀ a x, ((![v1132] : Fin 1 → IVec S16 32) a x).toNat < S112.size a := fun v1132 k0_hw226 => k0_hw226
def k0_off177 (k0_t5 : Fin k0_t5_loop.trips) : Fin 2 → Nat :=
  let c16_i32_772 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk227 (v1139 : IVec S16 32) : Prop :=
  (∀ a x, ((![v1139] : Fin 1 → IVec S16 32) a x).toNat < S112.size a)
theorem k0_idx227_inb : ∀ (v1139 : IVec S16 32) (k0_hw227 : k0_chk227 v1139), ∀ a x, ((![v1139] : Fin 1 → IVec S16 32) a x).toNat < S112.size a := fun v1139 k0_hw227 => k0_hw227
def k0_off178 (k0_t5 : Fin k0_t5_loop.trips) : Fin 2 → Nat :=
  let c32_i32_775 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk228 (v1146 : IVec S16 32) : Prop :=
  (∀ a x, ((![v1146] : Fin 1 → IVec S16 32) a x).toNat < S112.size a)
theorem k0_idx228_inb : ∀ (v1146 : IVec S16 32) (k0_hw228 : k0_chk228 v1146), ∀ a x, ((![v1146] : Fin 1 → IVec S16 32) a x).toNat < S112.size a := fun v1146 k0_hw228 => k0_hw228
def k0_off179 (k0_t5 : Fin k0_t5_loop.trips) : Fin 2 → Nat :=
  let c48_i32_778 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off180 (k0_t5 : Fin k0_t5_loop.trips) : Fin 2 → Nat :=
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk229 (v1155 : IVec S16 32) : Prop :=
  (∀ a x, ((![v1155] : Fin 1 → IVec S16 32) a x).toNat < S112.size a)
theorem k0_idx229_inb : ∀ (v1155 : IVec S16 32) (k0_hw229 : k0_chk229 v1155), ∀ a x, ((![v1155] : Fin 1 → IVec S16 32) a x).toNat < S112.size a := fun v1155 k0_hw229 => k0_hw229
def k0_off181 (k0_t5 : Fin k0_t5_loop.trips) : Fin 2 → Nat :=
  let c0_i32_781 : BitVec 32 := 0#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk230 (v1162 : IVec S16 32) : Prop :=
  (∀ a x, ((![v1162] : Fin 1 → IVec S16 32) a x).toNat < S112.size a)
theorem k0_idx230_inb : ∀ (v1162 : IVec S16 32) (k0_hw230 : k0_chk230 v1162), ∀ a x, ((![v1162] : Fin 1 → IVec S16 32) a x).toNat < S112.size a := fun v1162 k0_hw230 => k0_hw230
def k0_off182 (k0_t5 : Fin k0_t5_loop.trips) : Fin 2 → Nat :=
  let c16_i32_784 : BitVec 32 := 16#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk231 (v1169 : IVec S16 32) : Prop :=
  (∀ a x, ((![v1169] : Fin 1 → IVec S16 32) a x).toNat < S112.size a)
theorem k0_idx231_inb : ∀ (v1169 : IVec S16 32) (k0_hw231 : k0_chk231 v1169), ∀ a x, ((![v1169] : Fin 1 → IVec S16 32) a x).toNat < S112.size a := fun v1169 k0_hw231 => k0_hw231
def k0_off183 (k0_t5 : Fin k0_t5_loop.trips) : Fin 2 → Nat :=
  let c32_i32_787 : BitVec 32 := 32#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk232 (v1176 : IVec S16 32) : Prop :=
  (∀ a x, ((![v1176] : Fin 1 → IVec S16 32) a x).toNat < S112.size a)
theorem k0_idx232_inb : ∀ (v1176 : IVec S16 32) (k0_hw232 : k0_chk232 v1176), ∀ a x, ((![v1176] : Fin 1 → IVec S16 32) a x).toNat < S112.size a := fun v1176 k0_hw232 => k0_hw232
def k0_off184 (k0_t5 : Fin k0_t5_loop.trips) : Fin 2 → Nat :=
  let c48_i32_790 : BitVec 32 := 48#32
  let c0_i32_637 : BitVec 32 := 0#32
  let c0_i32_207 : BitVec 32 := 0#32
  let c1_i32_209 : BitVec 32 := 1#32
  let arg17 : BitVec 32 := Scf.iv c0_i32_207 c1_i32_209 k0_t5
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t6_loop : Scf.Loop 32 :=
  let c0_i32_211 : BitVec 32 := 0#32
  let c8_i32_212 : BitVec 32 := 8#32
  let v530 : BitVec 32 := Scalar.addi c0_i32_211 c8_i32_212
  let c1_i32_213 : BitVec 32 := 1#32
  ⟨c0_i32_211, v530, c1_i32_213⟩

def k0_chk233 (v447 : IVec S16 32) (v823 : IVec S16 32) : Prop :=
  (∀ a x, ((![v823, v447] : Fin 2 → IVec S16 32) a x).toNat < S16x200.size a)
theorem k0_idx233_inb : ∀ (v447 : IVec S16 32) (v823 : IVec S16 32) (k0_hw233 : k0_chk233 v447 v823), ∀ a x, ((![v823, v447] : Fin 2 → IVec S16 32) a x).toNat < S16x200.size a := fun v447 v823 k0_hw233 => k0_hw233

def k0_chk234 (v827 : IVec S16 32) : Prop :=
  (∀ a x, ((![v827] : Fin 1 → IVec S16 32) a x).toNat < S112.size a)
theorem k0_idx234_inb : ∀ (v827 : IVec S16 32) (k0_hw234 : k0_chk234 v827), ∀ a x, ((![v827] : Fin 1 → IVec S16 32) a x).toNat < S112.size a := fun v827 k0_hw234 => k0_hw234

def k0_chk235 (v447 : IVec S16 32) (v829 : IVec S16 32) : Prop :=
  (∀ a x, ((![v829, v447] : Fin 2 → IVec S16 32) a x).toNat < S64x200.size a)
theorem k0_idx235_inb : ∀ (v447 : IVec S16 32) (v829 : IVec S16 32) (k0_hw235 : k0_chk235 v447 v829), ∀ a x, ((![v829, v447] : Fin 2 → IVec S16 32) a x).toNat < S64x200.size a := fun v447 v829 k0_hw235 => k0_hw235

def k0_chk236 (v833 : IVec S16 32) : Prop :=
  (∀ a x, ((![v833] : Fin 1 → IVec S16 32) a x).toNat < S112.size a)
theorem k0_idx236_inb : ∀ (v833 : IVec S16 32) (k0_hw236 : k0_chk236 v833), ∀ a x, ((![v833] : Fin 1 → IVec S16 32) a x).toNat < S112.size a := fun v833 k0_hw236 => k0_hw236

def k0_chk237 (v447 : IVec S16 32) (v835 : IVec S16 32) : Prop :=
  (∀ a x, ((![v835, v447] : Fin 2 → IVec S16 32) a x).toNat < S64x200.size a)
theorem k0_idx237_inb : ∀ (v447 : IVec S16 32) (v835 : IVec S16 32) (k0_hw237 : k0_chk237 v447 v835), ∀ a x, ((![v835, v447] : Fin 2 → IVec S16 32) a x).toNat < S64x200.size a := fun v447 v835 k0_hw237 => k0_hw237

def k0_chk238 (v839 : IVec S16 32) : Prop :=
  (∀ a x, ((![v839] : Fin 1 → IVec S16 32) a x).toNat < S112.size a)
theorem k0_idx238_inb : ∀ (v839 : IVec S16 32) (k0_hw238 : k0_chk238 v839), ∀ a x, ((![v839] : Fin 1 → IVec S16 32) a x).toNat < S112.size a := fun v839 k0_hw238 => k0_hw238

def k0_chk239 (v447 : IVec S16 32) (v841 : IVec S16 32) : Prop :=
  (∀ a x, ((![v841, v447] : Fin 2 → IVec S16 32) a x).toNat < S64x200.size a)
theorem k0_idx239_inb : ∀ (v447 : IVec S16 32) (v841 : IVec S16 32) (k0_hw239 : k0_chk239 v447 v841), ∀ a x, ((![v841, v447] : Fin 2 → IVec S16 32) a x).toNat < S64x200.size a := fun v447 v841 k0_hw239 => k0_hw239

def k0_chk240 (v845 : IVec S16 32) : Prop :=
  (∀ a x, ((![v845] : Fin 1 → IVec S16 32) a x).toNat < S112.size a)
theorem k0_idx240_inb : ∀ (v845 : IVec S16 32) (k0_hw240 : k0_chk240 v845), ∀ a x, ((![v845] : Fin 1 → IVec S16 32) a x).toNat < S112.size a := fun v845 k0_hw240 => k0_hw240

def k0_chk241 (v447 : IVec S16 32) (v847 : IVec S16 32) : Prop :=
  (∀ a x, ((![v847, v447] : Fin 2 → IVec S16 32) a x).toNat < S64x200.size a)
theorem k0_idx241_inb : ∀ (v447 : IVec S16 32) (v847 : IVec S16 32) (k0_hw241 : k0_chk241 v447 v847), ∀ a x, ((![v847, v447] : Fin 2 → IVec S16 32) a x).toNat < S64x200.size a := fun v447 v847 k0_hw241 => k0_hw241
@[reducible] def k0_t7_loop : Scf.Loop 32 :=
  let c0_i32_276 : BitVec 32 := 0#32
  let c16_i32_277 : BitVec 32 := 16#32
  let v576 : BitVec 32 := Scalar.addi c0_i32_276 c16_i32_277
  let c1_i32_278 : BitVec 32 := 1#32
  ⟨c0_i32_276, v576, c1_i32_278⟩
def k0_off185 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk242 (v825 : IVec S16 32) : Prop :=
  (∀ a x, ((![v825] : Fin 1 → IVec S16 32) a x).toNat < S112.size a)
theorem k0_idx242_inb : ∀ (v825 : IVec S16 32) (k0_hw242 : k0_chk242 v825), ∀ a x, ((![v825] : Fin 1 → IVec S16 32) a x).toNat < S112.size a := fun v825 k0_hw242 => k0_hw242
def k0_off186 (k0_t7 : Fin k0_t7_loop.trips) : Fin 2 → Nat :=
  let c0_i32_640 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk243 (v832 : IVec S16 32) : Prop :=
  (∀ a x, ((![v832] : Fin 1 → IVec S16 32) a x).toNat < S112.size a)
theorem k0_idx243_inb : ∀ (v832 : IVec S16 32) (k0_hw243 : k0_chk243 v832), ∀ a x, ((![v832] : Fin 1 → IVec S16 32) a x).toNat < S112.size a := fun v832 k0_hw243 => k0_hw243
def k0_off187 (k0_t7 : Fin k0_t7_loop.trips) : Fin 2 → Nat :=
  let c16_i32_643 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk244 (v839 : IVec S16 32) : Prop :=
  (∀ a x, ((![v839] : Fin 1 → IVec S16 32) a x).toNat < S112.size a)
theorem k0_idx244_inb : ∀ (v839 : IVec S16 32) (k0_hw244 : k0_chk244 v839), ∀ a x, ((![v839] : Fin 1 → IVec S16 32) a x).toNat < S112.size a := fun v839 k0_hw244 => k0_hw244
def k0_off188 (k0_t7 : Fin k0_t7_loop.trips) : Fin 2 → Nat :=
  let c32_i32_646 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk245 (v846 : IVec S16 32) : Prop :=
  (∀ a x, ((![v846] : Fin 1 → IVec S16 32) a x).toNat < S112.size a)
theorem k0_idx245_inb : ∀ (v846 : IVec S16 32) (k0_hw245 : k0_chk245 v846), ∀ a x, ((![v846] : Fin 1 → IVec S16 32) a x).toNat < S112.size a := fun v846 k0_hw245 => k0_hw245
def k0_off189 (k0_t7 : Fin k0_t7_loop.trips) : Fin 2 → Nat :=
  let c48_i32_648 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off190 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk246 (v855 : IVec S16 32) : Prop :=
  (∀ a x, ((![v855] : Fin 1 → IVec S16 32) a x).toNat < S112.size a)
theorem k0_idx246_inb : ∀ (v855 : IVec S16 32) (k0_hw246 : k0_chk246 v855), ∀ a x, ((![v855] : Fin 1 → IVec S16 32) a x).toNat < S112.size a := fun v855 k0_hw246 => k0_hw246
def k0_off191 (k0_t7 : Fin k0_t7_loop.trips) : Fin 2 → Nat :=
  let c0_i32_652 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk247 (v862 : IVec S16 32) : Prop :=
  (∀ a x, ((![v862] : Fin 1 → IVec S16 32) a x).toNat < S112.size a)
theorem k0_idx247_inb : ∀ (v862 : IVec S16 32) (k0_hw247 : k0_chk247 v862), ∀ a x, ((![v862] : Fin 1 → IVec S16 32) a x).toNat < S112.size a := fun v862 k0_hw247 => k0_hw247
def k0_off192 (k0_t7 : Fin k0_t7_loop.trips) : Fin 2 → Nat :=
  let c16_i32_655 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk248 (v869 : IVec S16 32) : Prop :=
  (∀ a x, ((![v869] : Fin 1 → IVec S16 32) a x).toNat < S112.size a)
theorem k0_idx248_inb : ∀ (v869 : IVec S16 32) (k0_hw248 : k0_chk248 v869), ∀ a x, ((![v869] : Fin 1 → IVec S16 32) a x).toNat < S112.size a := fun v869 k0_hw248 => k0_hw248
def k0_off193 (k0_t7 : Fin k0_t7_loop.trips) : Fin 2 → Nat :=
  let c32_i32_658 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk249 (v876 : IVec S16 32) : Prop :=
  (∀ a x, ((![v876] : Fin 1 → IVec S16 32) a x).toNat < S112.size a)
theorem k0_idx249_inb : ∀ (v876 : IVec S16 32) (k0_hw249 : k0_chk249 v876), ∀ a x, ((![v876] : Fin 1 → IVec S16 32) a x).toNat < S112.size a := fun v876 k0_hw249 => k0_hw249
def k0_off194 (k0_t7 : Fin k0_t7_loop.trips) : Fin 2 → Nat :=
  let c48_i32_661 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off195 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk250 (v885 : IVec S16 32) : Prop :=
  (∀ a x, ((![v885] : Fin 1 → IVec S16 32) a x).toNat < S112.size a)
theorem k0_idx250_inb : ∀ (v885 : IVec S16 32) (k0_hw250 : k0_chk250 v885), ∀ a x, ((![v885] : Fin 1 → IVec S16 32) a x).toNat < S112.size a := fun v885 k0_hw250 => k0_hw250
def k0_off196 (k0_t7 : Fin k0_t7_loop.trips) : Fin 2 → Nat :=
  let c0_i32_665 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk251 (v892 : IVec S16 32) : Prop :=
  (∀ a x, ((![v892] : Fin 1 → IVec S16 32) a x).toNat < S112.size a)
theorem k0_idx251_inb : ∀ (v892 : IVec S16 32) (k0_hw251 : k0_chk251 v892), ∀ a x, ((![v892] : Fin 1 → IVec S16 32) a x).toNat < S112.size a := fun v892 k0_hw251 => k0_hw251
def k0_off197 (k0_t7 : Fin k0_t7_loop.trips) : Fin 2 → Nat :=
  let c16_i32_668 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk252 (v899 : IVec S16 32) : Prop :=
  (∀ a x, ((![v899] : Fin 1 → IVec S16 32) a x).toNat < S112.size a)
theorem k0_idx252_inb : ∀ (v899 : IVec S16 32) (k0_hw252 : k0_chk252 v899), ∀ a x, ((![v899] : Fin 1 → IVec S16 32) a x).toNat < S112.size a := fun v899 k0_hw252 => k0_hw252
def k0_off198 (k0_t7 : Fin k0_t7_loop.trips) : Fin 2 → Nat :=
  let c32_i32_671 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk253 (v906 : IVec S16 32) : Prop :=
  (∀ a x, ((![v906] : Fin 1 → IVec S16 32) a x).toNat < S112.size a)
theorem k0_idx253_inb : ∀ (v906 : IVec S16 32) (k0_hw253 : k0_chk253 v906), ∀ a x, ((![v906] : Fin 1 → IVec S16 32) a x).toNat < S112.size a := fun v906 k0_hw253 => k0_hw253
def k0_off199 (k0_t7 : Fin k0_t7_loop.trips) : Fin 2 → Nat :=
  let c48_i32_674 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off200 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk254 (v915 : IVec S16 32) : Prop :=
  (∀ a x, ((![v915] : Fin 1 → IVec S16 32) a x).toNat < S112.size a)
theorem k0_idx254_inb : ∀ (v915 : IVec S16 32) (k0_hw254 : k0_chk254 v915), ∀ a x, ((![v915] : Fin 1 → IVec S16 32) a x).toNat < S112.size a := fun v915 k0_hw254 => k0_hw254
def k0_off201 (k0_t7 : Fin k0_t7_loop.trips) : Fin 2 → Nat :=
  let c0_i32_678 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk255 (v922 : IVec S16 32) : Prop :=
  (∀ a x, ((![v922] : Fin 1 → IVec S16 32) a x).toNat < S112.size a)
theorem k0_idx255_inb : ∀ (v922 : IVec S16 32) (k0_hw255 : k0_chk255 v922), ∀ a x, ((![v922] : Fin 1 → IVec S16 32) a x).toNat < S112.size a := fun v922 k0_hw255 => k0_hw255
def k0_off202 (k0_t7 : Fin k0_t7_loop.trips) : Fin 2 → Nat :=
  let c16_i32_681 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk256 (v929 : IVec S16 32) : Prop :=
  (∀ a x, ((![v929] : Fin 1 → IVec S16 32) a x).toNat < S112.size a)
theorem k0_idx256_inb : ∀ (v929 : IVec S16 32) (k0_hw256 : k0_chk256 v929), ∀ a x, ((![v929] : Fin 1 → IVec S16 32) a x).toNat < S112.size a := fun v929 k0_hw256 => k0_hw256
def k0_off203 (k0_t7 : Fin k0_t7_loop.trips) : Fin 2 → Nat :=
  let c32_i32_684 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk257 (v936 : IVec S16 32) : Prop :=
  (∀ a x, ((![v936] : Fin 1 → IVec S16 32) a x).toNat < S112.size a)
theorem k0_idx257_inb : ∀ (v936 : IVec S16 32) (k0_hw257 : k0_chk257 v936), ∀ a x, ((![v936] : Fin 1 → IVec S16 32) a x).toNat < S112.size a := fun v936 k0_hw257 => k0_hw257
def k0_off204 (k0_t7 : Fin k0_t7_loop.trips) : Fin 2 → Nat :=
  let c48_i32_687 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off205 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk258 (v945 : IVec S16 32) : Prop :=
  (∀ a x, ((![v945] : Fin 1 → IVec S16 32) a x).toNat < S112.size a)
theorem k0_idx258_inb : ∀ (v945 : IVec S16 32) (k0_hw258 : k0_chk258 v945), ∀ a x, ((![v945] : Fin 1 → IVec S16 32) a x).toNat < S112.size a := fun v945 k0_hw258 => k0_hw258
def k0_off206 (k0_t7 : Fin k0_t7_loop.trips) : Fin 2 → Nat :=
  let c0_i32_691 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk259 (v952 : IVec S16 32) : Prop :=
  (∀ a x, ((![v952] : Fin 1 → IVec S16 32) a x).toNat < S112.size a)
theorem k0_idx259_inb : ∀ (v952 : IVec S16 32) (k0_hw259 : k0_chk259 v952), ∀ a x, ((![v952] : Fin 1 → IVec S16 32) a x).toNat < S112.size a := fun v952 k0_hw259 => k0_hw259
def k0_off207 (k0_t7 : Fin k0_t7_loop.trips) : Fin 2 → Nat :=
  let c16_i32_694 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk260 (v959 : IVec S16 32) : Prop :=
  (∀ a x, ((![v959] : Fin 1 → IVec S16 32) a x).toNat < S112.size a)
theorem k0_idx260_inb : ∀ (v959 : IVec S16 32) (k0_hw260 : k0_chk260 v959), ∀ a x, ((![v959] : Fin 1 → IVec S16 32) a x).toNat < S112.size a := fun v959 k0_hw260 => k0_hw260
def k0_off208 (k0_t7 : Fin k0_t7_loop.trips) : Fin 2 → Nat :=
  let c32_i32_697 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk261 (v966 : IVec S16 32) : Prop :=
  (∀ a x, ((![v966] : Fin 1 → IVec S16 32) a x).toNat < S112.size a)
theorem k0_idx261_inb : ∀ (v966 : IVec S16 32) (k0_hw261 : k0_chk261 v966), ∀ a x, ((![v966] : Fin 1 → IVec S16 32) a x).toNat < S112.size a := fun v966 k0_hw261 => k0_hw261
def k0_off209 (k0_t7 : Fin k0_t7_loop.trips) : Fin 2 → Nat :=
  let c48_i32_700 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off210 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk262 (v975 : IVec S16 32) : Prop :=
  (∀ a x, ((![v975] : Fin 1 → IVec S16 32) a x).toNat < S112.size a)
theorem k0_idx262_inb : ∀ (v975 : IVec S16 32) (k0_hw262 : k0_chk262 v975), ∀ a x, ((![v975] : Fin 1 → IVec S16 32) a x).toNat < S112.size a := fun v975 k0_hw262 => k0_hw262
def k0_off211 (k0_t7 : Fin k0_t7_loop.trips) : Fin 2 → Nat :=
  let c0_i32_704 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk263 (v982 : IVec S16 32) : Prop :=
  (∀ a x, ((![v982] : Fin 1 → IVec S16 32) a x).toNat < S112.size a)
theorem k0_idx263_inb : ∀ (v982 : IVec S16 32) (k0_hw263 : k0_chk263 v982), ∀ a x, ((![v982] : Fin 1 → IVec S16 32) a x).toNat < S112.size a := fun v982 k0_hw263 => k0_hw263
def k0_off212 (k0_t7 : Fin k0_t7_loop.trips) : Fin 2 → Nat :=
  let c16_i32_707 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk264 (v989 : IVec S16 32) : Prop :=
  (∀ a x, ((![v989] : Fin 1 → IVec S16 32) a x).toNat < S112.size a)
theorem k0_idx264_inb : ∀ (v989 : IVec S16 32) (k0_hw264 : k0_chk264 v989), ∀ a x, ((![v989] : Fin 1 → IVec S16 32) a x).toNat < S112.size a := fun v989 k0_hw264 => k0_hw264
def k0_off213 (k0_t7 : Fin k0_t7_loop.trips) : Fin 2 → Nat :=
  let c32_i32_710 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk265 (v996 : IVec S16 32) : Prop :=
  (∀ a x, ((![v996] : Fin 1 → IVec S16 32) a x).toNat < S112.size a)
theorem k0_idx265_inb : ∀ (v996 : IVec S16 32) (k0_hw265 : k0_chk265 v996), ∀ a x, ((![v996] : Fin 1 → IVec S16 32) a x).toNat < S112.size a := fun v996 k0_hw265 => k0_hw265
def k0_off214 (k0_t7 : Fin k0_t7_loop.trips) : Fin 2 → Nat :=
  let c48_i32_713 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off215 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk266 (v1005 : IVec S16 32) : Prop :=
  (∀ a x, ((![v1005] : Fin 1 → IVec S16 32) a x).toNat < S112.size a)
theorem k0_idx266_inb : ∀ (v1005 : IVec S16 32) (k0_hw266 : k0_chk266 v1005), ∀ a x, ((![v1005] : Fin 1 → IVec S16 32) a x).toNat < S112.size a := fun v1005 k0_hw266 => k0_hw266
def k0_off216 (k0_t7 : Fin k0_t7_loop.trips) : Fin 2 → Nat :=
  let c0_i32_717 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk267 (v1012 : IVec S16 32) : Prop :=
  (∀ a x, ((![v1012] : Fin 1 → IVec S16 32) a x).toNat < S112.size a)
theorem k0_idx267_inb : ∀ (v1012 : IVec S16 32) (k0_hw267 : k0_chk267 v1012), ∀ a x, ((![v1012] : Fin 1 → IVec S16 32) a x).toNat < S112.size a := fun v1012 k0_hw267 => k0_hw267
def k0_off217 (k0_t7 : Fin k0_t7_loop.trips) : Fin 2 → Nat :=
  let c16_i32_720 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk268 (v1019 : IVec S16 32) : Prop :=
  (∀ a x, ((![v1019] : Fin 1 → IVec S16 32) a x).toNat < S112.size a)
theorem k0_idx268_inb : ∀ (v1019 : IVec S16 32) (k0_hw268 : k0_chk268 v1019), ∀ a x, ((![v1019] : Fin 1 → IVec S16 32) a x).toNat < S112.size a := fun v1019 k0_hw268 => k0_hw268
def k0_off218 (k0_t7 : Fin k0_t7_loop.trips) : Fin 2 → Nat :=
  let c32_i32_723 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk269 (v1026 : IVec S16 32) : Prop :=
  (∀ a x, ((![v1026] : Fin 1 → IVec S16 32) a x).toNat < S112.size a)
theorem k0_idx269_inb : ∀ (v1026 : IVec S16 32) (k0_hw269 : k0_chk269 v1026), ∀ a x, ((![v1026] : Fin 1 → IVec S16 32) a x).toNat < S112.size a := fun v1026 k0_hw269 => k0_hw269
def k0_off219 (k0_t7 : Fin k0_t7_loop.trips) : Fin 2 → Nat :=
  let c48_i32_726 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off220 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk270 (v1035 : IVec S16 32) : Prop :=
  (∀ a x, ((![v1035] : Fin 1 → IVec S16 32) a x).toNat < S112.size a)
theorem k0_idx270_inb : ∀ (v1035 : IVec S16 32) (k0_hw270 : k0_chk270 v1035), ∀ a x, ((![v1035] : Fin 1 → IVec S16 32) a x).toNat < S112.size a := fun v1035 k0_hw270 => k0_hw270
def k0_off221 (k0_t7 : Fin k0_t7_loop.trips) : Fin 2 → Nat :=
  let c0_i32_730 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk271 (v1042 : IVec S16 32) : Prop :=
  (∀ a x, ((![v1042] : Fin 1 → IVec S16 32) a x).toNat < S112.size a)
theorem k0_idx271_inb : ∀ (v1042 : IVec S16 32) (k0_hw271 : k0_chk271 v1042), ∀ a x, ((![v1042] : Fin 1 → IVec S16 32) a x).toNat < S112.size a := fun v1042 k0_hw271 => k0_hw271
def k0_off222 (k0_t7 : Fin k0_t7_loop.trips) : Fin 2 → Nat :=
  let c16_i32_733 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk272 (v1049 : IVec S16 32) : Prop :=
  (∀ a x, ((![v1049] : Fin 1 → IVec S16 32) a x).toNat < S112.size a)
theorem k0_idx272_inb : ∀ (v1049 : IVec S16 32) (k0_hw272 : k0_chk272 v1049), ∀ a x, ((![v1049] : Fin 1 → IVec S16 32) a x).toNat < S112.size a := fun v1049 k0_hw272 => k0_hw272
def k0_off223 (k0_t7 : Fin k0_t7_loop.trips) : Fin 2 → Nat :=
  let c32_i32_736 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk273 (v1056 : IVec S16 32) : Prop :=
  (∀ a x, ((![v1056] : Fin 1 → IVec S16 32) a x).toNat < S112.size a)
theorem k0_idx273_inb : ∀ (v1056 : IVec S16 32) (k0_hw273 : k0_chk273 v1056), ∀ a x, ((![v1056] : Fin 1 → IVec S16 32) a x).toNat < S112.size a := fun v1056 k0_hw273 => k0_hw273
def k0_off224 (k0_t7 : Fin k0_t7_loop.trips) : Fin 2 → Nat :=
  let c48_i32_739 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off225 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk274 (v1065 : IVec S16 32) : Prop :=
  (∀ a x, ((![v1065] : Fin 1 → IVec S16 32) a x).toNat < S112.size a)
theorem k0_idx274_inb : ∀ (v1065 : IVec S16 32) (k0_hw274 : k0_chk274 v1065), ∀ a x, ((![v1065] : Fin 1 → IVec S16 32) a x).toNat < S112.size a := fun v1065 k0_hw274 => k0_hw274
def k0_off226 (k0_t7 : Fin k0_t7_loop.trips) : Fin 2 → Nat :=
  let c0_i32_743 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk275 (v1072 : IVec S16 32) : Prop :=
  (∀ a x, ((![v1072] : Fin 1 → IVec S16 32) a x).toNat < S112.size a)
theorem k0_idx275_inb : ∀ (v1072 : IVec S16 32) (k0_hw275 : k0_chk275 v1072), ∀ a x, ((![v1072] : Fin 1 → IVec S16 32) a x).toNat < S112.size a := fun v1072 k0_hw275 => k0_hw275
def k0_off227 (k0_t7 : Fin k0_t7_loop.trips) : Fin 2 → Nat :=
  let c16_i32_746 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk276 (v1079 : IVec S16 32) : Prop :=
  (∀ a x, ((![v1079] : Fin 1 → IVec S16 32) a x).toNat < S112.size a)
theorem k0_idx276_inb : ∀ (v1079 : IVec S16 32) (k0_hw276 : k0_chk276 v1079), ∀ a x, ((![v1079] : Fin 1 → IVec S16 32) a x).toNat < S112.size a := fun v1079 k0_hw276 => k0_hw276
def k0_off228 (k0_t7 : Fin k0_t7_loop.trips) : Fin 2 → Nat :=
  let c32_i32_749 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk277 (v1086 : IVec S16 32) : Prop :=
  (∀ a x, ((![v1086] : Fin 1 → IVec S16 32) a x).toNat < S112.size a)
theorem k0_idx277_inb : ∀ (v1086 : IVec S16 32) (k0_hw277 : k0_chk277 v1086), ∀ a x, ((![v1086] : Fin 1 → IVec S16 32) a x).toNat < S112.size a := fun v1086 k0_hw277 => k0_hw277
def k0_off229 (k0_t7 : Fin k0_t7_loop.trips) : Fin 2 → Nat :=
  let c48_i32_752 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off230 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk278 (v1095 : IVec S16 32) : Prop :=
  (∀ a x, ((![v1095] : Fin 1 → IVec S16 32) a x).toNat < S112.size a)
theorem k0_idx278_inb : ∀ (v1095 : IVec S16 32) (k0_hw278 : k0_chk278 v1095), ∀ a x, ((![v1095] : Fin 1 → IVec S16 32) a x).toNat < S112.size a := fun v1095 k0_hw278 => k0_hw278
def k0_off231 (k0_t7 : Fin k0_t7_loop.trips) : Fin 2 → Nat :=
  let c0_i32_756 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk279 (v1102 : IVec S16 32) : Prop :=
  (∀ a x, ((![v1102] : Fin 1 → IVec S16 32) a x).toNat < S112.size a)
theorem k0_idx279_inb : ∀ (v1102 : IVec S16 32) (k0_hw279 : k0_chk279 v1102), ∀ a x, ((![v1102] : Fin 1 → IVec S16 32) a x).toNat < S112.size a := fun v1102 k0_hw279 => k0_hw279
def k0_off232 (k0_t7 : Fin k0_t7_loop.trips) : Fin 2 → Nat :=
  let c16_i32_759 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk280 (v1109 : IVec S16 32) : Prop :=
  (∀ a x, ((![v1109] : Fin 1 → IVec S16 32) a x).toNat < S112.size a)
theorem k0_idx280_inb : ∀ (v1109 : IVec S16 32) (k0_hw280 : k0_chk280 v1109), ∀ a x, ((![v1109] : Fin 1 → IVec S16 32) a x).toNat < S112.size a := fun v1109 k0_hw280 => k0_hw280
def k0_off233 (k0_t7 : Fin k0_t7_loop.trips) : Fin 2 → Nat :=
  let c32_i32_762 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk281 (v1116 : IVec S16 32) : Prop :=
  (∀ a x, ((![v1116] : Fin 1 → IVec S16 32) a x).toNat < S112.size a)
theorem k0_idx281_inb : ∀ (v1116 : IVec S16 32) (k0_hw281 : k0_chk281 v1116), ∀ a x, ((![v1116] : Fin 1 → IVec S16 32) a x).toNat < S112.size a := fun v1116 k0_hw281 => k0_hw281
def k0_off234 (k0_t7 : Fin k0_t7_loop.trips) : Fin 2 → Nat :=
  let c48_i32_765 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off235 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk282 (v1125 : IVec S16 32) : Prop :=
  (∀ a x, ((![v1125] : Fin 1 → IVec S16 32) a x).toNat < S112.size a)
theorem k0_idx282_inb : ∀ (v1125 : IVec S16 32) (k0_hw282 : k0_chk282 v1125), ∀ a x, ((![v1125] : Fin 1 → IVec S16 32) a x).toNat < S112.size a := fun v1125 k0_hw282 => k0_hw282
def k0_off236 (k0_t7 : Fin k0_t7_loop.trips) : Fin 2 → Nat :=
  let c0_i32_769 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk283 (v1132 : IVec S16 32) : Prop :=
  (∀ a x, ((![v1132] : Fin 1 → IVec S16 32) a x).toNat < S112.size a)
theorem k0_idx283_inb : ∀ (v1132 : IVec S16 32) (k0_hw283 : k0_chk283 v1132), ∀ a x, ((![v1132] : Fin 1 → IVec S16 32) a x).toNat < S112.size a := fun v1132 k0_hw283 => k0_hw283
def k0_off237 (k0_t7 : Fin k0_t7_loop.trips) : Fin 2 → Nat :=
  let c16_i32_772 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk284 (v1139 : IVec S16 32) : Prop :=
  (∀ a x, ((![v1139] : Fin 1 → IVec S16 32) a x).toNat < S112.size a)
theorem k0_idx284_inb : ∀ (v1139 : IVec S16 32) (k0_hw284 : k0_chk284 v1139), ∀ a x, ((![v1139] : Fin 1 → IVec S16 32) a x).toNat < S112.size a := fun v1139 k0_hw284 => k0_hw284
def k0_off238 (k0_t7 : Fin k0_t7_loop.trips) : Fin 2 → Nat :=
  let c32_i32_775 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk285 (v1146 : IVec S16 32) : Prop :=
  (∀ a x, ((![v1146] : Fin 1 → IVec S16 32) a x).toNat < S112.size a)
theorem k0_idx285_inb : ∀ (v1146 : IVec S16 32) (k0_hw285 : k0_chk285 v1146), ∀ a x, ((![v1146] : Fin 1 → IVec S16 32) a x).toNat < S112.size a := fun v1146 k0_hw285 => k0_hw285
def k0_off239 (k0_t7 : Fin k0_t7_loop.trips) : Fin 2 → Nat :=
  let c48_i32_778 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off240 (k0_t7 : Fin k0_t7_loop.trips) : Fin 2 → Nat :=
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk286 (v1155 : IVec S16 32) : Prop :=
  (∀ a x, ((![v1155] : Fin 1 → IVec S16 32) a x).toNat < S112.size a)
theorem k0_idx286_inb : ∀ (v1155 : IVec S16 32) (k0_hw286 : k0_chk286 v1155), ∀ a x, ((![v1155] : Fin 1 → IVec S16 32) a x).toNat < S112.size a := fun v1155 k0_hw286 => k0_hw286
def k0_off241 (k0_t7 : Fin k0_t7_loop.trips) : Fin 2 → Nat :=
  let c0_i32_781 : BitVec 32 := 0#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk287 (v1162 : IVec S16 32) : Prop :=
  (∀ a x, ((![v1162] : Fin 1 → IVec S16 32) a x).toNat < S112.size a)
theorem k0_idx287_inb : ∀ (v1162 : IVec S16 32) (k0_hw287 : k0_chk287 v1162), ∀ a x, ((![v1162] : Fin 1 → IVec S16 32) a x).toNat < S112.size a := fun v1162 k0_hw287 => k0_hw287
def k0_off242 (k0_t7 : Fin k0_t7_loop.trips) : Fin 2 → Nat :=
  let c16_i32_784 : BitVec 32 := 16#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk288 (v1169 : IVec S16 32) : Prop :=
  (∀ a x, ((![v1169] : Fin 1 → IVec S16 32) a x).toNat < S112.size a)
theorem k0_idx288_inb : ∀ (v1169 : IVec S16 32) (k0_hw288 : k0_chk288 v1169), ∀ a x, ((![v1169] : Fin 1 → IVec S16 32) a x).toNat < S112.size a := fun v1169 k0_hw288 => k0_hw288
def k0_off243 (k0_t7 : Fin k0_t7_loop.trips) : Fin 2 → Nat :=
  let c32_i32_787 : BitVec 32 := 32#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk289 (v1176 : IVec S16 32) : Prop :=
  (∀ a x, ((![v1176] : Fin 1 → IVec S16 32) a x).toNat < S112.size a)
theorem k0_idx289_inb : ∀ (v1176 : IVec S16 32) (k0_hw289 : k0_chk289 v1176), ∀ a x, ((![v1176] : Fin 1 → IVec S16 32) a x).toNat < S112.size a := fun v1176 k0_hw289 => k0_hw289
def k0_off244 (k0_t7 : Fin k0_t7_loop.trips) : Fin 2 → Nat :=
  let c48_i32_790 : BitVec 32 := 48#32
  let c0_i32_637 : BitVec 32 := 0#32
  let c0_i32_276 : BitVec 32 := 0#32
  let c1_i32_278 : BitVec 32 := 1#32
  let arg17 : BitVec 32 := Scf.iv c0_i32_276 c1_i32_278 k0_t7
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t8_loop : Scf.Loop 32 :=
  let c0_i32_280 : BitVec 32 := 0#32
  let c8_i32_281 : BitVec 32 := 8#32
  let v577 : BitVec 32 := Scalar.addi c0_i32_280 c8_i32_281
  let c1_i32_282 : BitVec 32 := 1#32
  ⟨c0_i32_280, v577, c1_i32_282⟩

def k0_chk290 (v447 : IVec S16 32) (v823 : IVec S16 32) : Prop :=
  (∀ a x, ((![v823, v447] : Fin 2 → IVec S16 32) a x).toNat < S16x200.size a)
theorem k0_idx290_inb : ∀ (v447 : IVec S16 32) (v823 : IVec S16 32) (k0_hw290 : k0_chk290 v447 v823), ∀ a x, ((![v823, v447] : Fin 2 → IVec S16 32) a x).toNat < S16x200.size a := fun v447 v823 k0_hw290 => k0_hw290

def k0_chk291 (v827 : IVec S16 32) : Prop :=
  (∀ a x, ((![v827] : Fin 1 → IVec S16 32) a x).toNat < S112.size a)
theorem k0_idx291_inb : ∀ (v827 : IVec S16 32) (k0_hw291 : k0_chk291 v827), ∀ a x, ((![v827] : Fin 1 → IVec S16 32) a x).toNat < S112.size a := fun v827 k0_hw291 => k0_hw291

def k0_chk292 (v447 : IVec S16 32) (v829 : IVec S16 32) : Prop :=
  (∀ a x, ((![v829, v447] : Fin 2 → IVec S16 32) a x).toNat < S64x200.size a)
theorem k0_idx292_inb : ∀ (v447 : IVec S16 32) (v829 : IVec S16 32) (k0_hw292 : k0_chk292 v447 v829), ∀ a x, ((![v829, v447] : Fin 2 → IVec S16 32) a x).toNat < S64x200.size a := fun v447 v829 k0_hw292 => k0_hw292

def k0_chk293 (v833 : IVec S16 32) : Prop :=
  (∀ a x, ((![v833] : Fin 1 → IVec S16 32) a x).toNat < S112.size a)
theorem k0_idx293_inb : ∀ (v833 : IVec S16 32) (k0_hw293 : k0_chk293 v833), ∀ a x, ((![v833] : Fin 1 → IVec S16 32) a x).toNat < S112.size a := fun v833 k0_hw293 => k0_hw293

def k0_chk294 (v447 : IVec S16 32) (v835 : IVec S16 32) : Prop :=
  (∀ a x, ((![v835, v447] : Fin 2 → IVec S16 32) a x).toNat < S64x200.size a)
theorem k0_idx294_inb : ∀ (v447 : IVec S16 32) (v835 : IVec S16 32) (k0_hw294 : k0_chk294 v447 v835), ∀ a x, ((![v835, v447] : Fin 2 → IVec S16 32) a x).toNat < S64x200.size a := fun v447 v835 k0_hw294 => k0_hw294

def k0_chk295 (v839 : IVec S16 32) : Prop :=
  (∀ a x, ((![v839] : Fin 1 → IVec S16 32) a x).toNat < S112.size a)
theorem k0_idx295_inb : ∀ (v839 : IVec S16 32) (k0_hw295 : k0_chk295 v839), ∀ a x, ((![v839] : Fin 1 → IVec S16 32) a x).toNat < S112.size a := fun v839 k0_hw295 => k0_hw295

def k0_chk296 (v447 : IVec S16 32) (v841 : IVec S16 32) : Prop :=
  (∀ a x, ((![v841, v447] : Fin 2 → IVec S16 32) a x).toNat < S64x200.size a)
theorem k0_idx296_inb : ∀ (v447 : IVec S16 32) (v841 : IVec S16 32) (k0_hw296 : k0_chk296 v447 v841), ∀ a x, ((![v841, v447] : Fin 2 → IVec S16 32) a x).toNat < S64x200.size a := fun v447 v841 k0_hw296 => k0_hw296

def k0_chk297 (v845 : IVec S16 32) : Prop :=
  (∀ a x, ((![v845] : Fin 1 → IVec S16 32) a x).toNat < S112.size a)
theorem k0_idx297_inb : ∀ (v845 : IVec S16 32) (k0_hw297 : k0_chk297 v845), ∀ a x, ((![v845] : Fin 1 → IVec S16 32) a x).toNat < S112.size a := fun v845 k0_hw297 => k0_hw297

def k0_chk298 (v447 : IVec S16 32) (v847 : IVec S16 32) : Prop :=
  (∀ a x, ((![v847, v447] : Fin 2 → IVec S16 32) a x).toNat < S64x200.size a)
theorem k0_idx298_inb : ∀ (v447 : IVec S16 32) (v847 : IVec S16 32) (k0_hw298 : k0_chk298 v447 v847), ∀ a x, ((![v847, v447] : Fin 2 → IVec S16 32) a x).toNat < S64x200.size a := fun v447 v847 k0_hw298 => k0_hw298
@[reducible] def k0_t9_loop : Scf.Loop 32 :=
  let c0_i32_345 : BitVec 32 := 0#32
  let c16_i32_346 : BitVec 32 := 16#32
  let v623 : BitVec 32 := Scalar.addi c0_i32_345 c16_i32_346
  let c1_i32_347 : BitVec 32 := 1#32
  ⟨c0_i32_345, v623, c1_i32_347⟩
def k0_off245 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk299 (v825 : IVec S16 32) : Prop :=
  (∀ a x, ((![v825] : Fin 1 → IVec S16 32) a x).toNat < S112.size a)
theorem k0_idx299_inb : ∀ (v825 : IVec S16 32) (k0_hw299 : k0_chk299 v825), ∀ a x, ((![v825] : Fin 1 → IVec S16 32) a x).toNat < S112.size a := fun v825 k0_hw299 => k0_hw299
def k0_off246 (k0_t9 : Fin k0_t9_loop.trips) : Fin 2 → Nat :=
  let c0_i32_640 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk300 (v832 : IVec S16 32) : Prop :=
  (∀ a x, ((![v832] : Fin 1 → IVec S16 32) a x).toNat < S112.size a)
theorem k0_idx300_inb : ∀ (v832 : IVec S16 32) (k0_hw300 : k0_chk300 v832), ∀ a x, ((![v832] : Fin 1 → IVec S16 32) a x).toNat < S112.size a := fun v832 k0_hw300 => k0_hw300
def k0_off247 (k0_t9 : Fin k0_t9_loop.trips) : Fin 2 → Nat :=
  let c16_i32_643 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk301 (v839 : IVec S16 32) : Prop :=
  (∀ a x, ((![v839] : Fin 1 → IVec S16 32) a x).toNat < S112.size a)
theorem k0_idx301_inb : ∀ (v839 : IVec S16 32) (k0_hw301 : k0_chk301 v839), ∀ a x, ((![v839] : Fin 1 → IVec S16 32) a x).toNat < S112.size a := fun v839 k0_hw301 => k0_hw301
def k0_off248 (k0_t9 : Fin k0_t9_loop.trips) : Fin 2 → Nat :=
  let c32_i32_646 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk302 (v846 : IVec S16 32) : Prop :=
  (∀ a x, ((![v846] : Fin 1 → IVec S16 32) a x).toNat < S112.size a)
theorem k0_idx302_inb : ∀ (v846 : IVec S16 32) (k0_hw302 : k0_chk302 v846), ∀ a x, ((![v846] : Fin 1 → IVec S16 32) a x).toNat < S112.size a := fun v846 k0_hw302 => k0_hw302
def k0_off249 (k0_t9 : Fin k0_t9_loop.trips) : Fin 2 → Nat :=
  let c48_i32_648 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off250 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk303 (v855 : IVec S16 32) : Prop :=
  (∀ a x, ((![v855] : Fin 1 → IVec S16 32) a x).toNat < S112.size a)
theorem k0_idx303_inb : ∀ (v855 : IVec S16 32) (k0_hw303 : k0_chk303 v855), ∀ a x, ((![v855] : Fin 1 → IVec S16 32) a x).toNat < S112.size a := fun v855 k0_hw303 => k0_hw303
def k0_off251 (k0_t9 : Fin k0_t9_loop.trips) : Fin 2 → Nat :=
  let c0_i32_652 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk304 (v862 : IVec S16 32) : Prop :=
  (∀ a x, ((![v862] : Fin 1 → IVec S16 32) a x).toNat < S112.size a)
theorem k0_idx304_inb : ∀ (v862 : IVec S16 32) (k0_hw304 : k0_chk304 v862), ∀ a x, ((![v862] : Fin 1 → IVec S16 32) a x).toNat < S112.size a := fun v862 k0_hw304 => k0_hw304
def k0_off252 (k0_t9 : Fin k0_t9_loop.trips) : Fin 2 → Nat :=
  let c16_i32_655 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk305 (v869 : IVec S16 32) : Prop :=
  (∀ a x, ((![v869] : Fin 1 → IVec S16 32) a x).toNat < S112.size a)
theorem k0_idx305_inb : ∀ (v869 : IVec S16 32) (k0_hw305 : k0_chk305 v869), ∀ a x, ((![v869] : Fin 1 → IVec S16 32) a x).toNat < S112.size a := fun v869 k0_hw305 => k0_hw305
def k0_off253 (k0_t9 : Fin k0_t9_loop.trips) : Fin 2 → Nat :=
  let c32_i32_658 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk306 (v876 : IVec S16 32) : Prop :=
  (∀ a x, ((![v876] : Fin 1 → IVec S16 32) a x).toNat < S112.size a)
theorem k0_idx306_inb : ∀ (v876 : IVec S16 32) (k0_hw306 : k0_chk306 v876), ∀ a x, ((![v876] : Fin 1 → IVec S16 32) a x).toNat < S112.size a := fun v876 k0_hw306 => k0_hw306
def k0_off254 (k0_t9 : Fin k0_t9_loop.trips) : Fin 2 → Nat :=
  let c48_i32_661 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off255 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk307 (v885 : IVec S16 32) : Prop :=
  (∀ a x, ((![v885] : Fin 1 → IVec S16 32) a x).toNat < S112.size a)
theorem k0_idx307_inb : ∀ (v885 : IVec S16 32) (k0_hw307 : k0_chk307 v885), ∀ a x, ((![v885] : Fin 1 → IVec S16 32) a x).toNat < S112.size a := fun v885 k0_hw307 => k0_hw307
def k0_off256 (k0_t9 : Fin k0_t9_loop.trips) : Fin 2 → Nat :=
  let c0_i32_665 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk308 (v892 : IVec S16 32) : Prop :=
  (∀ a x, ((![v892] : Fin 1 → IVec S16 32) a x).toNat < S112.size a)
theorem k0_idx308_inb : ∀ (v892 : IVec S16 32) (k0_hw308 : k0_chk308 v892), ∀ a x, ((![v892] : Fin 1 → IVec S16 32) a x).toNat < S112.size a := fun v892 k0_hw308 => k0_hw308
def k0_off257 (k0_t9 : Fin k0_t9_loop.trips) : Fin 2 → Nat :=
  let c16_i32_668 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk309 (v899 : IVec S16 32) : Prop :=
  (∀ a x, ((![v899] : Fin 1 → IVec S16 32) a x).toNat < S112.size a)
theorem k0_idx309_inb : ∀ (v899 : IVec S16 32) (k0_hw309 : k0_chk309 v899), ∀ a x, ((![v899] : Fin 1 → IVec S16 32) a x).toNat < S112.size a := fun v899 k0_hw309 => k0_hw309
def k0_off258 (k0_t9 : Fin k0_t9_loop.trips) : Fin 2 → Nat :=
  let c32_i32_671 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk310 (v906 : IVec S16 32) : Prop :=
  (∀ a x, ((![v906] : Fin 1 → IVec S16 32) a x).toNat < S112.size a)
theorem k0_idx310_inb : ∀ (v906 : IVec S16 32) (k0_hw310 : k0_chk310 v906), ∀ a x, ((![v906] : Fin 1 → IVec S16 32) a x).toNat < S112.size a := fun v906 k0_hw310 => k0_hw310
def k0_off259 (k0_t9 : Fin k0_t9_loop.trips) : Fin 2 → Nat :=
  let c48_i32_674 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off260 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk311 (v915 : IVec S16 32) : Prop :=
  (∀ a x, ((![v915] : Fin 1 → IVec S16 32) a x).toNat < S112.size a)
theorem k0_idx311_inb : ∀ (v915 : IVec S16 32) (k0_hw311 : k0_chk311 v915), ∀ a x, ((![v915] : Fin 1 → IVec S16 32) a x).toNat < S112.size a := fun v915 k0_hw311 => k0_hw311
def k0_off261 (k0_t9 : Fin k0_t9_loop.trips) : Fin 2 → Nat :=
  let c0_i32_678 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk312 (v922 : IVec S16 32) : Prop :=
  (∀ a x, ((![v922] : Fin 1 → IVec S16 32) a x).toNat < S112.size a)
theorem k0_idx312_inb : ∀ (v922 : IVec S16 32) (k0_hw312 : k0_chk312 v922), ∀ a x, ((![v922] : Fin 1 → IVec S16 32) a x).toNat < S112.size a := fun v922 k0_hw312 => k0_hw312
def k0_off262 (k0_t9 : Fin k0_t9_loop.trips) : Fin 2 → Nat :=
  let c16_i32_681 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk313 (v929 : IVec S16 32) : Prop :=
  (∀ a x, ((![v929] : Fin 1 → IVec S16 32) a x).toNat < S112.size a)
theorem k0_idx313_inb : ∀ (v929 : IVec S16 32) (k0_hw313 : k0_chk313 v929), ∀ a x, ((![v929] : Fin 1 → IVec S16 32) a x).toNat < S112.size a := fun v929 k0_hw313 => k0_hw313
def k0_off263 (k0_t9 : Fin k0_t9_loop.trips) : Fin 2 → Nat :=
  let c32_i32_684 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk314 (v936 : IVec S16 32) : Prop :=
  (∀ a x, ((![v936] : Fin 1 → IVec S16 32) a x).toNat < S112.size a)
theorem k0_idx314_inb : ∀ (v936 : IVec S16 32) (k0_hw314 : k0_chk314 v936), ∀ a x, ((![v936] : Fin 1 → IVec S16 32) a x).toNat < S112.size a := fun v936 k0_hw314 => k0_hw314
def k0_off264 (k0_t9 : Fin k0_t9_loop.trips) : Fin 2 → Nat :=
  let c48_i32_687 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off265 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk315 (v945 : IVec S16 32) : Prop :=
  (∀ a x, ((![v945] : Fin 1 → IVec S16 32) a x).toNat < S112.size a)
theorem k0_idx315_inb : ∀ (v945 : IVec S16 32) (k0_hw315 : k0_chk315 v945), ∀ a x, ((![v945] : Fin 1 → IVec S16 32) a x).toNat < S112.size a := fun v945 k0_hw315 => k0_hw315
def k0_off266 (k0_t9 : Fin k0_t9_loop.trips) : Fin 2 → Nat :=
  let c0_i32_691 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk316 (v952 : IVec S16 32) : Prop :=
  (∀ a x, ((![v952] : Fin 1 → IVec S16 32) a x).toNat < S112.size a)
theorem k0_idx316_inb : ∀ (v952 : IVec S16 32) (k0_hw316 : k0_chk316 v952), ∀ a x, ((![v952] : Fin 1 → IVec S16 32) a x).toNat < S112.size a := fun v952 k0_hw316 => k0_hw316
def k0_off267 (k0_t9 : Fin k0_t9_loop.trips) : Fin 2 → Nat :=
  let c16_i32_694 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk317 (v959 : IVec S16 32) : Prop :=
  (∀ a x, ((![v959] : Fin 1 → IVec S16 32) a x).toNat < S112.size a)
theorem k0_idx317_inb : ∀ (v959 : IVec S16 32) (k0_hw317 : k0_chk317 v959), ∀ a x, ((![v959] : Fin 1 → IVec S16 32) a x).toNat < S112.size a := fun v959 k0_hw317 => k0_hw317
def k0_off268 (k0_t9 : Fin k0_t9_loop.trips) : Fin 2 → Nat :=
  let c32_i32_697 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk318 (v966 : IVec S16 32) : Prop :=
  (∀ a x, ((![v966] : Fin 1 → IVec S16 32) a x).toNat < S112.size a)
theorem k0_idx318_inb : ∀ (v966 : IVec S16 32) (k0_hw318 : k0_chk318 v966), ∀ a x, ((![v966] : Fin 1 → IVec S16 32) a x).toNat < S112.size a := fun v966 k0_hw318 => k0_hw318
def k0_off269 (k0_t9 : Fin k0_t9_loop.trips) : Fin 2 → Nat :=
  let c48_i32_700 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off270 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk319 (v975 : IVec S16 32) : Prop :=
  (∀ a x, ((![v975] : Fin 1 → IVec S16 32) a x).toNat < S112.size a)
theorem k0_idx319_inb : ∀ (v975 : IVec S16 32) (k0_hw319 : k0_chk319 v975), ∀ a x, ((![v975] : Fin 1 → IVec S16 32) a x).toNat < S112.size a := fun v975 k0_hw319 => k0_hw319
def k0_off271 (k0_t9 : Fin k0_t9_loop.trips) : Fin 2 → Nat :=
  let c0_i32_704 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk320 (v982 : IVec S16 32) : Prop :=
  (∀ a x, ((![v982] : Fin 1 → IVec S16 32) a x).toNat < S112.size a)
theorem k0_idx320_inb : ∀ (v982 : IVec S16 32) (k0_hw320 : k0_chk320 v982), ∀ a x, ((![v982] : Fin 1 → IVec S16 32) a x).toNat < S112.size a := fun v982 k0_hw320 => k0_hw320
def k0_off272 (k0_t9 : Fin k0_t9_loop.trips) : Fin 2 → Nat :=
  let c16_i32_707 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk321 (v989 : IVec S16 32) : Prop :=
  (∀ a x, ((![v989] : Fin 1 → IVec S16 32) a x).toNat < S112.size a)
theorem k0_idx321_inb : ∀ (v989 : IVec S16 32) (k0_hw321 : k0_chk321 v989), ∀ a x, ((![v989] : Fin 1 → IVec S16 32) a x).toNat < S112.size a := fun v989 k0_hw321 => k0_hw321
def k0_off273 (k0_t9 : Fin k0_t9_loop.trips) : Fin 2 → Nat :=
  let c32_i32_710 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk322 (v996 : IVec S16 32) : Prop :=
  (∀ a x, ((![v996] : Fin 1 → IVec S16 32) a x).toNat < S112.size a)
theorem k0_idx322_inb : ∀ (v996 : IVec S16 32) (k0_hw322 : k0_chk322 v996), ∀ a x, ((![v996] : Fin 1 → IVec S16 32) a x).toNat < S112.size a := fun v996 k0_hw322 => k0_hw322
def k0_off274 (k0_t9 : Fin k0_t9_loop.trips) : Fin 2 → Nat :=
  let c48_i32_713 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off275 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk323 (v1005 : IVec S16 32) : Prop :=
  (∀ a x, ((![v1005] : Fin 1 → IVec S16 32) a x).toNat < S112.size a)
theorem k0_idx323_inb : ∀ (v1005 : IVec S16 32) (k0_hw323 : k0_chk323 v1005), ∀ a x, ((![v1005] : Fin 1 → IVec S16 32) a x).toNat < S112.size a := fun v1005 k0_hw323 => k0_hw323
def k0_off276 (k0_t9 : Fin k0_t9_loop.trips) : Fin 2 → Nat :=
  let c0_i32_717 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk324 (v1012 : IVec S16 32) : Prop :=
  (∀ a x, ((![v1012] : Fin 1 → IVec S16 32) a x).toNat < S112.size a)
theorem k0_idx324_inb : ∀ (v1012 : IVec S16 32) (k0_hw324 : k0_chk324 v1012), ∀ a x, ((![v1012] : Fin 1 → IVec S16 32) a x).toNat < S112.size a := fun v1012 k0_hw324 => k0_hw324
def k0_off277 (k0_t9 : Fin k0_t9_loop.trips) : Fin 2 → Nat :=
  let c16_i32_720 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk325 (v1019 : IVec S16 32) : Prop :=
  (∀ a x, ((![v1019] : Fin 1 → IVec S16 32) a x).toNat < S112.size a)
theorem k0_idx325_inb : ∀ (v1019 : IVec S16 32) (k0_hw325 : k0_chk325 v1019), ∀ a x, ((![v1019] : Fin 1 → IVec S16 32) a x).toNat < S112.size a := fun v1019 k0_hw325 => k0_hw325
def k0_off278 (k0_t9 : Fin k0_t9_loop.trips) : Fin 2 → Nat :=
  let c32_i32_723 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk326 (v1026 : IVec S16 32) : Prop :=
  (∀ a x, ((![v1026] : Fin 1 → IVec S16 32) a x).toNat < S112.size a)
theorem k0_idx326_inb : ∀ (v1026 : IVec S16 32) (k0_hw326 : k0_chk326 v1026), ∀ a x, ((![v1026] : Fin 1 → IVec S16 32) a x).toNat < S112.size a := fun v1026 k0_hw326 => k0_hw326
def k0_off279 (k0_t9 : Fin k0_t9_loop.trips) : Fin 2 → Nat :=
  let c48_i32_726 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off280 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk327 (v1035 : IVec S16 32) : Prop :=
  (∀ a x, ((![v1035] : Fin 1 → IVec S16 32) a x).toNat < S112.size a)
theorem k0_idx327_inb : ∀ (v1035 : IVec S16 32) (k0_hw327 : k0_chk327 v1035), ∀ a x, ((![v1035] : Fin 1 → IVec S16 32) a x).toNat < S112.size a := fun v1035 k0_hw327 => k0_hw327
def k0_off281 (k0_t9 : Fin k0_t9_loop.trips) : Fin 2 → Nat :=
  let c0_i32_730 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk328 (v1042 : IVec S16 32) : Prop :=
  (∀ a x, ((![v1042] : Fin 1 → IVec S16 32) a x).toNat < S112.size a)
theorem k0_idx328_inb : ∀ (v1042 : IVec S16 32) (k0_hw328 : k0_chk328 v1042), ∀ a x, ((![v1042] : Fin 1 → IVec S16 32) a x).toNat < S112.size a := fun v1042 k0_hw328 => k0_hw328
def k0_off282 (k0_t9 : Fin k0_t9_loop.trips) : Fin 2 → Nat :=
  let c16_i32_733 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk329 (v1049 : IVec S16 32) : Prop :=
  (∀ a x, ((![v1049] : Fin 1 → IVec S16 32) a x).toNat < S112.size a)
theorem k0_idx329_inb : ∀ (v1049 : IVec S16 32) (k0_hw329 : k0_chk329 v1049), ∀ a x, ((![v1049] : Fin 1 → IVec S16 32) a x).toNat < S112.size a := fun v1049 k0_hw329 => k0_hw329
def k0_off283 (k0_t9 : Fin k0_t9_loop.trips) : Fin 2 → Nat :=
  let c32_i32_736 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk330 (v1056 : IVec S16 32) : Prop :=
  (∀ a x, ((![v1056] : Fin 1 → IVec S16 32) a x).toNat < S112.size a)
theorem k0_idx330_inb : ∀ (v1056 : IVec S16 32) (k0_hw330 : k0_chk330 v1056), ∀ a x, ((![v1056] : Fin 1 → IVec S16 32) a x).toNat < S112.size a := fun v1056 k0_hw330 => k0_hw330
def k0_off284 (k0_t9 : Fin k0_t9_loop.trips) : Fin 2 → Nat :=
  let c48_i32_739 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off285 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk331 (v1065 : IVec S16 32) : Prop :=
  (∀ a x, ((![v1065] : Fin 1 → IVec S16 32) a x).toNat < S112.size a)
theorem k0_idx331_inb : ∀ (v1065 : IVec S16 32) (k0_hw331 : k0_chk331 v1065), ∀ a x, ((![v1065] : Fin 1 → IVec S16 32) a x).toNat < S112.size a := fun v1065 k0_hw331 => k0_hw331
def k0_off286 (k0_t9 : Fin k0_t9_loop.trips) : Fin 2 → Nat :=
  let c0_i32_743 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk332 (v1072 : IVec S16 32) : Prop :=
  (∀ a x, ((![v1072] : Fin 1 → IVec S16 32) a x).toNat < S112.size a)
theorem k0_idx332_inb : ∀ (v1072 : IVec S16 32) (k0_hw332 : k0_chk332 v1072), ∀ a x, ((![v1072] : Fin 1 → IVec S16 32) a x).toNat < S112.size a := fun v1072 k0_hw332 => k0_hw332
def k0_off287 (k0_t9 : Fin k0_t9_loop.trips) : Fin 2 → Nat :=
  let c16_i32_746 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk333 (v1079 : IVec S16 32) : Prop :=
  (∀ a x, ((![v1079] : Fin 1 → IVec S16 32) a x).toNat < S112.size a)
theorem k0_idx333_inb : ∀ (v1079 : IVec S16 32) (k0_hw333 : k0_chk333 v1079), ∀ a x, ((![v1079] : Fin 1 → IVec S16 32) a x).toNat < S112.size a := fun v1079 k0_hw333 => k0_hw333
def k0_off288 (k0_t9 : Fin k0_t9_loop.trips) : Fin 2 → Nat :=
  let c32_i32_749 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk334 (v1086 : IVec S16 32) : Prop :=
  (∀ a x, ((![v1086] : Fin 1 → IVec S16 32) a x).toNat < S112.size a)
theorem k0_idx334_inb : ∀ (v1086 : IVec S16 32) (k0_hw334 : k0_chk334 v1086), ∀ a x, ((![v1086] : Fin 1 → IVec S16 32) a x).toNat < S112.size a := fun v1086 k0_hw334 => k0_hw334
def k0_off289 (k0_t9 : Fin k0_t9_loop.trips) : Fin 2 → Nat :=
  let c48_i32_752 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off290 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk335 (v1095 : IVec S16 32) : Prop :=
  (∀ a x, ((![v1095] : Fin 1 → IVec S16 32) a x).toNat < S112.size a)
theorem k0_idx335_inb : ∀ (v1095 : IVec S16 32) (k0_hw335 : k0_chk335 v1095), ∀ a x, ((![v1095] : Fin 1 → IVec S16 32) a x).toNat < S112.size a := fun v1095 k0_hw335 => k0_hw335
def k0_off291 (k0_t9 : Fin k0_t9_loop.trips) : Fin 2 → Nat :=
  let c0_i32_756 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk336 (v1102 : IVec S16 32) : Prop :=
  (∀ a x, ((![v1102] : Fin 1 → IVec S16 32) a x).toNat < S112.size a)
theorem k0_idx336_inb : ∀ (v1102 : IVec S16 32) (k0_hw336 : k0_chk336 v1102), ∀ a x, ((![v1102] : Fin 1 → IVec S16 32) a x).toNat < S112.size a := fun v1102 k0_hw336 => k0_hw336
def k0_off292 (k0_t9 : Fin k0_t9_loop.trips) : Fin 2 → Nat :=
  let c16_i32_759 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk337 (v1109 : IVec S16 32) : Prop :=
  (∀ a x, ((![v1109] : Fin 1 → IVec S16 32) a x).toNat < S112.size a)
theorem k0_idx337_inb : ∀ (v1109 : IVec S16 32) (k0_hw337 : k0_chk337 v1109), ∀ a x, ((![v1109] : Fin 1 → IVec S16 32) a x).toNat < S112.size a := fun v1109 k0_hw337 => k0_hw337
def k0_off293 (k0_t9 : Fin k0_t9_loop.trips) : Fin 2 → Nat :=
  let c32_i32_762 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk338 (v1116 : IVec S16 32) : Prop :=
  (∀ a x, ((![v1116] : Fin 1 → IVec S16 32) a x).toNat < S112.size a)
theorem k0_idx338_inb : ∀ (v1116 : IVec S16 32) (k0_hw338 : k0_chk338 v1116), ∀ a x, ((![v1116] : Fin 1 → IVec S16 32) a x).toNat < S112.size a := fun v1116 k0_hw338 => k0_hw338
def k0_off294 (k0_t9 : Fin k0_t9_loop.trips) : Fin 2 → Nat :=
  let c48_i32_765 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off295 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk339 (v1125 : IVec S16 32) : Prop :=
  (∀ a x, ((![v1125] : Fin 1 → IVec S16 32) a x).toNat < S112.size a)
theorem k0_idx339_inb : ∀ (v1125 : IVec S16 32) (k0_hw339 : k0_chk339 v1125), ∀ a x, ((![v1125] : Fin 1 → IVec S16 32) a x).toNat < S112.size a := fun v1125 k0_hw339 => k0_hw339
def k0_off296 (k0_t9 : Fin k0_t9_loop.trips) : Fin 2 → Nat :=
  let c0_i32_769 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk340 (v1132 : IVec S16 32) : Prop :=
  (∀ a x, ((![v1132] : Fin 1 → IVec S16 32) a x).toNat < S112.size a)
theorem k0_idx340_inb : ∀ (v1132 : IVec S16 32) (k0_hw340 : k0_chk340 v1132), ∀ a x, ((![v1132] : Fin 1 → IVec S16 32) a x).toNat < S112.size a := fun v1132 k0_hw340 => k0_hw340
def k0_off297 (k0_t9 : Fin k0_t9_loop.trips) : Fin 2 → Nat :=
  let c16_i32_772 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk341 (v1139 : IVec S16 32) : Prop :=
  (∀ a x, ((![v1139] : Fin 1 → IVec S16 32) a x).toNat < S112.size a)
theorem k0_idx341_inb : ∀ (v1139 : IVec S16 32) (k0_hw341 : k0_chk341 v1139), ∀ a x, ((![v1139] : Fin 1 → IVec S16 32) a x).toNat < S112.size a := fun v1139 k0_hw341 => k0_hw341
def k0_off298 (k0_t9 : Fin k0_t9_loop.trips) : Fin 2 → Nat :=
  let c32_i32_775 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk342 (v1146 : IVec S16 32) : Prop :=
  (∀ a x, ((![v1146] : Fin 1 → IVec S16 32) a x).toNat < S112.size a)
theorem k0_idx342_inb : ∀ (v1146 : IVec S16 32) (k0_hw342 : k0_chk342 v1146), ∀ a x, ((![v1146] : Fin 1 → IVec S16 32) a x).toNat < S112.size a := fun v1146 k0_hw342 => k0_hw342
def k0_off299 (k0_t9 : Fin k0_t9_loop.trips) : Fin 2 → Nat :=
  let c48_i32_778 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off300 (k0_t9 : Fin k0_t9_loop.trips) : Fin 2 → Nat :=
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk343 (v1155 : IVec S16 32) : Prop :=
  (∀ a x, ((![v1155] : Fin 1 → IVec S16 32) a x).toNat < S112.size a)
theorem k0_idx343_inb : ∀ (v1155 : IVec S16 32) (k0_hw343 : k0_chk343 v1155), ∀ a x, ((![v1155] : Fin 1 → IVec S16 32) a x).toNat < S112.size a := fun v1155 k0_hw343 => k0_hw343
def k0_off301 (k0_t9 : Fin k0_t9_loop.trips) : Fin 2 → Nat :=
  let c0_i32_781 : BitVec 32 := 0#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk344 (v1162 : IVec S16 32) : Prop :=
  (∀ a x, ((![v1162] : Fin 1 → IVec S16 32) a x).toNat < S112.size a)
theorem k0_idx344_inb : ∀ (v1162 : IVec S16 32) (k0_hw344 : k0_chk344 v1162), ∀ a x, ((![v1162] : Fin 1 → IVec S16 32) a x).toNat < S112.size a := fun v1162 k0_hw344 => k0_hw344
def k0_off302 (k0_t9 : Fin k0_t9_loop.trips) : Fin 2 → Nat :=
  let c16_i32_784 : BitVec 32 := 16#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk345 (v1169 : IVec S16 32) : Prop :=
  (∀ a x, ((![v1169] : Fin 1 → IVec S16 32) a x).toNat < S112.size a)
theorem k0_idx345_inb : ∀ (v1169 : IVec S16 32) (k0_hw345 : k0_chk345 v1169), ∀ a x, ((![v1169] : Fin 1 → IVec S16 32) a x).toNat < S112.size a := fun v1169 k0_hw345 => k0_hw345
def k0_off303 (k0_t9 : Fin k0_t9_loop.trips) : Fin 2 → Nat :=
  let c32_i32_787 : BitVec 32 := 32#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk346 (v1176 : IVec S16 32) : Prop :=
  (∀ a x, ((![v1176] : Fin 1 → IVec S16 32) a x).toNat < S112.size a)
theorem k0_idx346_inb : ∀ (v1176 : IVec S16 32) (k0_hw346 : k0_chk346 v1176), ∀ a x, ((![v1176] : Fin 1 → IVec S16 32) a x).toNat < S112.size a := fun v1176 k0_hw346 => k0_hw346
def k0_off304 (k0_t9 : Fin k0_t9_loop.trips) : Fin 2 → Nat :=
  let c48_i32_790 : BitVec 32 := 48#32
  let c0_i32_637 : BitVec 32 := 0#32
  let c0_i32_345 : BitVec 32 := 0#32
  let c1_i32_347 : BitVec 32 := 1#32
  let arg17 : BitVec 32 := Scf.iv c0_i32_345 c1_i32_347 k0_t9
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t10_loop : Scf.Loop 32 :=
  let c0_i32_349 : BitVec 32 := 0#32
  let c8_i32_350 : BitVec 32 := 8#32
  let v624 : BitVec 32 := Scalar.addi c0_i32_349 c8_i32_350
  let c1_i32_351 : BitVec 32 := 1#32
  ⟨c0_i32_349, v624, c1_i32_351⟩

def k0_chk347 (v447 : IVec S16 32) (v823 : IVec S16 32) : Prop :=
  (∀ a x, ((![v823, v447] : Fin 2 → IVec S16 32) a x).toNat < S16x200.size a)
theorem k0_idx347_inb : ∀ (v447 : IVec S16 32) (v823 : IVec S16 32) (k0_hw347 : k0_chk347 v447 v823), ∀ a x, ((![v823, v447] : Fin 2 → IVec S16 32) a x).toNat < S16x200.size a := fun v447 v823 k0_hw347 => k0_hw347

def k0_chk348 (v827 : IVec S16 32) : Prop :=
  (∀ a x, ((![v827] : Fin 1 → IVec S16 32) a x).toNat < S112.size a)
theorem k0_idx348_inb : ∀ (v827 : IVec S16 32) (k0_hw348 : k0_chk348 v827), ∀ a x, ((![v827] : Fin 1 → IVec S16 32) a x).toNat < S112.size a := fun v827 k0_hw348 => k0_hw348

def k0_chk349 (v447 : IVec S16 32) (v829 : IVec S16 32) : Prop :=
  (∀ a x, ((![v829, v447] : Fin 2 → IVec S16 32) a x).toNat < S64x200.size a)
theorem k0_idx349_inb : ∀ (v447 : IVec S16 32) (v829 : IVec S16 32) (k0_hw349 : k0_chk349 v447 v829), ∀ a x, ((![v829, v447] : Fin 2 → IVec S16 32) a x).toNat < S64x200.size a := fun v447 v829 k0_hw349 => k0_hw349

def k0_chk350 (v833 : IVec S16 32) : Prop :=
  (∀ a x, ((![v833] : Fin 1 → IVec S16 32) a x).toNat < S112.size a)
theorem k0_idx350_inb : ∀ (v833 : IVec S16 32) (k0_hw350 : k0_chk350 v833), ∀ a x, ((![v833] : Fin 1 → IVec S16 32) a x).toNat < S112.size a := fun v833 k0_hw350 => k0_hw350

def k0_chk351 (v447 : IVec S16 32) (v835 : IVec S16 32) : Prop :=
  (∀ a x, ((![v835, v447] : Fin 2 → IVec S16 32) a x).toNat < S64x200.size a)
theorem k0_idx351_inb : ∀ (v447 : IVec S16 32) (v835 : IVec S16 32) (k0_hw351 : k0_chk351 v447 v835), ∀ a x, ((![v835, v447] : Fin 2 → IVec S16 32) a x).toNat < S64x200.size a := fun v447 v835 k0_hw351 => k0_hw351

def k0_chk352 (v839 : IVec S16 32) : Prop :=
  (∀ a x, ((![v839] : Fin 1 → IVec S16 32) a x).toNat < S112.size a)
theorem k0_idx352_inb : ∀ (v839 : IVec S16 32) (k0_hw352 : k0_chk352 v839), ∀ a x, ((![v839] : Fin 1 → IVec S16 32) a x).toNat < S112.size a := fun v839 k0_hw352 => k0_hw352

def k0_chk353 (v447 : IVec S16 32) (v841 : IVec S16 32) : Prop :=
  (∀ a x, ((![v841, v447] : Fin 2 → IVec S16 32) a x).toNat < S64x200.size a)
theorem k0_idx353_inb : ∀ (v447 : IVec S16 32) (v841 : IVec S16 32) (k0_hw353 : k0_chk353 v447 v841), ∀ a x, ((![v841, v447] : Fin 2 → IVec S16 32) a x).toNat < S64x200.size a := fun v447 v841 k0_hw353 => k0_hw353

def k0_chk354 (v845 : IVec S16 32) : Prop :=
  (∀ a x, ((![v845] : Fin 1 → IVec S16 32) a x).toNat < S112.size a)
theorem k0_idx354_inb : ∀ (v845 : IVec S16 32) (k0_hw354 : k0_chk354 v845), ∀ a x, ((![v845] : Fin 1 → IVec S16 32) a x).toNat < S112.size a := fun v845 k0_hw354 => k0_hw354

def k0_chk355 (v447 : IVec S16 32) (v847 : IVec S16 32) : Prop :=
  (∀ a x, ((![v847, v447] : Fin 2 → IVec S16 32) a x).toNat < S64x200.size a)
theorem k0_idx355_inb : ∀ (v447 : IVec S16 32) (v847 : IVec S16 32) (k0_hw355 : k0_chk355 v447 v847), ∀ a x, ((![v847, v447] : Fin 2 → IVec S16 32) a x).toNat < S64x200.size a := fun v447 v847 k0_hw355 => k0_hw355
@[reducible] def k0_t11_loop : Scf.Loop 32 :=
  let c0_i32_414 : BitVec 32 := 0#32
  let c16_i32_415 : BitVec 32 := 16#32
  let v670 : BitVec 32 := Scalar.addi c0_i32_414 c16_i32_415
  let c1_i32_416 : BitVec 32 := 1#32
  ⟨c0_i32_414, v670, c1_i32_416⟩
def k0_off305 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk356 (v825 : IVec S16 32) : Prop :=
  (∀ a x, ((![v825] : Fin 1 → IVec S16 32) a x).toNat < S112.size a)
theorem k0_idx356_inb : ∀ (v825 : IVec S16 32) (k0_hw356 : k0_chk356 v825), ∀ a x, ((![v825] : Fin 1 → IVec S16 32) a x).toNat < S112.size a := fun v825 k0_hw356 => k0_hw356
def k0_off306 (k0_t11 : Fin k0_t11_loop.trips) : Fin 2 → Nat :=
  let c0_i32_640 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk357 (v832 : IVec S16 32) : Prop :=
  (∀ a x, ((![v832] : Fin 1 → IVec S16 32) a x).toNat < S112.size a)
theorem k0_idx357_inb : ∀ (v832 : IVec S16 32) (k0_hw357 : k0_chk357 v832), ∀ a x, ((![v832] : Fin 1 → IVec S16 32) a x).toNat < S112.size a := fun v832 k0_hw357 => k0_hw357
def k0_off307 (k0_t11 : Fin k0_t11_loop.trips) : Fin 2 → Nat :=
  let c16_i32_643 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk358 (v839 : IVec S16 32) : Prop :=
  (∀ a x, ((![v839] : Fin 1 → IVec S16 32) a x).toNat < S112.size a)
theorem k0_idx358_inb : ∀ (v839 : IVec S16 32) (k0_hw358 : k0_chk358 v839), ∀ a x, ((![v839] : Fin 1 → IVec S16 32) a x).toNat < S112.size a := fun v839 k0_hw358 => k0_hw358
def k0_off308 (k0_t11 : Fin k0_t11_loop.trips) : Fin 2 → Nat :=
  let c32_i32_646 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk359 (v846 : IVec S16 32) : Prop :=
  (∀ a x, ((![v846] : Fin 1 → IVec S16 32) a x).toNat < S112.size a)
theorem k0_idx359_inb : ∀ (v846 : IVec S16 32) (k0_hw359 : k0_chk359 v846), ∀ a x, ((![v846] : Fin 1 → IVec S16 32) a x).toNat < S112.size a := fun v846 k0_hw359 => k0_hw359
def k0_off309 (k0_t11 : Fin k0_t11_loop.trips) : Fin 2 → Nat :=
  let c48_i32_648 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off310 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk360 (v855 : IVec S16 32) : Prop :=
  (∀ a x, ((![v855] : Fin 1 → IVec S16 32) a x).toNat < S112.size a)
theorem k0_idx360_inb : ∀ (v855 : IVec S16 32) (k0_hw360 : k0_chk360 v855), ∀ a x, ((![v855] : Fin 1 → IVec S16 32) a x).toNat < S112.size a := fun v855 k0_hw360 => k0_hw360
def k0_off311 (k0_t11 : Fin k0_t11_loop.trips) : Fin 2 → Nat :=
  let c0_i32_652 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk361 (v862 : IVec S16 32) : Prop :=
  (∀ a x, ((![v862] : Fin 1 → IVec S16 32) a x).toNat < S112.size a)
theorem k0_idx361_inb : ∀ (v862 : IVec S16 32) (k0_hw361 : k0_chk361 v862), ∀ a x, ((![v862] : Fin 1 → IVec S16 32) a x).toNat < S112.size a := fun v862 k0_hw361 => k0_hw361
def k0_off312 (k0_t11 : Fin k0_t11_loop.trips) : Fin 2 → Nat :=
  let c16_i32_655 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk362 (v869 : IVec S16 32) : Prop :=
  (∀ a x, ((![v869] : Fin 1 → IVec S16 32) a x).toNat < S112.size a)
theorem k0_idx362_inb : ∀ (v869 : IVec S16 32) (k0_hw362 : k0_chk362 v869), ∀ a x, ((![v869] : Fin 1 → IVec S16 32) a x).toNat < S112.size a := fun v869 k0_hw362 => k0_hw362
def k0_off313 (k0_t11 : Fin k0_t11_loop.trips) : Fin 2 → Nat :=
  let c32_i32_658 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk363 (v876 : IVec S16 32) : Prop :=
  (∀ a x, ((![v876] : Fin 1 → IVec S16 32) a x).toNat < S112.size a)
theorem k0_idx363_inb : ∀ (v876 : IVec S16 32) (k0_hw363 : k0_chk363 v876), ∀ a x, ((![v876] : Fin 1 → IVec S16 32) a x).toNat < S112.size a := fun v876 k0_hw363 => k0_hw363
def k0_off314 (k0_t11 : Fin k0_t11_loop.trips) : Fin 2 → Nat :=
  let c48_i32_661 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off315 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk364 (v885 : IVec S16 32) : Prop :=
  (∀ a x, ((![v885] : Fin 1 → IVec S16 32) a x).toNat < S112.size a)
theorem k0_idx364_inb : ∀ (v885 : IVec S16 32) (k0_hw364 : k0_chk364 v885), ∀ a x, ((![v885] : Fin 1 → IVec S16 32) a x).toNat < S112.size a := fun v885 k0_hw364 => k0_hw364
def k0_off316 (k0_t11 : Fin k0_t11_loop.trips) : Fin 2 → Nat :=
  let c0_i32_665 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk365 (v892 : IVec S16 32) : Prop :=
  (∀ a x, ((![v892] : Fin 1 → IVec S16 32) a x).toNat < S112.size a)
theorem k0_idx365_inb : ∀ (v892 : IVec S16 32) (k0_hw365 : k0_chk365 v892), ∀ a x, ((![v892] : Fin 1 → IVec S16 32) a x).toNat < S112.size a := fun v892 k0_hw365 => k0_hw365
def k0_off317 (k0_t11 : Fin k0_t11_loop.trips) : Fin 2 → Nat :=
  let c16_i32_668 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk366 (v899 : IVec S16 32) : Prop :=
  (∀ a x, ((![v899] : Fin 1 → IVec S16 32) a x).toNat < S112.size a)
theorem k0_idx366_inb : ∀ (v899 : IVec S16 32) (k0_hw366 : k0_chk366 v899), ∀ a x, ((![v899] : Fin 1 → IVec S16 32) a x).toNat < S112.size a := fun v899 k0_hw366 => k0_hw366
def k0_off318 (k0_t11 : Fin k0_t11_loop.trips) : Fin 2 → Nat :=
  let c32_i32_671 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk367 (v906 : IVec S16 32) : Prop :=
  (∀ a x, ((![v906] : Fin 1 → IVec S16 32) a x).toNat < S112.size a)
theorem k0_idx367_inb : ∀ (v906 : IVec S16 32) (k0_hw367 : k0_chk367 v906), ∀ a x, ((![v906] : Fin 1 → IVec S16 32) a x).toNat < S112.size a := fun v906 k0_hw367 => k0_hw367
def k0_off319 (k0_t11 : Fin k0_t11_loop.trips) : Fin 2 → Nat :=
  let c48_i32_674 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off320 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk368 (v915 : IVec S16 32) : Prop :=
  (∀ a x, ((![v915] : Fin 1 → IVec S16 32) a x).toNat < S112.size a)
theorem k0_idx368_inb : ∀ (v915 : IVec S16 32) (k0_hw368 : k0_chk368 v915), ∀ a x, ((![v915] : Fin 1 → IVec S16 32) a x).toNat < S112.size a := fun v915 k0_hw368 => k0_hw368
def k0_off321 (k0_t11 : Fin k0_t11_loop.trips) : Fin 2 → Nat :=
  let c0_i32_678 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk369 (v922 : IVec S16 32) : Prop :=
  (∀ a x, ((![v922] : Fin 1 → IVec S16 32) a x).toNat < S112.size a)
theorem k0_idx369_inb : ∀ (v922 : IVec S16 32) (k0_hw369 : k0_chk369 v922), ∀ a x, ((![v922] : Fin 1 → IVec S16 32) a x).toNat < S112.size a := fun v922 k0_hw369 => k0_hw369
def k0_off322 (k0_t11 : Fin k0_t11_loop.trips) : Fin 2 → Nat :=
  let c16_i32_681 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk370 (v929 : IVec S16 32) : Prop :=
  (∀ a x, ((![v929] : Fin 1 → IVec S16 32) a x).toNat < S112.size a)
theorem k0_idx370_inb : ∀ (v929 : IVec S16 32) (k0_hw370 : k0_chk370 v929), ∀ a x, ((![v929] : Fin 1 → IVec S16 32) a x).toNat < S112.size a := fun v929 k0_hw370 => k0_hw370
def k0_off323 (k0_t11 : Fin k0_t11_loop.trips) : Fin 2 → Nat :=
  let c32_i32_684 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk371 (v936 : IVec S16 32) : Prop :=
  (∀ a x, ((![v936] : Fin 1 → IVec S16 32) a x).toNat < S112.size a)
theorem k0_idx371_inb : ∀ (v936 : IVec S16 32) (k0_hw371 : k0_chk371 v936), ∀ a x, ((![v936] : Fin 1 → IVec S16 32) a x).toNat < S112.size a := fun v936 k0_hw371 => k0_hw371
def k0_off324 (k0_t11 : Fin k0_t11_loop.trips) : Fin 2 → Nat :=
  let c48_i32_687 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off325 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk372 (v945 : IVec S16 32) : Prop :=
  (∀ a x, ((![v945] : Fin 1 → IVec S16 32) a x).toNat < S112.size a)
theorem k0_idx372_inb : ∀ (v945 : IVec S16 32) (k0_hw372 : k0_chk372 v945), ∀ a x, ((![v945] : Fin 1 → IVec S16 32) a x).toNat < S112.size a := fun v945 k0_hw372 => k0_hw372
def k0_off326 (k0_t11 : Fin k0_t11_loop.trips) : Fin 2 → Nat :=
  let c0_i32_691 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk373 (v952 : IVec S16 32) : Prop :=
  (∀ a x, ((![v952] : Fin 1 → IVec S16 32) a x).toNat < S112.size a)
theorem k0_idx373_inb : ∀ (v952 : IVec S16 32) (k0_hw373 : k0_chk373 v952), ∀ a x, ((![v952] : Fin 1 → IVec S16 32) a x).toNat < S112.size a := fun v952 k0_hw373 => k0_hw373
def k0_off327 (k0_t11 : Fin k0_t11_loop.trips) : Fin 2 → Nat :=
  let c16_i32_694 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk374 (v959 : IVec S16 32) : Prop :=
  (∀ a x, ((![v959] : Fin 1 → IVec S16 32) a x).toNat < S112.size a)
theorem k0_idx374_inb : ∀ (v959 : IVec S16 32) (k0_hw374 : k0_chk374 v959), ∀ a x, ((![v959] : Fin 1 → IVec S16 32) a x).toNat < S112.size a := fun v959 k0_hw374 => k0_hw374
def k0_off328 (k0_t11 : Fin k0_t11_loop.trips) : Fin 2 → Nat :=
  let c32_i32_697 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk375 (v966 : IVec S16 32) : Prop :=
  (∀ a x, ((![v966] : Fin 1 → IVec S16 32) a x).toNat < S112.size a)
theorem k0_idx375_inb : ∀ (v966 : IVec S16 32) (k0_hw375 : k0_chk375 v966), ∀ a x, ((![v966] : Fin 1 → IVec S16 32) a x).toNat < S112.size a := fun v966 k0_hw375 => k0_hw375
def k0_off329 (k0_t11 : Fin k0_t11_loop.trips) : Fin 2 → Nat :=
  let c48_i32_700 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off330 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk376 (v975 : IVec S16 32) : Prop :=
  (∀ a x, ((![v975] : Fin 1 → IVec S16 32) a x).toNat < S112.size a)
theorem k0_idx376_inb : ∀ (v975 : IVec S16 32) (k0_hw376 : k0_chk376 v975), ∀ a x, ((![v975] : Fin 1 → IVec S16 32) a x).toNat < S112.size a := fun v975 k0_hw376 => k0_hw376
def k0_off331 (k0_t11 : Fin k0_t11_loop.trips) : Fin 2 → Nat :=
  let c0_i32_704 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk377 (v982 : IVec S16 32) : Prop :=
  (∀ a x, ((![v982] : Fin 1 → IVec S16 32) a x).toNat < S112.size a)
theorem k0_idx377_inb : ∀ (v982 : IVec S16 32) (k0_hw377 : k0_chk377 v982), ∀ a x, ((![v982] : Fin 1 → IVec S16 32) a x).toNat < S112.size a := fun v982 k0_hw377 => k0_hw377
def k0_off332 (k0_t11 : Fin k0_t11_loop.trips) : Fin 2 → Nat :=
  let c16_i32_707 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk378 (v989 : IVec S16 32) : Prop :=
  (∀ a x, ((![v989] : Fin 1 → IVec S16 32) a x).toNat < S112.size a)
theorem k0_idx378_inb : ∀ (v989 : IVec S16 32) (k0_hw378 : k0_chk378 v989), ∀ a x, ((![v989] : Fin 1 → IVec S16 32) a x).toNat < S112.size a := fun v989 k0_hw378 => k0_hw378
def k0_off333 (k0_t11 : Fin k0_t11_loop.trips) : Fin 2 → Nat :=
  let c32_i32_710 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk379 (v996 : IVec S16 32) : Prop :=
  (∀ a x, ((![v996] : Fin 1 → IVec S16 32) a x).toNat < S112.size a)
theorem k0_idx379_inb : ∀ (v996 : IVec S16 32) (k0_hw379 : k0_chk379 v996), ∀ a x, ((![v996] : Fin 1 → IVec S16 32) a x).toNat < S112.size a := fun v996 k0_hw379 => k0_hw379
def k0_off334 (k0_t11 : Fin k0_t11_loop.trips) : Fin 2 → Nat :=
  let c48_i32_713 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off335 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk380 (v1005 : IVec S16 32) : Prop :=
  (∀ a x, ((![v1005] : Fin 1 → IVec S16 32) a x).toNat < S112.size a)
theorem k0_idx380_inb : ∀ (v1005 : IVec S16 32) (k0_hw380 : k0_chk380 v1005), ∀ a x, ((![v1005] : Fin 1 → IVec S16 32) a x).toNat < S112.size a := fun v1005 k0_hw380 => k0_hw380
def k0_off336 (k0_t11 : Fin k0_t11_loop.trips) : Fin 2 → Nat :=
  let c0_i32_717 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk381 (v1012 : IVec S16 32) : Prop :=
  (∀ a x, ((![v1012] : Fin 1 → IVec S16 32) a x).toNat < S112.size a)
theorem k0_idx381_inb : ∀ (v1012 : IVec S16 32) (k0_hw381 : k0_chk381 v1012), ∀ a x, ((![v1012] : Fin 1 → IVec S16 32) a x).toNat < S112.size a := fun v1012 k0_hw381 => k0_hw381
def k0_off337 (k0_t11 : Fin k0_t11_loop.trips) : Fin 2 → Nat :=
  let c16_i32_720 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk382 (v1019 : IVec S16 32) : Prop :=
  (∀ a x, ((![v1019] : Fin 1 → IVec S16 32) a x).toNat < S112.size a)
theorem k0_idx382_inb : ∀ (v1019 : IVec S16 32) (k0_hw382 : k0_chk382 v1019), ∀ a x, ((![v1019] : Fin 1 → IVec S16 32) a x).toNat < S112.size a := fun v1019 k0_hw382 => k0_hw382
def k0_off338 (k0_t11 : Fin k0_t11_loop.trips) : Fin 2 → Nat :=
  let c32_i32_723 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk383 (v1026 : IVec S16 32) : Prop :=
  (∀ a x, ((![v1026] : Fin 1 → IVec S16 32) a x).toNat < S112.size a)
theorem k0_idx383_inb : ∀ (v1026 : IVec S16 32) (k0_hw383 : k0_chk383 v1026), ∀ a x, ((![v1026] : Fin 1 → IVec S16 32) a x).toNat < S112.size a := fun v1026 k0_hw383 => k0_hw383
def k0_off339 (k0_t11 : Fin k0_t11_loop.trips) : Fin 2 → Nat :=
  let c48_i32_726 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off340 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk384 (v1035 : IVec S16 32) : Prop :=
  (∀ a x, ((![v1035] : Fin 1 → IVec S16 32) a x).toNat < S112.size a)
theorem k0_idx384_inb : ∀ (v1035 : IVec S16 32) (k0_hw384 : k0_chk384 v1035), ∀ a x, ((![v1035] : Fin 1 → IVec S16 32) a x).toNat < S112.size a := fun v1035 k0_hw384 => k0_hw384
def k0_off341 (k0_t11 : Fin k0_t11_loop.trips) : Fin 2 → Nat :=
  let c0_i32_730 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk385 (v1042 : IVec S16 32) : Prop :=
  (∀ a x, ((![v1042] : Fin 1 → IVec S16 32) a x).toNat < S112.size a)
theorem k0_idx385_inb : ∀ (v1042 : IVec S16 32) (k0_hw385 : k0_chk385 v1042), ∀ a x, ((![v1042] : Fin 1 → IVec S16 32) a x).toNat < S112.size a := fun v1042 k0_hw385 => k0_hw385
def k0_off342 (k0_t11 : Fin k0_t11_loop.trips) : Fin 2 → Nat :=
  let c16_i32_733 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk386 (v1049 : IVec S16 32) : Prop :=
  (∀ a x, ((![v1049] : Fin 1 → IVec S16 32) a x).toNat < S112.size a)
theorem k0_idx386_inb : ∀ (v1049 : IVec S16 32) (k0_hw386 : k0_chk386 v1049), ∀ a x, ((![v1049] : Fin 1 → IVec S16 32) a x).toNat < S112.size a := fun v1049 k0_hw386 => k0_hw386
def k0_off343 (k0_t11 : Fin k0_t11_loop.trips) : Fin 2 → Nat :=
  let c32_i32_736 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk387 (v1056 : IVec S16 32) : Prop :=
  (∀ a x, ((![v1056] : Fin 1 → IVec S16 32) a x).toNat < S112.size a)
theorem k0_idx387_inb : ∀ (v1056 : IVec S16 32) (k0_hw387 : k0_chk387 v1056), ∀ a x, ((![v1056] : Fin 1 → IVec S16 32) a x).toNat < S112.size a := fun v1056 k0_hw387 => k0_hw387
def k0_off344 (k0_t11 : Fin k0_t11_loop.trips) : Fin 2 → Nat :=
  let c48_i32_739 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off345 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk388 (v1065 : IVec S16 32) : Prop :=
  (∀ a x, ((![v1065] : Fin 1 → IVec S16 32) a x).toNat < S112.size a)
theorem k0_idx388_inb : ∀ (v1065 : IVec S16 32) (k0_hw388 : k0_chk388 v1065), ∀ a x, ((![v1065] : Fin 1 → IVec S16 32) a x).toNat < S112.size a := fun v1065 k0_hw388 => k0_hw388
def k0_off346 (k0_t11 : Fin k0_t11_loop.trips) : Fin 2 → Nat :=
  let c0_i32_743 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk389 (v1072 : IVec S16 32) : Prop :=
  (∀ a x, ((![v1072] : Fin 1 → IVec S16 32) a x).toNat < S112.size a)
theorem k0_idx389_inb : ∀ (v1072 : IVec S16 32) (k0_hw389 : k0_chk389 v1072), ∀ a x, ((![v1072] : Fin 1 → IVec S16 32) a x).toNat < S112.size a := fun v1072 k0_hw389 => k0_hw389
def k0_off347 (k0_t11 : Fin k0_t11_loop.trips) : Fin 2 → Nat :=
  let c16_i32_746 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk390 (v1079 : IVec S16 32) : Prop :=
  (∀ a x, ((![v1079] : Fin 1 → IVec S16 32) a x).toNat < S112.size a)
theorem k0_idx390_inb : ∀ (v1079 : IVec S16 32) (k0_hw390 : k0_chk390 v1079), ∀ a x, ((![v1079] : Fin 1 → IVec S16 32) a x).toNat < S112.size a := fun v1079 k0_hw390 => k0_hw390
def k0_off348 (k0_t11 : Fin k0_t11_loop.trips) : Fin 2 → Nat :=
  let c32_i32_749 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk391 (v1086 : IVec S16 32) : Prop :=
  (∀ a x, ((![v1086] : Fin 1 → IVec S16 32) a x).toNat < S112.size a)
theorem k0_idx391_inb : ∀ (v1086 : IVec S16 32) (k0_hw391 : k0_chk391 v1086), ∀ a x, ((![v1086] : Fin 1 → IVec S16 32) a x).toNat < S112.size a := fun v1086 k0_hw391 => k0_hw391
def k0_off349 (k0_t11 : Fin k0_t11_loop.trips) : Fin 2 → Nat :=
  let c48_i32_752 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off350 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk392 (v1095 : IVec S16 32) : Prop :=
  (∀ a x, ((![v1095] : Fin 1 → IVec S16 32) a x).toNat < S112.size a)
theorem k0_idx392_inb : ∀ (v1095 : IVec S16 32) (k0_hw392 : k0_chk392 v1095), ∀ a x, ((![v1095] : Fin 1 → IVec S16 32) a x).toNat < S112.size a := fun v1095 k0_hw392 => k0_hw392
def k0_off351 (k0_t11 : Fin k0_t11_loop.trips) : Fin 2 → Nat :=
  let c0_i32_756 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk393 (v1102 : IVec S16 32) : Prop :=
  (∀ a x, ((![v1102] : Fin 1 → IVec S16 32) a x).toNat < S112.size a)
theorem k0_idx393_inb : ∀ (v1102 : IVec S16 32) (k0_hw393 : k0_chk393 v1102), ∀ a x, ((![v1102] : Fin 1 → IVec S16 32) a x).toNat < S112.size a := fun v1102 k0_hw393 => k0_hw393
def k0_off352 (k0_t11 : Fin k0_t11_loop.trips) : Fin 2 → Nat :=
  let c16_i32_759 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk394 (v1109 : IVec S16 32) : Prop :=
  (∀ a x, ((![v1109] : Fin 1 → IVec S16 32) a x).toNat < S112.size a)
theorem k0_idx394_inb : ∀ (v1109 : IVec S16 32) (k0_hw394 : k0_chk394 v1109), ∀ a x, ((![v1109] : Fin 1 → IVec S16 32) a x).toNat < S112.size a := fun v1109 k0_hw394 => k0_hw394
def k0_off353 (k0_t11 : Fin k0_t11_loop.trips) : Fin 2 → Nat :=
  let c32_i32_762 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk395 (v1116 : IVec S16 32) : Prop :=
  (∀ a x, ((![v1116] : Fin 1 → IVec S16 32) a x).toNat < S112.size a)
theorem k0_idx395_inb : ∀ (v1116 : IVec S16 32) (k0_hw395 : k0_chk395 v1116), ∀ a x, ((![v1116] : Fin 1 → IVec S16 32) a x).toNat < S112.size a := fun v1116 k0_hw395 => k0_hw395
def k0_off354 (k0_t11 : Fin k0_t11_loop.trips) : Fin 2 → Nat :=
  let c48_i32_765 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off355 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk396 (v1125 : IVec S16 32) : Prop :=
  (∀ a x, ((![v1125] : Fin 1 → IVec S16 32) a x).toNat < S112.size a)
theorem k0_idx396_inb : ∀ (v1125 : IVec S16 32) (k0_hw396 : k0_chk396 v1125), ∀ a x, ((![v1125] : Fin 1 → IVec S16 32) a x).toNat < S112.size a := fun v1125 k0_hw396 => k0_hw396
def k0_off356 (k0_t11 : Fin k0_t11_loop.trips) : Fin 2 → Nat :=
  let c0_i32_769 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk397 (v1132 : IVec S16 32) : Prop :=
  (∀ a x, ((![v1132] : Fin 1 → IVec S16 32) a x).toNat < S112.size a)
theorem k0_idx397_inb : ∀ (v1132 : IVec S16 32) (k0_hw397 : k0_chk397 v1132), ∀ a x, ((![v1132] : Fin 1 → IVec S16 32) a x).toNat < S112.size a := fun v1132 k0_hw397 => k0_hw397
def k0_off357 (k0_t11 : Fin k0_t11_loop.trips) : Fin 2 → Nat :=
  let c16_i32_772 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk398 (v1139 : IVec S16 32) : Prop :=
  (∀ a x, ((![v1139] : Fin 1 → IVec S16 32) a x).toNat < S112.size a)
theorem k0_idx398_inb : ∀ (v1139 : IVec S16 32) (k0_hw398 : k0_chk398 v1139), ∀ a x, ((![v1139] : Fin 1 → IVec S16 32) a x).toNat < S112.size a := fun v1139 k0_hw398 => k0_hw398
def k0_off358 (k0_t11 : Fin k0_t11_loop.trips) : Fin 2 → Nat :=
  let c32_i32_775 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk399 (v1146 : IVec S16 32) : Prop :=
  (∀ a x, ((![v1146] : Fin 1 → IVec S16 32) a x).toNat < S112.size a)
theorem k0_idx399_inb : ∀ (v1146 : IVec S16 32) (k0_hw399 : k0_chk399 v1146), ∀ a x, ((![v1146] : Fin 1 → IVec S16 32) a x).toNat < S112.size a := fun v1146 k0_hw399 => k0_hw399
def k0_off359 (k0_t11 : Fin k0_t11_loop.trips) : Fin 2 → Nat :=
  let c48_i32_778 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off360 (k0_t11 : Fin k0_t11_loop.trips) : Fin 2 → Nat :=
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk400 (v1155 : IVec S16 32) : Prop :=
  (∀ a x, ((![v1155] : Fin 1 → IVec S16 32) a x).toNat < S112.size a)
theorem k0_idx400_inb : ∀ (v1155 : IVec S16 32) (k0_hw400 : k0_chk400 v1155), ∀ a x, ((![v1155] : Fin 1 → IVec S16 32) a x).toNat < S112.size a := fun v1155 k0_hw400 => k0_hw400
def k0_off361 (k0_t11 : Fin k0_t11_loop.trips) : Fin 2 → Nat :=
  let c0_i32_781 : BitVec 32 := 0#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk401 (v1162 : IVec S16 32) : Prop :=
  (∀ a x, ((![v1162] : Fin 1 → IVec S16 32) a x).toNat < S112.size a)
theorem k0_idx401_inb : ∀ (v1162 : IVec S16 32) (k0_hw401 : k0_chk401 v1162), ∀ a x, ((![v1162] : Fin 1 → IVec S16 32) a x).toNat < S112.size a := fun v1162 k0_hw401 => k0_hw401
def k0_off362 (k0_t11 : Fin k0_t11_loop.trips) : Fin 2 → Nat :=
  let c16_i32_784 : BitVec 32 := 16#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk402 (v1169 : IVec S16 32) : Prop :=
  (∀ a x, ((![v1169] : Fin 1 → IVec S16 32) a x).toNat < S112.size a)
theorem k0_idx402_inb : ∀ (v1169 : IVec S16 32) (k0_hw402 : k0_chk402 v1169), ∀ a x, ((![v1169] : Fin 1 → IVec S16 32) a x).toNat < S112.size a := fun v1169 k0_hw402 => k0_hw402
def k0_off363 (k0_t11 : Fin k0_t11_loop.trips) : Fin 2 → Nat :=
  let c32_i32_787 : BitVec 32 := 32#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk403 (v1176 : IVec S16 32) : Prop :=
  (∀ a x, ((![v1176] : Fin 1 → IVec S16 32) a x).toNat < S112.size a)
theorem k0_idx403_inb : ∀ (v1176 : IVec S16 32) (k0_hw403 : k0_chk403 v1176), ∀ a x, ((![v1176] : Fin 1 → IVec S16 32) a x).toNat < S112.size a := fun v1176 k0_hw403 => k0_hw403
def k0_off364 (k0_t11 : Fin k0_t11_loop.trips) : Fin 2 → Nat :=
  let c48_i32_790 : BitVec 32 := 48#32
  let c0_i32_637 : BitVec 32 := 0#32
  let c0_i32_414 : BitVec 32 := 0#32
  let c1_i32_416 : BitVec 32 := 1#32
  let arg17 : BitVec 32 := Scf.iv c0_i32_414 c1_i32_416 k0_t11
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t12_loop : Scf.Loop 32 :=
  let c0_i32_418 : BitVec 32 := 0#32
  let c8_i32_419 : BitVec 32 := 8#32
  let v671 : BitVec 32 := Scalar.addi c0_i32_418 c8_i32_419
  let c1_i32_420 : BitVec 32 := 1#32
  ⟨c0_i32_418, v671, c1_i32_420⟩

def k0_chk404 (v447 : IVec S16 32) (v823 : IVec S16 32) : Prop :=
  (∀ a x, ((![v823, v447] : Fin 2 → IVec S16 32) a x).toNat < S16x200.size a)
theorem k0_idx404_inb : ∀ (v447 : IVec S16 32) (v823 : IVec S16 32) (k0_hw404 : k0_chk404 v447 v823), ∀ a x, ((![v823, v447] : Fin 2 → IVec S16 32) a x).toNat < S16x200.size a := fun v447 v823 k0_hw404 => k0_hw404

def k0_chk405 (v827 : IVec S16 32) : Prop :=
  (∀ a x, ((![v827] : Fin 1 → IVec S16 32) a x).toNat < S112.size a)
theorem k0_idx405_inb : ∀ (v827 : IVec S16 32) (k0_hw405 : k0_chk405 v827), ∀ a x, ((![v827] : Fin 1 → IVec S16 32) a x).toNat < S112.size a := fun v827 k0_hw405 => k0_hw405

def k0_chk406 (v447 : IVec S16 32) (v829 : IVec S16 32) : Prop :=
  (∀ a x, ((![v829, v447] : Fin 2 → IVec S16 32) a x).toNat < S64x200.size a)
theorem k0_idx406_inb : ∀ (v447 : IVec S16 32) (v829 : IVec S16 32) (k0_hw406 : k0_chk406 v447 v829), ∀ a x, ((![v829, v447] : Fin 2 → IVec S16 32) a x).toNat < S64x200.size a := fun v447 v829 k0_hw406 => k0_hw406

def k0_chk407 (v833 : IVec S16 32) : Prop :=
  (∀ a x, ((![v833] : Fin 1 → IVec S16 32) a x).toNat < S112.size a)
theorem k0_idx407_inb : ∀ (v833 : IVec S16 32) (k0_hw407 : k0_chk407 v833), ∀ a x, ((![v833] : Fin 1 → IVec S16 32) a x).toNat < S112.size a := fun v833 k0_hw407 => k0_hw407

def k0_chk408 (v447 : IVec S16 32) (v835 : IVec S16 32) : Prop :=
  (∀ a x, ((![v835, v447] : Fin 2 → IVec S16 32) a x).toNat < S64x200.size a)
theorem k0_idx408_inb : ∀ (v447 : IVec S16 32) (v835 : IVec S16 32) (k0_hw408 : k0_chk408 v447 v835), ∀ a x, ((![v835, v447] : Fin 2 → IVec S16 32) a x).toNat < S64x200.size a := fun v447 v835 k0_hw408 => k0_hw408

def k0_chk409 (v839 : IVec S16 32) : Prop :=
  (∀ a x, ((![v839] : Fin 1 → IVec S16 32) a x).toNat < S112.size a)
theorem k0_idx409_inb : ∀ (v839 : IVec S16 32) (k0_hw409 : k0_chk409 v839), ∀ a x, ((![v839] : Fin 1 → IVec S16 32) a x).toNat < S112.size a := fun v839 k0_hw409 => k0_hw409

def k0_chk410 (v447 : IVec S16 32) (v841 : IVec S16 32) : Prop :=
  (∀ a x, ((![v841, v447] : Fin 2 → IVec S16 32) a x).toNat < S64x200.size a)
theorem k0_idx410_inb : ∀ (v447 : IVec S16 32) (v841 : IVec S16 32) (k0_hw410 : k0_chk410 v447 v841), ∀ a x, ((![v841, v447] : Fin 2 → IVec S16 32) a x).toNat < S64x200.size a := fun v447 v841 k0_hw410 => k0_hw410

def k0_chk411 (v845 : IVec S16 32) : Prop :=
  (∀ a x, ((![v845] : Fin 1 → IVec S16 32) a x).toNat < S112.size a)
theorem k0_idx411_inb : ∀ (v845 : IVec S16 32) (k0_hw411 : k0_chk411 v845), ∀ a x, ((![v845] : Fin 1 → IVec S16 32) a x).toNat < S112.size a := fun v845 k0_hw411 => k0_hw411

def k0_chk412 (v447 : IVec S16 32) (v847 : IVec S16 32) : Prop :=
  (∀ a x, ((![v847, v447] : Fin 2 → IVec S16 32) a x).toNat < S64x200.size a)
theorem k0_idx412_inb : ∀ (v447 : IVec S16 32) (v847 : IVec S16 32) (k0_hw412 : k0_chk412 v447 v847), ∀ a x, ((![v847, v447] : Fin 2 → IVec S16 32) a x).toNat < S64x200.size a := fun v447 v847 k0_hw412 => k0_hw412
@[reducible] def k0_t13_loop : Scf.Loop 32 :=
  let c0_i32_482 : BitVec 32 := 0#32
  let c16_i32_483 : BitVec 32 := 16#32
  let v717 : BitVec 32 := Scalar.addi c0_i32_482 c16_i32_483
  let c1_i32_484 : BitVec 32 := 1#32
  ⟨c0_i32_482, v717, c1_i32_484⟩
def k0_off365 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk413 (v825 : IVec S16 32) : Prop :=
  (∀ a x, ((![v825] : Fin 1 → IVec S16 32) a x).toNat < S112.size a)
theorem k0_idx413_inb : ∀ (v825 : IVec S16 32) (k0_hw413 : k0_chk413 v825), ∀ a x, ((![v825] : Fin 1 → IVec S16 32) a x).toNat < S112.size a := fun v825 k0_hw413 => k0_hw413
def k0_off366 (k0_t13 : Fin k0_t13_loop.trips) : Fin 2 → Nat :=
  let c0_i32_640 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk414 (v832 : IVec S16 32) : Prop :=
  (∀ a x, ((![v832] : Fin 1 → IVec S16 32) a x).toNat < S112.size a)
theorem k0_idx414_inb : ∀ (v832 : IVec S16 32) (k0_hw414 : k0_chk414 v832), ∀ a x, ((![v832] : Fin 1 → IVec S16 32) a x).toNat < S112.size a := fun v832 k0_hw414 => k0_hw414
def k0_off367 (k0_t13 : Fin k0_t13_loop.trips) : Fin 2 → Nat :=
  let c16_i32_643 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk415 (v839 : IVec S16 32) : Prop :=
  (∀ a x, ((![v839] : Fin 1 → IVec S16 32) a x).toNat < S112.size a)
theorem k0_idx415_inb : ∀ (v839 : IVec S16 32) (k0_hw415 : k0_chk415 v839), ∀ a x, ((![v839] : Fin 1 → IVec S16 32) a x).toNat < S112.size a := fun v839 k0_hw415 => k0_hw415
def k0_off368 (k0_t13 : Fin k0_t13_loop.trips) : Fin 2 → Nat :=
  let c32_i32_646 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk416 (v846 : IVec S16 32) : Prop :=
  (∀ a x, ((![v846] : Fin 1 → IVec S16 32) a x).toNat < S112.size a)
theorem k0_idx416_inb : ∀ (v846 : IVec S16 32) (k0_hw416 : k0_chk416 v846), ∀ a x, ((![v846] : Fin 1 → IVec S16 32) a x).toNat < S112.size a := fun v846 k0_hw416 => k0_hw416
def k0_off369 (k0_t13 : Fin k0_t13_loop.trips) : Fin 2 → Nat :=
  let c48_i32_648 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off370 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk417 (v855 : IVec S16 32) : Prop :=
  (∀ a x, ((![v855] : Fin 1 → IVec S16 32) a x).toNat < S112.size a)
theorem k0_idx417_inb : ∀ (v855 : IVec S16 32) (k0_hw417 : k0_chk417 v855), ∀ a x, ((![v855] : Fin 1 → IVec S16 32) a x).toNat < S112.size a := fun v855 k0_hw417 => k0_hw417
def k0_off371 (k0_t13 : Fin k0_t13_loop.trips) : Fin 2 → Nat :=
  let c0_i32_652 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk418 (v862 : IVec S16 32) : Prop :=
  (∀ a x, ((![v862] : Fin 1 → IVec S16 32) a x).toNat < S112.size a)
theorem k0_idx418_inb : ∀ (v862 : IVec S16 32) (k0_hw418 : k0_chk418 v862), ∀ a x, ((![v862] : Fin 1 → IVec S16 32) a x).toNat < S112.size a := fun v862 k0_hw418 => k0_hw418
def k0_off372 (k0_t13 : Fin k0_t13_loop.trips) : Fin 2 → Nat :=
  let c16_i32_655 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk419 (v869 : IVec S16 32) : Prop :=
  (∀ a x, ((![v869] : Fin 1 → IVec S16 32) a x).toNat < S112.size a)
theorem k0_idx419_inb : ∀ (v869 : IVec S16 32) (k0_hw419 : k0_chk419 v869), ∀ a x, ((![v869] : Fin 1 → IVec S16 32) a x).toNat < S112.size a := fun v869 k0_hw419 => k0_hw419
def k0_off373 (k0_t13 : Fin k0_t13_loop.trips) : Fin 2 → Nat :=
  let c32_i32_658 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk420 (v876 : IVec S16 32) : Prop :=
  (∀ a x, ((![v876] : Fin 1 → IVec S16 32) a x).toNat < S112.size a)
theorem k0_idx420_inb : ∀ (v876 : IVec S16 32) (k0_hw420 : k0_chk420 v876), ∀ a x, ((![v876] : Fin 1 → IVec S16 32) a x).toNat < S112.size a := fun v876 k0_hw420 => k0_hw420
def k0_off374 (k0_t13 : Fin k0_t13_loop.trips) : Fin 2 → Nat :=
  let c48_i32_661 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off375 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk421 (v885 : IVec S16 32) : Prop :=
  (∀ a x, ((![v885] : Fin 1 → IVec S16 32) a x).toNat < S112.size a)
theorem k0_idx421_inb : ∀ (v885 : IVec S16 32) (k0_hw421 : k0_chk421 v885), ∀ a x, ((![v885] : Fin 1 → IVec S16 32) a x).toNat < S112.size a := fun v885 k0_hw421 => k0_hw421
def k0_off376 (k0_t13 : Fin k0_t13_loop.trips) : Fin 2 → Nat :=
  let c0_i32_665 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk422 (v892 : IVec S16 32) : Prop :=
  (∀ a x, ((![v892] : Fin 1 → IVec S16 32) a x).toNat < S112.size a)
theorem k0_idx422_inb : ∀ (v892 : IVec S16 32) (k0_hw422 : k0_chk422 v892), ∀ a x, ((![v892] : Fin 1 → IVec S16 32) a x).toNat < S112.size a := fun v892 k0_hw422 => k0_hw422
def k0_off377 (k0_t13 : Fin k0_t13_loop.trips) : Fin 2 → Nat :=
  let c16_i32_668 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk423 (v899 : IVec S16 32) : Prop :=
  (∀ a x, ((![v899] : Fin 1 → IVec S16 32) a x).toNat < S112.size a)
theorem k0_idx423_inb : ∀ (v899 : IVec S16 32) (k0_hw423 : k0_chk423 v899), ∀ a x, ((![v899] : Fin 1 → IVec S16 32) a x).toNat < S112.size a := fun v899 k0_hw423 => k0_hw423
def k0_off378 (k0_t13 : Fin k0_t13_loop.trips) : Fin 2 → Nat :=
  let c32_i32_671 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk424 (v906 : IVec S16 32) : Prop :=
  (∀ a x, ((![v906] : Fin 1 → IVec S16 32) a x).toNat < S112.size a)
theorem k0_idx424_inb : ∀ (v906 : IVec S16 32) (k0_hw424 : k0_chk424 v906), ∀ a x, ((![v906] : Fin 1 → IVec S16 32) a x).toNat < S112.size a := fun v906 k0_hw424 => k0_hw424
def k0_off379 (k0_t13 : Fin k0_t13_loop.trips) : Fin 2 → Nat :=
  let c48_i32_674 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off380 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk425 (v915 : IVec S16 32) : Prop :=
  (∀ a x, ((![v915] : Fin 1 → IVec S16 32) a x).toNat < S112.size a)
theorem k0_idx425_inb : ∀ (v915 : IVec S16 32) (k0_hw425 : k0_chk425 v915), ∀ a x, ((![v915] : Fin 1 → IVec S16 32) a x).toNat < S112.size a := fun v915 k0_hw425 => k0_hw425
def k0_off381 (k0_t13 : Fin k0_t13_loop.trips) : Fin 2 → Nat :=
  let c0_i32_678 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk426 (v922 : IVec S16 32) : Prop :=
  (∀ a x, ((![v922] : Fin 1 → IVec S16 32) a x).toNat < S112.size a)
theorem k0_idx426_inb : ∀ (v922 : IVec S16 32) (k0_hw426 : k0_chk426 v922), ∀ a x, ((![v922] : Fin 1 → IVec S16 32) a x).toNat < S112.size a := fun v922 k0_hw426 => k0_hw426
def k0_off382 (k0_t13 : Fin k0_t13_loop.trips) : Fin 2 → Nat :=
  let c16_i32_681 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk427 (v929 : IVec S16 32) : Prop :=
  (∀ a x, ((![v929] : Fin 1 → IVec S16 32) a x).toNat < S112.size a)
theorem k0_idx427_inb : ∀ (v929 : IVec S16 32) (k0_hw427 : k0_chk427 v929), ∀ a x, ((![v929] : Fin 1 → IVec S16 32) a x).toNat < S112.size a := fun v929 k0_hw427 => k0_hw427
def k0_off383 (k0_t13 : Fin k0_t13_loop.trips) : Fin 2 → Nat :=
  let c32_i32_684 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk428 (v936 : IVec S16 32) : Prop :=
  (∀ a x, ((![v936] : Fin 1 → IVec S16 32) a x).toNat < S112.size a)
theorem k0_idx428_inb : ∀ (v936 : IVec S16 32) (k0_hw428 : k0_chk428 v936), ∀ a x, ((![v936] : Fin 1 → IVec S16 32) a x).toNat < S112.size a := fun v936 k0_hw428 => k0_hw428
def k0_off384 (k0_t13 : Fin k0_t13_loop.trips) : Fin 2 → Nat :=
  let c48_i32_687 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off385 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk429 (v945 : IVec S16 32) : Prop :=
  (∀ a x, ((![v945] : Fin 1 → IVec S16 32) a x).toNat < S112.size a)
theorem k0_idx429_inb : ∀ (v945 : IVec S16 32) (k0_hw429 : k0_chk429 v945), ∀ a x, ((![v945] : Fin 1 → IVec S16 32) a x).toNat < S112.size a := fun v945 k0_hw429 => k0_hw429
def k0_off386 (k0_t13 : Fin k0_t13_loop.trips) : Fin 2 → Nat :=
  let c0_i32_691 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk430 (v952 : IVec S16 32) : Prop :=
  (∀ a x, ((![v952] : Fin 1 → IVec S16 32) a x).toNat < S112.size a)
theorem k0_idx430_inb : ∀ (v952 : IVec S16 32) (k0_hw430 : k0_chk430 v952), ∀ a x, ((![v952] : Fin 1 → IVec S16 32) a x).toNat < S112.size a := fun v952 k0_hw430 => k0_hw430
def k0_off387 (k0_t13 : Fin k0_t13_loop.trips) : Fin 2 → Nat :=
  let c16_i32_694 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk431 (v959 : IVec S16 32) : Prop :=
  (∀ a x, ((![v959] : Fin 1 → IVec S16 32) a x).toNat < S112.size a)
theorem k0_idx431_inb : ∀ (v959 : IVec S16 32) (k0_hw431 : k0_chk431 v959), ∀ a x, ((![v959] : Fin 1 → IVec S16 32) a x).toNat < S112.size a := fun v959 k0_hw431 => k0_hw431
def k0_off388 (k0_t13 : Fin k0_t13_loop.trips) : Fin 2 → Nat :=
  let c32_i32_697 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk432 (v966 : IVec S16 32) : Prop :=
  (∀ a x, ((![v966] : Fin 1 → IVec S16 32) a x).toNat < S112.size a)
theorem k0_idx432_inb : ∀ (v966 : IVec S16 32) (k0_hw432 : k0_chk432 v966), ∀ a x, ((![v966] : Fin 1 → IVec S16 32) a x).toNat < S112.size a := fun v966 k0_hw432 => k0_hw432
def k0_off389 (k0_t13 : Fin k0_t13_loop.trips) : Fin 2 → Nat :=
  let c48_i32_700 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off390 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk433 (v975 : IVec S16 32) : Prop :=
  (∀ a x, ((![v975] : Fin 1 → IVec S16 32) a x).toNat < S112.size a)
theorem k0_idx433_inb : ∀ (v975 : IVec S16 32) (k0_hw433 : k0_chk433 v975), ∀ a x, ((![v975] : Fin 1 → IVec S16 32) a x).toNat < S112.size a := fun v975 k0_hw433 => k0_hw433
def k0_off391 (k0_t13 : Fin k0_t13_loop.trips) : Fin 2 → Nat :=
  let c0_i32_704 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk434 (v982 : IVec S16 32) : Prop :=
  (∀ a x, ((![v982] : Fin 1 → IVec S16 32) a x).toNat < S112.size a)
theorem k0_idx434_inb : ∀ (v982 : IVec S16 32) (k0_hw434 : k0_chk434 v982), ∀ a x, ((![v982] : Fin 1 → IVec S16 32) a x).toNat < S112.size a := fun v982 k0_hw434 => k0_hw434
def k0_off392 (k0_t13 : Fin k0_t13_loop.trips) : Fin 2 → Nat :=
  let c16_i32_707 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk435 (v989 : IVec S16 32) : Prop :=
  (∀ a x, ((![v989] : Fin 1 → IVec S16 32) a x).toNat < S112.size a)
theorem k0_idx435_inb : ∀ (v989 : IVec S16 32) (k0_hw435 : k0_chk435 v989), ∀ a x, ((![v989] : Fin 1 → IVec S16 32) a x).toNat < S112.size a := fun v989 k0_hw435 => k0_hw435
def k0_off393 (k0_t13 : Fin k0_t13_loop.trips) : Fin 2 → Nat :=
  let c32_i32_710 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk436 (v996 : IVec S16 32) : Prop :=
  (∀ a x, ((![v996] : Fin 1 → IVec S16 32) a x).toNat < S112.size a)
theorem k0_idx436_inb : ∀ (v996 : IVec S16 32) (k0_hw436 : k0_chk436 v996), ∀ a x, ((![v996] : Fin 1 → IVec S16 32) a x).toNat < S112.size a := fun v996 k0_hw436 => k0_hw436
def k0_off394 (k0_t13 : Fin k0_t13_loop.trips) : Fin 2 → Nat :=
  let c48_i32_713 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off395 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk437 (v1005 : IVec S16 32) : Prop :=
  (∀ a x, ((![v1005] : Fin 1 → IVec S16 32) a x).toNat < S112.size a)
theorem k0_idx437_inb : ∀ (v1005 : IVec S16 32) (k0_hw437 : k0_chk437 v1005), ∀ a x, ((![v1005] : Fin 1 → IVec S16 32) a x).toNat < S112.size a := fun v1005 k0_hw437 => k0_hw437
def k0_off396 (k0_t13 : Fin k0_t13_loop.trips) : Fin 2 → Nat :=
  let c0_i32_717 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk438 (v1012 : IVec S16 32) : Prop :=
  (∀ a x, ((![v1012] : Fin 1 → IVec S16 32) a x).toNat < S112.size a)
theorem k0_idx438_inb : ∀ (v1012 : IVec S16 32) (k0_hw438 : k0_chk438 v1012), ∀ a x, ((![v1012] : Fin 1 → IVec S16 32) a x).toNat < S112.size a := fun v1012 k0_hw438 => k0_hw438
def k0_off397 (k0_t13 : Fin k0_t13_loop.trips) : Fin 2 → Nat :=
  let c16_i32_720 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk439 (v1019 : IVec S16 32) : Prop :=
  (∀ a x, ((![v1019] : Fin 1 → IVec S16 32) a x).toNat < S112.size a)
theorem k0_idx439_inb : ∀ (v1019 : IVec S16 32) (k0_hw439 : k0_chk439 v1019), ∀ a x, ((![v1019] : Fin 1 → IVec S16 32) a x).toNat < S112.size a := fun v1019 k0_hw439 => k0_hw439
def k0_off398 (k0_t13 : Fin k0_t13_loop.trips) : Fin 2 → Nat :=
  let c32_i32_723 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk440 (v1026 : IVec S16 32) : Prop :=
  (∀ a x, ((![v1026] : Fin 1 → IVec S16 32) a x).toNat < S112.size a)
theorem k0_idx440_inb : ∀ (v1026 : IVec S16 32) (k0_hw440 : k0_chk440 v1026), ∀ a x, ((![v1026] : Fin 1 → IVec S16 32) a x).toNat < S112.size a := fun v1026 k0_hw440 => k0_hw440
def k0_off399 (k0_t13 : Fin k0_t13_loop.trips) : Fin 2 → Nat :=
  let c48_i32_726 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off400 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk441 (v1035 : IVec S16 32) : Prop :=
  (∀ a x, ((![v1035] : Fin 1 → IVec S16 32) a x).toNat < S112.size a)
theorem k0_idx441_inb : ∀ (v1035 : IVec S16 32) (k0_hw441 : k0_chk441 v1035), ∀ a x, ((![v1035] : Fin 1 → IVec S16 32) a x).toNat < S112.size a := fun v1035 k0_hw441 => k0_hw441
def k0_off401 (k0_t13 : Fin k0_t13_loop.trips) : Fin 2 → Nat :=
  let c0_i32_730 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk442 (v1042 : IVec S16 32) : Prop :=
  (∀ a x, ((![v1042] : Fin 1 → IVec S16 32) a x).toNat < S112.size a)
theorem k0_idx442_inb : ∀ (v1042 : IVec S16 32) (k0_hw442 : k0_chk442 v1042), ∀ a x, ((![v1042] : Fin 1 → IVec S16 32) a x).toNat < S112.size a := fun v1042 k0_hw442 => k0_hw442
def k0_off402 (k0_t13 : Fin k0_t13_loop.trips) : Fin 2 → Nat :=
  let c16_i32_733 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk443 (v1049 : IVec S16 32) : Prop :=
  (∀ a x, ((![v1049] : Fin 1 → IVec S16 32) a x).toNat < S112.size a)
theorem k0_idx443_inb : ∀ (v1049 : IVec S16 32) (k0_hw443 : k0_chk443 v1049), ∀ a x, ((![v1049] : Fin 1 → IVec S16 32) a x).toNat < S112.size a := fun v1049 k0_hw443 => k0_hw443
def k0_off403 (k0_t13 : Fin k0_t13_loop.trips) : Fin 2 → Nat :=
  let c32_i32_736 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk444 (v1056 : IVec S16 32) : Prop :=
  (∀ a x, ((![v1056] : Fin 1 → IVec S16 32) a x).toNat < S112.size a)
theorem k0_idx444_inb : ∀ (v1056 : IVec S16 32) (k0_hw444 : k0_chk444 v1056), ∀ a x, ((![v1056] : Fin 1 → IVec S16 32) a x).toNat < S112.size a := fun v1056 k0_hw444 => k0_hw444
def k0_off404 (k0_t13 : Fin k0_t13_loop.trips) : Fin 2 → Nat :=
  let c48_i32_739 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off405 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk445 (v1065 : IVec S16 32) : Prop :=
  (∀ a x, ((![v1065] : Fin 1 → IVec S16 32) a x).toNat < S112.size a)
theorem k0_idx445_inb : ∀ (v1065 : IVec S16 32) (k0_hw445 : k0_chk445 v1065), ∀ a x, ((![v1065] : Fin 1 → IVec S16 32) a x).toNat < S112.size a := fun v1065 k0_hw445 => k0_hw445
def k0_off406 (k0_t13 : Fin k0_t13_loop.trips) : Fin 2 → Nat :=
  let c0_i32_743 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk446 (v1072 : IVec S16 32) : Prop :=
  (∀ a x, ((![v1072] : Fin 1 → IVec S16 32) a x).toNat < S112.size a)
theorem k0_idx446_inb : ∀ (v1072 : IVec S16 32) (k0_hw446 : k0_chk446 v1072), ∀ a x, ((![v1072] : Fin 1 → IVec S16 32) a x).toNat < S112.size a := fun v1072 k0_hw446 => k0_hw446
def k0_off407 (k0_t13 : Fin k0_t13_loop.trips) : Fin 2 → Nat :=
  let c16_i32_746 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk447 (v1079 : IVec S16 32) : Prop :=
  (∀ a x, ((![v1079] : Fin 1 → IVec S16 32) a x).toNat < S112.size a)
theorem k0_idx447_inb : ∀ (v1079 : IVec S16 32) (k0_hw447 : k0_chk447 v1079), ∀ a x, ((![v1079] : Fin 1 → IVec S16 32) a x).toNat < S112.size a := fun v1079 k0_hw447 => k0_hw447
def k0_off408 (k0_t13 : Fin k0_t13_loop.trips) : Fin 2 → Nat :=
  let c32_i32_749 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk448 (v1086 : IVec S16 32) : Prop :=
  (∀ a x, ((![v1086] : Fin 1 → IVec S16 32) a x).toNat < S112.size a)
theorem k0_idx448_inb : ∀ (v1086 : IVec S16 32) (k0_hw448 : k0_chk448 v1086), ∀ a x, ((![v1086] : Fin 1 → IVec S16 32) a x).toNat < S112.size a := fun v1086 k0_hw448 => k0_hw448
def k0_off409 (k0_t13 : Fin k0_t13_loop.trips) : Fin 2 → Nat :=
  let c48_i32_752 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off410 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk449 (v1095 : IVec S16 32) : Prop :=
  (∀ a x, ((![v1095] : Fin 1 → IVec S16 32) a x).toNat < S112.size a)
theorem k0_idx449_inb : ∀ (v1095 : IVec S16 32) (k0_hw449 : k0_chk449 v1095), ∀ a x, ((![v1095] : Fin 1 → IVec S16 32) a x).toNat < S112.size a := fun v1095 k0_hw449 => k0_hw449
def k0_off411 (k0_t13 : Fin k0_t13_loop.trips) : Fin 2 → Nat :=
  let c0_i32_756 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk450 (v1102 : IVec S16 32) : Prop :=
  (∀ a x, ((![v1102] : Fin 1 → IVec S16 32) a x).toNat < S112.size a)
theorem k0_idx450_inb : ∀ (v1102 : IVec S16 32) (k0_hw450 : k0_chk450 v1102), ∀ a x, ((![v1102] : Fin 1 → IVec S16 32) a x).toNat < S112.size a := fun v1102 k0_hw450 => k0_hw450
def k0_off412 (k0_t13 : Fin k0_t13_loop.trips) : Fin 2 → Nat :=
  let c16_i32_759 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk451 (v1109 : IVec S16 32) : Prop :=
  (∀ a x, ((![v1109] : Fin 1 → IVec S16 32) a x).toNat < S112.size a)
theorem k0_idx451_inb : ∀ (v1109 : IVec S16 32) (k0_hw451 : k0_chk451 v1109), ∀ a x, ((![v1109] : Fin 1 → IVec S16 32) a x).toNat < S112.size a := fun v1109 k0_hw451 => k0_hw451
def k0_off413 (k0_t13 : Fin k0_t13_loop.trips) : Fin 2 → Nat :=
  let c32_i32_762 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk452 (v1116 : IVec S16 32) : Prop :=
  (∀ a x, ((![v1116] : Fin 1 → IVec S16 32) a x).toNat < S112.size a)
theorem k0_idx452_inb : ∀ (v1116 : IVec S16 32) (k0_hw452 : k0_chk452 v1116), ∀ a x, ((![v1116] : Fin 1 → IVec S16 32) a x).toNat < S112.size a := fun v1116 k0_hw452 => k0_hw452
def k0_off414 (k0_t13 : Fin k0_t13_loop.trips) : Fin 2 → Nat :=
  let c48_i32_765 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off415 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk453 (v1125 : IVec S16 32) : Prop :=
  (∀ a x, ((![v1125] : Fin 1 → IVec S16 32) a x).toNat < S112.size a)
theorem k0_idx453_inb : ∀ (v1125 : IVec S16 32) (k0_hw453 : k0_chk453 v1125), ∀ a x, ((![v1125] : Fin 1 → IVec S16 32) a x).toNat < S112.size a := fun v1125 k0_hw453 => k0_hw453
def k0_off416 (k0_t13 : Fin k0_t13_loop.trips) : Fin 2 → Nat :=
  let c0_i32_769 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk454 (v1132 : IVec S16 32) : Prop :=
  (∀ a x, ((![v1132] : Fin 1 → IVec S16 32) a x).toNat < S112.size a)
theorem k0_idx454_inb : ∀ (v1132 : IVec S16 32) (k0_hw454 : k0_chk454 v1132), ∀ a x, ((![v1132] : Fin 1 → IVec S16 32) a x).toNat < S112.size a := fun v1132 k0_hw454 => k0_hw454
def k0_off417 (k0_t13 : Fin k0_t13_loop.trips) : Fin 2 → Nat :=
  let c16_i32_772 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk455 (v1139 : IVec S16 32) : Prop :=
  (∀ a x, ((![v1139] : Fin 1 → IVec S16 32) a x).toNat < S112.size a)
theorem k0_idx455_inb : ∀ (v1139 : IVec S16 32) (k0_hw455 : k0_chk455 v1139), ∀ a x, ((![v1139] : Fin 1 → IVec S16 32) a x).toNat < S112.size a := fun v1139 k0_hw455 => k0_hw455
def k0_off418 (k0_t13 : Fin k0_t13_loop.trips) : Fin 2 → Nat :=
  let c32_i32_775 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk456 (v1146 : IVec S16 32) : Prop :=
  (∀ a x, ((![v1146] : Fin 1 → IVec S16 32) a x).toNat < S112.size a)
theorem k0_idx456_inb : ∀ (v1146 : IVec S16 32) (k0_hw456 : k0_chk456 v1146), ∀ a x, ((![v1146] : Fin 1 → IVec S16 32) a x).toNat < S112.size a := fun v1146 k0_hw456 => k0_hw456
def k0_off419 (k0_t13 : Fin k0_t13_loop.trips) : Fin 2 → Nat :=
  let c48_i32_778 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off420 (k0_t13 : Fin k0_t13_loop.trips) : Fin 2 → Nat :=
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk457 (v1155 : IVec S16 32) : Prop :=
  (∀ a x, ((![v1155] : Fin 1 → IVec S16 32) a x).toNat < S112.size a)
theorem k0_idx457_inb : ∀ (v1155 : IVec S16 32) (k0_hw457 : k0_chk457 v1155), ∀ a x, ((![v1155] : Fin 1 → IVec S16 32) a x).toNat < S112.size a := fun v1155 k0_hw457 => k0_hw457
def k0_off421 (k0_t13 : Fin k0_t13_loop.trips) : Fin 2 → Nat :=
  let c0_i32_781 : BitVec 32 := 0#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk458 (v1162 : IVec S16 32) : Prop :=
  (∀ a x, ((![v1162] : Fin 1 → IVec S16 32) a x).toNat < S112.size a)
theorem k0_idx458_inb : ∀ (v1162 : IVec S16 32) (k0_hw458 : k0_chk458 v1162), ∀ a x, ((![v1162] : Fin 1 → IVec S16 32) a x).toNat < S112.size a := fun v1162 k0_hw458 => k0_hw458
def k0_off422 (k0_t13 : Fin k0_t13_loop.trips) : Fin 2 → Nat :=
  let c16_i32_784 : BitVec 32 := 16#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk459 (v1169 : IVec S16 32) : Prop :=
  (∀ a x, ((![v1169] : Fin 1 → IVec S16 32) a x).toNat < S112.size a)
theorem k0_idx459_inb : ∀ (v1169 : IVec S16 32) (k0_hw459 : k0_chk459 v1169), ∀ a x, ((![v1169] : Fin 1 → IVec S16 32) a x).toNat < S112.size a := fun v1169 k0_hw459 => k0_hw459
def k0_off423 (k0_t13 : Fin k0_t13_loop.trips) : Fin 2 → Nat :=
  let c32_i32_787 : BitVec 32 := 32#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk460 (v1176 : IVec S16 32) : Prop :=
  (∀ a x, ((![v1176] : Fin 1 → IVec S16 32) a x).toNat < S112.size a)
theorem k0_idx460_inb : ∀ (v1176 : IVec S16 32) (k0_hw460 : k0_chk460 v1176), ∀ a x, ((![v1176] : Fin 1 → IVec S16 32) a x).toNat < S112.size a := fun v1176 k0_hw460 => k0_hw460
def k0_off424 (k0_t13 : Fin k0_t13_loop.trips) : Fin 2 → Nat :=
  let c48_i32_790 : BitVec 32 := 48#32
  let c0_i32_637 : BitVec 32 := 0#32
  let c0_i32_482 : BitVec 32 := 0#32
  let c1_i32_484 : BitVec 32 := 1#32
  let arg17 : BitVec 32 := Scf.iv c0_i32_482 c1_i32_484 k0_t13
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t14_loop : Scf.Loop 32 :=
  let c0_i32_486 : BitVec 32 := 0#32
  let c8_i32_487 : BitVec 32 := 8#32
  let v718 : BitVec 32 := Scalar.addi c0_i32_486 c8_i32_487
  let c1_i32_488 : BitVec 32 := 1#32
  ⟨c0_i32_486, v718, c1_i32_488⟩

def k0_chk461 (v447 : IVec S16 32) (v823 : IVec S16 32) : Prop :=
  (∀ a x, ((![v823, v447] : Fin 2 → IVec S16 32) a x).toNat < S16x200.size a)
theorem k0_idx461_inb : ∀ (v447 : IVec S16 32) (v823 : IVec S16 32) (k0_hw461 : k0_chk461 v447 v823), ∀ a x, ((![v823, v447] : Fin 2 → IVec S16 32) a x).toNat < S16x200.size a := fun v447 v823 k0_hw461 => k0_hw461

def k0_chk462 (v827 : IVec S16 32) : Prop :=
  (∀ a x, ((![v827] : Fin 1 → IVec S16 32) a x).toNat < S112.size a)
theorem k0_idx462_inb : ∀ (v827 : IVec S16 32) (k0_hw462 : k0_chk462 v827), ∀ a x, ((![v827] : Fin 1 → IVec S16 32) a x).toNat < S112.size a := fun v827 k0_hw462 => k0_hw462

def k0_chk463 (v447 : IVec S16 32) (v829 : IVec S16 32) : Prop :=
  (∀ a x, ((![v829, v447] : Fin 2 → IVec S16 32) a x).toNat < S64x200.size a)
theorem k0_idx463_inb : ∀ (v447 : IVec S16 32) (v829 : IVec S16 32) (k0_hw463 : k0_chk463 v447 v829), ∀ a x, ((![v829, v447] : Fin 2 → IVec S16 32) a x).toNat < S64x200.size a := fun v447 v829 k0_hw463 => k0_hw463

def k0_chk464 (v833 : IVec S16 32) : Prop :=
  (∀ a x, ((![v833] : Fin 1 → IVec S16 32) a x).toNat < S112.size a)
theorem k0_idx464_inb : ∀ (v833 : IVec S16 32) (k0_hw464 : k0_chk464 v833), ∀ a x, ((![v833] : Fin 1 → IVec S16 32) a x).toNat < S112.size a := fun v833 k0_hw464 => k0_hw464

def k0_chk465 (v447 : IVec S16 32) (v835 : IVec S16 32) : Prop :=
  (∀ a x, ((![v835, v447] : Fin 2 → IVec S16 32) a x).toNat < S64x200.size a)
theorem k0_idx465_inb : ∀ (v447 : IVec S16 32) (v835 : IVec S16 32) (k0_hw465 : k0_chk465 v447 v835), ∀ a x, ((![v835, v447] : Fin 2 → IVec S16 32) a x).toNat < S64x200.size a := fun v447 v835 k0_hw465 => k0_hw465

def k0_chk466 (v839 : IVec S16 32) : Prop :=
  (∀ a x, ((![v839] : Fin 1 → IVec S16 32) a x).toNat < S112.size a)
theorem k0_idx466_inb : ∀ (v839 : IVec S16 32) (k0_hw466 : k0_chk466 v839), ∀ a x, ((![v839] : Fin 1 → IVec S16 32) a x).toNat < S112.size a := fun v839 k0_hw466 => k0_hw466

def k0_chk467 (v447 : IVec S16 32) (v841 : IVec S16 32) : Prop :=
  (∀ a x, ((![v841, v447] : Fin 2 → IVec S16 32) a x).toNat < S64x200.size a)
theorem k0_idx467_inb : ∀ (v447 : IVec S16 32) (v841 : IVec S16 32) (k0_hw467 : k0_chk467 v447 v841), ∀ a x, ((![v841, v447] : Fin 2 → IVec S16 32) a x).toNat < S64x200.size a := fun v447 v841 k0_hw467 => k0_hw467

def k0_chk468 (v845 : IVec S16 32) : Prop :=
  (∀ a x, ((![v845] : Fin 1 → IVec S16 32) a x).toNat < S112.size a)
theorem k0_idx468_inb : ∀ (v845 : IVec S16 32) (k0_hw468 : k0_chk468 v845), ∀ a x, ((![v845] : Fin 1 → IVec S16 32) a x).toNat < S112.size a := fun v845 k0_hw468 => k0_hw468

def k0_chk469 (v447 : IVec S16 32) (v847 : IVec S16 32) : Prop :=
  (∀ a x, ((![v847, v447] : Fin 2 → IVec S16 32) a x).toNat < S64x200.size a)
theorem k0_idx469_inb : ∀ (v447 : IVec S16 32) (v847 : IVec S16 32) (k0_hw469 : k0_chk469 v447 v847), ∀ a x, ((![v847, v447] : Fin 2 → IVec S16 32) a x).toNat < S64x200.size a := fun v447 v847 k0_hw469 => k0_hw469
@[reducible] def k0_t15_loop : Scf.Loop 32 :=
  let c0_i32_548 : BitVec 32 := 0#32
  let c16_i32_549 : BitVec 32 := 16#32
  let v761 : BitVec 32 := Scalar.addi c0_i32_548 c16_i32_549
  let c1_i32_550 : BitVec 32 := 1#32
  ⟨c0_i32_548, v761, c1_i32_550⟩
def k0_off425 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v821 : Index := Scalar.indexCast v820
  let c0_638 : Index := 0#32
  ![v821.toNat, 0]

def k0_chk470 (v825 : IVec S16 32) : Prop :=
  (∀ a x, ((![v825] : Fin 1 → IVec S16 32) a x).toNat < S112.size a)
theorem k0_idx470_inb : ∀ (v825 : IVec S16 32) (k0_hw470 : k0_chk470 v825), ∀ a x, ((![v825] : Fin 1 → IVec S16 32) a x).toNat < S112.size a := fun v825 k0_hw470 => k0_hw470
def k0_off426 (k0_t15 : Fin k0_t15_loop.trips) : Fin 2 → Nat :=
  let c0_i32_640 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v827 : BitVec 32 := Scalar.addi c0_i32_640 v820
  let v828 : Index := Scalar.indexCast v827
  let c0_641 : Index := 0#32
  ![v828.toNat, 0]

def k0_chk471 (v832 : IVec S16 32) : Prop :=
  (∀ a x, ((![v832] : Fin 1 → IVec S16 32) a x).toNat < S112.size a)
theorem k0_idx471_inb : ∀ (v832 : IVec S16 32) (k0_hw471 : k0_chk471 v832), ∀ a x, ((![v832] : Fin 1 → IVec S16 32) a x).toNat < S112.size a := fun v832 k0_hw471 => k0_hw471
def k0_off427 (k0_t15 : Fin k0_t15_loop.trips) : Fin 2 → Nat :=
  let c16_i32_643 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v834 : BitVec 32 := Scalar.addi c16_i32_643 v820
  let v835 : Index := Scalar.indexCast v834
  let c0_644 : Index := 0#32
  ![v835.toNat, 0]

def k0_chk472 (v839 : IVec S16 32) : Prop :=
  (∀ a x, ((![v839] : Fin 1 → IVec S16 32) a x).toNat < S112.size a)
theorem k0_idx472_inb : ∀ (v839 : IVec S16 32) (k0_hw472 : k0_chk472 v839), ∀ a x, ((![v839] : Fin 1 → IVec S16 32) a x).toNat < S112.size a := fun v839 k0_hw472 => k0_hw472
def k0_off428 (k0_t15 : Fin k0_t15_loop.trips) : Fin 2 → Nat :=
  let c32_i32_646 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v841 : BitVec 32 := Scalar.addi c32_i32_646 v820
  let v842 : Index := Scalar.indexCast v841
  let c0_647 : Index := 0#32
  ![v842.toNat, 0]

def k0_chk473 (v846 : IVec S16 32) : Prop :=
  (∀ a x, ((![v846] : Fin 1 → IVec S16 32) a x).toNat < S112.size a)
theorem k0_idx473_inb : ∀ (v846 : IVec S16 32) (k0_hw473 : k0_chk473 v846), ∀ a x, ((![v846] : Fin 1 → IVec S16 32) a x).toNat < S112.size a := fun v846 k0_hw473 => k0_hw473
def k0_off429 (k0_t15 : Fin k0_t15_loop.trips) : Fin 2 → Nat :=
  let c48_i32_648 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v848 : BitVec 32 := Scalar.addi c48_i32_648 v820
  let v849 : Index := Scalar.indexCast v848
  let c0_649 : Index := 0#32
  ![v849.toNat, 0]
def k0_off430 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v851 : Index := Scalar.indexCast v820
  let c16_650 : Index := 16#32
  ![v851.toNat, 16]

def k0_chk474 (v855 : IVec S16 32) : Prop :=
  (∀ a x, ((![v855] : Fin 1 → IVec S16 32) a x).toNat < S112.size a)
theorem k0_idx474_inb : ∀ (v855 : IVec S16 32) (k0_hw474 : k0_chk474 v855), ∀ a x, ((![v855] : Fin 1 → IVec S16 32) a x).toNat < S112.size a := fun v855 k0_hw474 => k0_hw474
def k0_off431 (k0_t15 : Fin k0_t15_loop.trips) : Fin 2 → Nat :=
  let c0_i32_652 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v857 : BitVec 32 := Scalar.addi c0_i32_652 v820
  let v858 : Index := Scalar.indexCast v857
  let c16_653 : Index := 16#32
  ![v858.toNat, 16]

def k0_chk475 (v862 : IVec S16 32) : Prop :=
  (∀ a x, ((![v862] : Fin 1 → IVec S16 32) a x).toNat < S112.size a)
theorem k0_idx475_inb : ∀ (v862 : IVec S16 32) (k0_hw475 : k0_chk475 v862), ∀ a x, ((![v862] : Fin 1 → IVec S16 32) a x).toNat < S112.size a := fun v862 k0_hw475 => k0_hw475
def k0_off432 (k0_t15 : Fin k0_t15_loop.trips) : Fin 2 → Nat :=
  let c16_i32_655 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v864 : BitVec 32 := Scalar.addi c16_i32_655 v820
  let v865 : Index := Scalar.indexCast v864
  let c16_656 : Index := 16#32
  ![v865.toNat, 16]

def k0_chk476 (v869 : IVec S16 32) : Prop :=
  (∀ a x, ((![v869] : Fin 1 → IVec S16 32) a x).toNat < S112.size a)
theorem k0_idx476_inb : ∀ (v869 : IVec S16 32) (k0_hw476 : k0_chk476 v869), ∀ a x, ((![v869] : Fin 1 → IVec S16 32) a x).toNat < S112.size a := fun v869 k0_hw476 => k0_hw476
def k0_off433 (k0_t15 : Fin k0_t15_loop.trips) : Fin 2 → Nat :=
  let c32_i32_658 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v871 : BitVec 32 := Scalar.addi c32_i32_658 v820
  let v872 : Index := Scalar.indexCast v871
  let c16_659 : Index := 16#32
  ![v872.toNat, 16]

def k0_chk477 (v876 : IVec S16 32) : Prop :=
  (∀ a x, ((![v876] : Fin 1 → IVec S16 32) a x).toNat < S112.size a)
theorem k0_idx477_inb : ∀ (v876 : IVec S16 32) (k0_hw477 : k0_chk477 v876), ∀ a x, ((![v876] : Fin 1 → IVec S16 32) a x).toNat < S112.size a := fun v876 k0_hw477 => k0_hw477
def k0_off434 (k0_t15 : Fin k0_t15_loop.trips) : Fin 2 → Nat :=
  let c48_i32_661 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v878 : BitVec 32 := Scalar.addi c48_i32_661 v820
  let v879 : Index := Scalar.indexCast v878
  let c16_662 : Index := 16#32
  ![v879.toNat, 16]
def k0_off435 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v881 : Index := Scalar.indexCast v820
  let c32_663 : Index := 32#32
  ![v881.toNat, 32]

def k0_chk478 (v885 : IVec S16 32) : Prop :=
  (∀ a x, ((![v885] : Fin 1 → IVec S16 32) a x).toNat < S112.size a)
theorem k0_idx478_inb : ∀ (v885 : IVec S16 32) (k0_hw478 : k0_chk478 v885), ∀ a x, ((![v885] : Fin 1 → IVec S16 32) a x).toNat < S112.size a := fun v885 k0_hw478 => k0_hw478
def k0_off436 (k0_t15 : Fin k0_t15_loop.trips) : Fin 2 → Nat :=
  let c0_i32_665 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v887 : BitVec 32 := Scalar.addi c0_i32_665 v820
  let v888 : Index := Scalar.indexCast v887
  let c32_666 : Index := 32#32
  ![v888.toNat, 32]

def k0_chk479 (v892 : IVec S16 32) : Prop :=
  (∀ a x, ((![v892] : Fin 1 → IVec S16 32) a x).toNat < S112.size a)
theorem k0_idx479_inb : ∀ (v892 : IVec S16 32) (k0_hw479 : k0_chk479 v892), ∀ a x, ((![v892] : Fin 1 → IVec S16 32) a x).toNat < S112.size a := fun v892 k0_hw479 => k0_hw479
def k0_off437 (k0_t15 : Fin k0_t15_loop.trips) : Fin 2 → Nat :=
  let c16_i32_668 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v894 : BitVec 32 := Scalar.addi c16_i32_668 v820
  let v895 : Index := Scalar.indexCast v894
  let c32_669 : Index := 32#32
  ![v895.toNat, 32]

def k0_chk480 (v899 : IVec S16 32) : Prop :=
  (∀ a x, ((![v899] : Fin 1 → IVec S16 32) a x).toNat < S112.size a)
theorem k0_idx480_inb : ∀ (v899 : IVec S16 32) (k0_hw480 : k0_chk480 v899), ∀ a x, ((![v899] : Fin 1 → IVec S16 32) a x).toNat < S112.size a := fun v899 k0_hw480 => k0_hw480
def k0_off438 (k0_t15 : Fin k0_t15_loop.trips) : Fin 2 → Nat :=
  let c32_i32_671 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v901 : BitVec 32 := Scalar.addi c32_i32_671 v820
  let v902 : Index := Scalar.indexCast v901
  let c32_672 : Index := 32#32
  ![v902.toNat, 32]

def k0_chk481 (v906 : IVec S16 32) : Prop :=
  (∀ a x, ((![v906] : Fin 1 → IVec S16 32) a x).toNat < S112.size a)
theorem k0_idx481_inb : ∀ (v906 : IVec S16 32) (k0_hw481 : k0_chk481 v906), ∀ a x, ((![v906] : Fin 1 → IVec S16 32) a x).toNat < S112.size a := fun v906 k0_hw481 => k0_hw481
def k0_off439 (k0_t15 : Fin k0_t15_loop.trips) : Fin 2 → Nat :=
  let c48_i32_674 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v908 : BitVec 32 := Scalar.addi c48_i32_674 v820
  let v909 : Index := Scalar.indexCast v908
  let c32_675 : Index := 32#32
  ![v909.toNat, 32]
def k0_off440 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v911 : Index := Scalar.indexCast v820
  let c48_676 : Index := 48#32
  ![v911.toNat, 48]

def k0_chk482 (v915 : IVec S16 32) : Prop :=
  (∀ a x, ((![v915] : Fin 1 → IVec S16 32) a x).toNat < S112.size a)
theorem k0_idx482_inb : ∀ (v915 : IVec S16 32) (k0_hw482 : k0_chk482 v915), ∀ a x, ((![v915] : Fin 1 → IVec S16 32) a x).toNat < S112.size a := fun v915 k0_hw482 => k0_hw482
def k0_off441 (k0_t15 : Fin k0_t15_loop.trips) : Fin 2 → Nat :=
  let c0_i32_678 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v917 : BitVec 32 := Scalar.addi c0_i32_678 v820
  let v918 : Index := Scalar.indexCast v917
  let c48_679 : Index := 48#32
  ![v918.toNat, 48]

def k0_chk483 (v922 : IVec S16 32) : Prop :=
  (∀ a x, ((![v922] : Fin 1 → IVec S16 32) a x).toNat < S112.size a)
theorem k0_idx483_inb : ∀ (v922 : IVec S16 32) (k0_hw483 : k0_chk483 v922), ∀ a x, ((![v922] : Fin 1 → IVec S16 32) a x).toNat < S112.size a := fun v922 k0_hw483 => k0_hw483
def k0_off442 (k0_t15 : Fin k0_t15_loop.trips) : Fin 2 → Nat :=
  let c16_i32_681 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v924 : BitVec 32 := Scalar.addi c16_i32_681 v820
  let v925 : Index := Scalar.indexCast v924
  let c48_682 : Index := 48#32
  ![v925.toNat, 48]

def k0_chk484 (v929 : IVec S16 32) : Prop :=
  (∀ a x, ((![v929] : Fin 1 → IVec S16 32) a x).toNat < S112.size a)
theorem k0_idx484_inb : ∀ (v929 : IVec S16 32) (k0_hw484 : k0_chk484 v929), ∀ a x, ((![v929] : Fin 1 → IVec S16 32) a x).toNat < S112.size a := fun v929 k0_hw484 => k0_hw484
def k0_off443 (k0_t15 : Fin k0_t15_loop.trips) : Fin 2 → Nat :=
  let c32_i32_684 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v931 : BitVec 32 := Scalar.addi c32_i32_684 v820
  let v932 : Index := Scalar.indexCast v931
  let c48_685 : Index := 48#32
  ![v932.toNat, 48]

def k0_chk485 (v936 : IVec S16 32) : Prop :=
  (∀ a x, ((![v936] : Fin 1 → IVec S16 32) a x).toNat < S112.size a)
theorem k0_idx485_inb : ∀ (v936 : IVec S16 32) (k0_hw485 : k0_chk485 v936), ∀ a x, ((![v936] : Fin 1 → IVec S16 32) a x).toNat < S112.size a := fun v936 k0_hw485 => k0_hw485
def k0_off444 (k0_t15 : Fin k0_t15_loop.trips) : Fin 2 → Nat :=
  let c48_i32_687 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v938 : BitVec 32 := Scalar.addi c48_i32_687 v820
  let v939 : Index := Scalar.indexCast v938
  let c48_688 : Index := 48#32
  ![v939.toNat, 48]
def k0_off445 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v941 : Index := Scalar.indexCast v820
  let c64_689 : Index := 64#32
  ![v941.toNat, 64]

def k0_chk486 (v945 : IVec S16 32) : Prop :=
  (∀ a x, ((![v945] : Fin 1 → IVec S16 32) a x).toNat < S112.size a)
theorem k0_idx486_inb : ∀ (v945 : IVec S16 32) (k0_hw486 : k0_chk486 v945), ∀ a x, ((![v945] : Fin 1 → IVec S16 32) a x).toNat < S112.size a := fun v945 k0_hw486 => k0_hw486
def k0_off446 (k0_t15 : Fin k0_t15_loop.trips) : Fin 2 → Nat :=
  let c0_i32_691 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v947 : BitVec 32 := Scalar.addi c0_i32_691 v820
  let v948 : Index := Scalar.indexCast v947
  let c64_692 : Index := 64#32
  ![v948.toNat, 64]

def k0_chk487 (v952 : IVec S16 32) : Prop :=
  (∀ a x, ((![v952] : Fin 1 → IVec S16 32) a x).toNat < S112.size a)
theorem k0_idx487_inb : ∀ (v952 : IVec S16 32) (k0_hw487 : k0_chk487 v952), ∀ a x, ((![v952] : Fin 1 → IVec S16 32) a x).toNat < S112.size a := fun v952 k0_hw487 => k0_hw487
def k0_off447 (k0_t15 : Fin k0_t15_loop.trips) : Fin 2 → Nat :=
  let c16_i32_694 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v954 : BitVec 32 := Scalar.addi c16_i32_694 v820
  let v955 : Index := Scalar.indexCast v954
  let c64_695 : Index := 64#32
  ![v955.toNat, 64]

def k0_chk488 (v959 : IVec S16 32) : Prop :=
  (∀ a x, ((![v959] : Fin 1 → IVec S16 32) a x).toNat < S112.size a)
theorem k0_idx488_inb : ∀ (v959 : IVec S16 32) (k0_hw488 : k0_chk488 v959), ∀ a x, ((![v959] : Fin 1 → IVec S16 32) a x).toNat < S112.size a := fun v959 k0_hw488 => k0_hw488
def k0_off448 (k0_t15 : Fin k0_t15_loop.trips) : Fin 2 → Nat :=
  let c32_i32_697 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v961 : BitVec 32 := Scalar.addi c32_i32_697 v820
  let v962 : Index := Scalar.indexCast v961
  let c64_698 : Index := 64#32
  ![v962.toNat, 64]

def k0_chk489 (v966 : IVec S16 32) : Prop :=
  (∀ a x, ((![v966] : Fin 1 → IVec S16 32) a x).toNat < S112.size a)
theorem k0_idx489_inb : ∀ (v966 : IVec S16 32) (k0_hw489 : k0_chk489 v966), ∀ a x, ((![v966] : Fin 1 → IVec S16 32) a x).toNat < S112.size a := fun v966 k0_hw489 => k0_hw489
def k0_off449 (k0_t15 : Fin k0_t15_loop.trips) : Fin 2 → Nat :=
  let c48_i32_700 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v968 : BitVec 32 := Scalar.addi c48_i32_700 v820
  let v969 : Index := Scalar.indexCast v968
  let c64_701 : Index := 64#32
  ![v969.toNat, 64]
def k0_off450 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v971 : Index := Scalar.indexCast v820
  let c80_702 : Index := 80#32
  ![v971.toNat, 80]

def k0_chk490 (v975 : IVec S16 32) : Prop :=
  (∀ a x, ((![v975] : Fin 1 → IVec S16 32) a x).toNat < S112.size a)
theorem k0_idx490_inb : ∀ (v975 : IVec S16 32) (k0_hw490 : k0_chk490 v975), ∀ a x, ((![v975] : Fin 1 → IVec S16 32) a x).toNat < S112.size a := fun v975 k0_hw490 => k0_hw490
def k0_off451 (k0_t15 : Fin k0_t15_loop.trips) : Fin 2 → Nat :=
  let c0_i32_704 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v977 : BitVec 32 := Scalar.addi c0_i32_704 v820
  let v978 : Index := Scalar.indexCast v977
  let c80_705 : Index := 80#32
  ![v978.toNat, 80]

def k0_chk491 (v982 : IVec S16 32) : Prop :=
  (∀ a x, ((![v982] : Fin 1 → IVec S16 32) a x).toNat < S112.size a)
theorem k0_idx491_inb : ∀ (v982 : IVec S16 32) (k0_hw491 : k0_chk491 v982), ∀ a x, ((![v982] : Fin 1 → IVec S16 32) a x).toNat < S112.size a := fun v982 k0_hw491 => k0_hw491
def k0_off452 (k0_t15 : Fin k0_t15_loop.trips) : Fin 2 → Nat :=
  let c16_i32_707 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v984 : BitVec 32 := Scalar.addi c16_i32_707 v820
  let v985 : Index := Scalar.indexCast v984
  let c80_708 : Index := 80#32
  ![v985.toNat, 80]

def k0_chk492 (v989 : IVec S16 32) : Prop :=
  (∀ a x, ((![v989] : Fin 1 → IVec S16 32) a x).toNat < S112.size a)
theorem k0_idx492_inb : ∀ (v989 : IVec S16 32) (k0_hw492 : k0_chk492 v989), ∀ a x, ((![v989] : Fin 1 → IVec S16 32) a x).toNat < S112.size a := fun v989 k0_hw492 => k0_hw492
def k0_off453 (k0_t15 : Fin k0_t15_loop.trips) : Fin 2 → Nat :=
  let c32_i32_710 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v991 : BitVec 32 := Scalar.addi c32_i32_710 v820
  let v992 : Index := Scalar.indexCast v991
  let c80_711 : Index := 80#32
  ![v992.toNat, 80]

def k0_chk493 (v996 : IVec S16 32) : Prop :=
  (∀ a x, ((![v996] : Fin 1 → IVec S16 32) a x).toNat < S112.size a)
theorem k0_idx493_inb : ∀ (v996 : IVec S16 32) (k0_hw493 : k0_chk493 v996), ∀ a x, ((![v996] : Fin 1 → IVec S16 32) a x).toNat < S112.size a := fun v996 k0_hw493 => k0_hw493
def k0_off454 (k0_t15 : Fin k0_t15_loop.trips) : Fin 2 → Nat :=
  let c48_i32_713 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v998 : BitVec 32 := Scalar.addi c48_i32_713 v820
  let v999 : Index := Scalar.indexCast v998
  let c80_714 : Index := 80#32
  ![v999.toNat, 80]
def k0_off455 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1001 : Index := Scalar.indexCast v820
  let c96_715 : Index := 96#32
  ![v1001.toNat, 96]

def k0_chk494 (v1005 : IVec S16 32) : Prop :=
  (∀ a x, ((![v1005] : Fin 1 → IVec S16 32) a x).toNat < S112.size a)
theorem k0_idx494_inb : ∀ (v1005 : IVec S16 32) (k0_hw494 : k0_chk494 v1005), ∀ a x, ((![v1005] : Fin 1 → IVec S16 32) a x).toNat < S112.size a := fun v1005 k0_hw494 => k0_hw494
def k0_off456 (k0_t15 : Fin k0_t15_loop.trips) : Fin 2 → Nat :=
  let c0_i32_717 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1007 : BitVec 32 := Scalar.addi c0_i32_717 v820
  let v1008 : Index := Scalar.indexCast v1007
  let c96_718 : Index := 96#32
  ![v1008.toNat, 96]

def k0_chk495 (v1012 : IVec S16 32) : Prop :=
  (∀ a x, ((![v1012] : Fin 1 → IVec S16 32) a x).toNat < S112.size a)
theorem k0_idx495_inb : ∀ (v1012 : IVec S16 32) (k0_hw495 : k0_chk495 v1012), ∀ a x, ((![v1012] : Fin 1 → IVec S16 32) a x).toNat < S112.size a := fun v1012 k0_hw495 => k0_hw495
def k0_off457 (k0_t15 : Fin k0_t15_loop.trips) : Fin 2 → Nat :=
  let c16_i32_720 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1014 : BitVec 32 := Scalar.addi c16_i32_720 v820
  let v1015 : Index := Scalar.indexCast v1014
  let c96_721 : Index := 96#32
  ![v1015.toNat, 96]

def k0_chk496 (v1019 : IVec S16 32) : Prop :=
  (∀ a x, ((![v1019] : Fin 1 → IVec S16 32) a x).toNat < S112.size a)
theorem k0_idx496_inb : ∀ (v1019 : IVec S16 32) (k0_hw496 : k0_chk496 v1019), ∀ a x, ((![v1019] : Fin 1 → IVec S16 32) a x).toNat < S112.size a := fun v1019 k0_hw496 => k0_hw496
def k0_off458 (k0_t15 : Fin k0_t15_loop.trips) : Fin 2 → Nat :=
  let c32_i32_723 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1021 : BitVec 32 := Scalar.addi c32_i32_723 v820
  let v1022 : Index := Scalar.indexCast v1021
  let c96_724 : Index := 96#32
  ![v1022.toNat, 96]

def k0_chk497 (v1026 : IVec S16 32) : Prop :=
  (∀ a x, ((![v1026] : Fin 1 → IVec S16 32) a x).toNat < S112.size a)
theorem k0_idx497_inb : ∀ (v1026 : IVec S16 32) (k0_hw497 : k0_chk497 v1026), ∀ a x, ((![v1026] : Fin 1 → IVec S16 32) a x).toNat < S112.size a := fun v1026 k0_hw497 => k0_hw497
def k0_off459 (k0_t15 : Fin k0_t15_loop.trips) : Fin 2 → Nat :=
  let c48_i32_726 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1028 : BitVec 32 := Scalar.addi c48_i32_726 v820
  let v1029 : Index := Scalar.indexCast v1028
  let c96_727 : Index := 96#32
  ![v1029.toNat, 96]
def k0_off460 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1031 : Index := Scalar.indexCast v820
  let c112_728 : Index := 112#32
  ![v1031.toNat, 112]

def k0_chk498 (v1035 : IVec S16 32) : Prop :=
  (∀ a x, ((![v1035] : Fin 1 → IVec S16 32) a x).toNat < S112.size a)
theorem k0_idx498_inb : ∀ (v1035 : IVec S16 32) (k0_hw498 : k0_chk498 v1035), ∀ a x, ((![v1035] : Fin 1 → IVec S16 32) a x).toNat < S112.size a := fun v1035 k0_hw498 => k0_hw498
def k0_off461 (k0_t15 : Fin k0_t15_loop.trips) : Fin 2 → Nat :=
  let c0_i32_730 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1037 : BitVec 32 := Scalar.addi c0_i32_730 v820
  let v1038 : Index := Scalar.indexCast v1037
  let c112_731 : Index := 112#32
  ![v1038.toNat, 112]

def k0_chk499 (v1042 : IVec S16 32) : Prop :=
  (∀ a x, ((![v1042] : Fin 1 → IVec S16 32) a x).toNat < S112.size a)
theorem k0_idx499_inb : ∀ (v1042 : IVec S16 32) (k0_hw499 : k0_chk499 v1042), ∀ a x, ((![v1042] : Fin 1 → IVec S16 32) a x).toNat < S112.size a := fun v1042 k0_hw499 => k0_hw499
def k0_off462 (k0_t15 : Fin k0_t15_loop.trips) : Fin 2 → Nat :=
  let c16_i32_733 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1044 : BitVec 32 := Scalar.addi c16_i32_733 v820
  let v1045 : Index := Scalar.indexCast v1044
  let c112_734 : Index := 112#32
  ![v1045.toNat, 112]

def k0_chk500 (v1049 : IVec S16 32) : Prop :=
  (∀ a x, ((![v1049] : Fin 1 → IVec S16 32) a x).toNat < S112.size a)
theorem k0_idx500_inb : ∀ (v1049 : IVec S16 32) (k0_hw500 : k0_chk500 v1049), ∀ a x, ((![v1049] : Fin 1 → IVec S16 32) a x).toNat < S112.size a := fun v1049 k0_hw500 => k0_hw500
def k0_off463 (k0_t15 : Fin k0_t15_loop.trips) : Fin 2 → Nat :=
  let c32_i32_736 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1051 : BitVec 32 := Scalar.addi c32_i32_736 v820
  let v1052 : Index := Scalar.indexCast v1051
  let c112_737 : Index := 112#32
  ![v1052.toNat, 112]

def k0_chk501 (v1056 : IVec S16 32) : Prop :=
  (∀ a x, ((![v1056] : Fin 1 → IVec S16 32) a x).toNat < S112.size a)
theorem k0_idx501_inb : ∀ (v1056 : IVec S16 32) (k0_hw501 : k0_chk501 v1056), ∀ a x, ((![v1056] : Fin 1 → IVec S16 32) a x).toNat < S112.size a := fun v1056 k0_hw501 => k0_hw501
def k0_off464 (k0_t15 : Fin k0_t15_loop.trips) : Fin 2 → Nat :=
  let c48_i32_739 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1058 : BitVec 32 := Scalar.addi c48_i32_739 v820
  let v1059 : Index := Scalar.indexCast v1058
  let c112_740 : Index := 112#32
  ![v1059.toNat, 112]
def k0_off465 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1061 : Index := Scalar.indexCast v820
  let c128_741 : Index := 128#32
  ![v1061.toNat, 128]

def k0_chk502 (v1065 : IVec S16 32) : Prop :=
  (∀ a x, ((![v1065] : Fin 1 → IVec S16 32) a x).toNat < S112.size a)
theorem k0_idx502_inb : ∀ (v1065 : IVec S16 32) (k0_hw502 : k0_chk502 v1065), ∀ a x, ((![v1065] : Fin 1 → IVec S16 32) a x).toNat < S112.size a := fun v1065 k0_hw502 => k0_hw502
def k0_off466 (k0_t15 : Fin k0_t15_loop.trips) : Fin 2 → Nat :=
  let c0_i32_743 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1067 : BitVec 32 := Scalar.addi c0_i32_743 v820
  let v1068 : Index := Scalar.indexCast v1067
  let c128_744 : Index := 128#32
  ![v1068.toNat, 128]

def k0_chk503 (v1072 : IVec S16 32) : Prop :=
  (∀ a x, ((![v1072] : Fin 1 → IVec S16 32) a x).toNat < S112.size a)
theorem k0_idx503_inb : ∀ (v1072 : IVec S16 32) (k0_hw503 : k0_chk503 v1072), ∀ a x, ((![v1072] : Fin 1 → IVec S16 32) a x).toNat < S112.size a := fun v1072 k0_hw503 => k0_hw503
def k0_off467 (k0_t15 : Fin k0_t15_loop.trips) : Fin 2 → Nat :=
  let c16_i32_746 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1074 : BitVec 32 := Scalar.addi c16_i32_746 v820
  let v1075 : Index := Scalar.indexCast v1074
  let c128_747 : Index := 128#32
  ![v1075.toNat, 128]

def k0_chk504 (v1079 : IVec S16 32) : Prop :=
  (∀ a x, ((![v1079] : Fin 1 → IVec S16 32) a x).toNat < S112.size a)
theorem k0_idx504_inb : ∀ (v1079 : IVec S16 32) (k0_hw504 : k0_chk504 v1079), ∀ a x, ((![v1079] : Fin 1 → IVec S16 32) a x).toNat < S112.size a := fun v1079 k0_hw504 => k0_hw504
def k0_off468 (k0_t15 : Fin k0_t15_loop.trips) : Fin 2 → Nat :=
  let c32_i32_749 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1081 : BitVec 32 := Scalar.addi c32_i32_749 v820
  let v1082 : Index := Scalar.indexCast v1081
  let c128_750 : Index := 128#32
  ![v1082.toNat, 128]

def k0_chk505 (v1086 : IVec S16 32) : Prop :=
  (∀ a x, ((![v1086] : Fin 1 → IVec S16 32) a x).toNat < S112.size a)
theorem k0_idx505_inb : ∀ (v1086 : IVec S16 32) (k0_hw505 : k0_chk505 v1086), ∀ a x, ((![v1086] : Fin 1 → IVec S16 32) a x).toNat < S112.size a := fun v1086 k0_hw505 => k0_hw505
def k0_off469 (k0_t15 : Fin k0_t15_loop.trips) : Fin 2 → Nat :=
  let c48_i32_752 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1088 : BitVec 32 := Scalar.addi c48_i32_752 v820
  let v1089 : Index := Scalar.indexCast v1088
  let c128_753 : Index := 128#32
  ![v1089.toNat, 128]
def k0_off470 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1091 : Index := Scalar.indexCast v820
  let c144_754 : Index := 144#32
  ![v1091.toNat, 144]

def k0_chk506 (v1095 : IVec S16 32) : Prop :=
  (∀ a x, ((![v1095] : Fin 1 → IVec S16 32) a x).toNat < S112.size a)
theorem k0_idx506_inb : ∀ (v1095 : IVec S16 32) (k0_hw506 : k0_chk506 v1095), ∀ a x, ((![v1095] : Fin 1 → IVec S16 32) a x).toNat < S112.size a := fun v1095 k0_hw506 => k0_hw506
def k0_off471 (k0_t15 : Fin k0_t15_loop.trips) : Fin 2 → Nat :=
  let c0_i32_756 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1097 : BitVec 32 := Scalar.addi c0_i32_756 v820
  let v1098 : Index := Scalar.indexCast v1097
  let c144_757 : Index := 144#32
  ![v1098.toNat, 144]

def k0_chk507 (v1102 : IVec S16 32) : Prop :=
  (∀ a x, ((![v1102] : Fin 1 → IVec S16 32) a x).toNat < S112.size a)
theorem k0_idx507_inb : ∀ (v1102 : IVec S16 32) (k0_hw507 : k0_chk507 v1102), ∀ a x, ((![v1102] : Fin 1 → IVec S16 32) a x).toNat < S112.size a := fun v1102 k0_hw507 => k0_hw507
def k0_off472 (k0_t15 : Fin k0_t15_loop.trips) : Fin 2 → Nat :=
  let c16_i32_759 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1104 : BitVec 32 := Scalar.addi c16_i32_759 v820
  let v1105 : Index := Scalar.indexCast v1104
  let c144_760 : Index := 144#32
  ![v1105.toNat, 144]

def k0_chk508 (v1109 : IVec S16 32) : Prop :=
  (∀ a x, ((![v1109] : Fin 1 → IVec S16 32) a x).toNat < S112.size a)
theorem k0_idx508_inb : ∀ (v1109 : IVec S16 32) (k0_hw508 : k0_chk508 v1109), ∀ a x, ((![v1109] : Fin 1 → IVec S16 32) a x).toNat < S112.size a := fun v1109 k0_hw508 => k0_hw508
def k0_off473 (k0_t15 : Fin k0_t15_loop.trips) : Fin 2 → Nat :=
  let c32_i32_762 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1111 : BitVec 32 := Scalar.addi c32_i32_762 v820
  let v1112 : Index := Scalar.indexCast v1111
  let c144_763 : Index := 144#32
  ![v1112.toNat, 144]

def k0_chk509 (v1116 : IVec S16 32) : Prop :=
  (∀ a x, ((![v1116] : Fin 1 → IVec S16 32) a x).toNat < S112.size a)
theorem k0_idx509_inb : ∀ (v1116 : IVec S16 32) (k0_hw509 : k0_chk509 v1116), ∀ a x, ((![v1116] : Fin 1 → IVec S16 32) a x).toNat < S112.size a := fun v1116 k0_hw509 => k0_hw509
def k0_off474 (k0_t15 : Fin k0_t15_loop.trips) : Fin 2 → Nat :=
  let c48_i32_765 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1118 : BitVec 32 := Scalar.addi c48_i32_765 v820
  let v1119 : Index := Scalar.indexCast v1118
  let c144_766 : Index := 144#32
  ![v1119.toNat, 144]
def k0_off475 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1121 : Index := Scalar.indexCast v820
  let c160_767 : Index := 160#32
  ![v1121.toNat, 160]

def k0_chk510 (v1125 : IVec S16 32) : Prop :=
  (∀ a x, ((![v1125] : Fin 1 → IVec S16 32) a x).toNat < S112.size a)
theorem k0_idx510_inb : ∀ (v1125 : IVec S16 32) (k0_hw510 : k0_chk510 v1125), ∀ a x, ((![v1125] : Fin 1 → IVec S16 32) a x).toNat < S112.size a := fun v1125 k0_hw510 => k0_hw510
def k0_off476 (k0_t15 : Fin k0_t15_loop.trips) : Fin 2 → Nat :=
  let c0_i32_769 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1127 : BitVec 32 := Scalar.addi c0_i32_769 v820
  let v1128 : Index := Scalar.indexCast v1127
  let c160_770 : Index := 160#32
  ![v1128.toNat, 160]

def k0_chk511 (v1132 : IVec S16 32) : Prop :=
  (∀ a x, ((![v1132] : Fin 1 → IVec S16 32) a x).toNat < S112.size a)
theorem k0_idx511_inb : ∀ (v1132 : IVec S16 32) (k0_hw511 : k0_chk511 v1132), ∀ a x, ((![v1132] : Fin 1 → IVec S16 32) a x).toNat < S112.size a := fun v1132 k0_hw511 => k0_hw511
def k0_off477 (k0_t15 : Fin k0_t15_loop.trips) : Fin 2 → Nat :=
  let c16_i32_772 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1134 : BitVec 32 := Scalar.addi c16_i32_772 v820
  let v1135 : Index := Scalar.indexCast v1134
  let c160_773 : Index := 160#32
  ![v1135.toNat, 160]

def k0_chk512 (v1139 : IVec S16 32) : Prop :=
  (∀ a x, ((![v1139] : Fin 1 → IVec S16 32) a x).toNat < S112.size a)
theorem k0_idx512_inb : ∀ (v1139 : IVec S16 32) (k0_hw512 : k0_chk512 v1139), ∀ a x, ((![v1139] : Fin 1 → IVec S16 32) a x).toNat < S112.size a := fun v1139 k0_hw512 => k0_hw512
def k0_off478 (k0_t15 : Fin k0_t15_loop.trips) : Fin 2 → Nat :=
  let c32_i32_775 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1141 : BitVec 32 := Scalar.addi c32_i32_775 v820
  let v1142 : Index := Scalar.indexCast v1141
  let c160_776 : Index := 160#32
  ![v1142.toNat, 160]

def k0_chk513 (v1146 : IVec S16 32) : Prop :=
  (∀ a x, ((![v1146] : Fin 1 → IVec S16 32) a x).toNat < S112.size a)
theorem k0_idx513_inb : ∀ (v1146 : IVec S16 32) (k0_hw513 : k0_chk513 v1146), ∀ a x, ((![v1146] : Fin 1 → IVec S16 32) a x).toNat < S112.size a := fun v1146 k0_hw513 => k0_hw513
def k0_off479 (k0_t15 : Fin k0_t15_loop.trips) : Fin 2 → Nat :=
  let c48_i32_778 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1148 : BitVec 32 := Scalar.addi c48_i32_778 v820
  let v1149 : Index := Scalar.indexCast v1148
  let c160_779 : Index := 160#32
  ![v1149.toNat, 160]
def k0_off480 (k0_t15 : Fin k0_t15_loop.trips) : Fin 2 → Nat :=
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1151 : Index := Scalar.indexCast v820
  let c176 : Index := 176#32
  ![v1151.toNat, 176]

def k0_chk514 (v1155 : IVec S16 32) : Prop :=
  (∀ a x, ((![v1155] : Fin 1 → IVec S16 32) a x).toNat < S112.size a)
theorem k0_idx514_inb : ∀ (v1155 : IVec S16 32) (k0_hw514 : k0_chk514 v1155), ∀ a x, ((![v1155] : Fin 1 → IVec S16 32) a x).toNat < S112.size a := fun v1155 k0_hw514 => k0_hw514
def k0_off481 (k0_t15 : Fin k0_t15_loop.trips) : Fin 2 → Nat :=
  let c0_i32_781 : BitVec 32 := 0#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1157 : BitVec 32 := Scalar.addi c0_i32_781 v820
  let v1158 : Index := Scalar.indexCast v1157
  let c176_782 : Index := 176#32
  ![v1158.toNat, 176]

def k0_chk515 (v1162 : IVec S16 32) : Prop :=
  (∀ a x, ((![v1162] : Fin 1 → IVec S16 32) a x).toNat < S112.size a)
theorem k0_idx515_inb : ∀ (v1162 : IVec S16 32) (k0_hw515 : k0_chk515 v1162), ∀ a x, ((![v1162] : Fin 1 → IVec S16 32) a x).toNat < S112.size a := fun v1162 k0_hw515 => k0_hw515
def k0_off482 (k0_t15 : Fin k0_t15_loop.trips) : Fin 2 → Nat :=
  let c16_i32_784 : BitVec 32 := 16#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1164 : BitVec 32 := Scalar.addi c16_i32_784 v820
  let v1165 : Index := Scalar.indexCast v1164
  let c176_785 : Index := 176#32
  ![v1165.toNat, 176]

def k0_chk516 (v1169 : IVec S16 32) : Prop :=
  (∀ a x, ((![v1169] : Fin 1 → IVec S16 32) a x).toNat < S112.size a)
theorem k0_idx516_inb : ∀ (v1169 : IVec S16 32) (k0_hw516 : k0_chk516 v1169), ∀ a x, ((![v1169] : Fin 1 → IVec S16 32) a x).toNat < S112.size a := fun v1169 k0_hw516 => k0_hw516
def k0_off483 (k0_t15 : Fin k0_t15_loop.trips) : Fin 2 → Nat :=
  let c32_i32_787 : BitVec 32 := 32#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1171 : BitVec 32 := Scalar.addi c32_i32_787 v820
  let v1172 : Index := Scalar.indexCast v1171
  let c176_788 : Index := 176#32
  ![v1172.toNat, 176]

def k0_chk517 (v1176 : IVec S16 32) : Prop :=
  (∀ a x, ((![v1176] : Fin 1 → IVec S16 32) a x).toNat < S112.size a)
theorem k0_idx517_inb : ∀ (v1176 : IVec S16 32) (k0_hw517 : k0_chk517 v1176), ∀ a x, ((![v1176] : Fin 1 → IVec S16 32) a x).toNat < S112.size a := fun v1176 k0_hw517 => k0_hw517
def k0_off484 (k0_t15 : Fin k0_t15_loop.trips) : Fin 2 → Nat :=
  let c48_i32_790 : BitVec 32 := 48#32
  let c0_i32_637 : BitVec 32 := 0#32
  let c0_i32_548 : BitVec 32 := 0#32
  let c1_i32_550 : BitVec 32 := 1#32
  let arg17 : BitVec 32 := Scf.iv c0_i32_548 c1_i32_550 k0_t15
  let c1_i32_636 : BitVec 32 := 1#32
  let v819 : BitVec 32 := Scalar.muli arg17 c1_i32_636
  let v820 : BitVec 32 := Scalar.addi c0_i32_637 v819
  let v1178 : BitVec 32 := Scalar.addi c48_i32_790 v820
  let v1179 : Index := Scalar.indexCast v1178
  let c176_791 : Index := 176#32
  ![v1179.toNat, 176]
@[reducible] def k0_t16_loop : Scf.Loop 32 :=
  let c0_i32_552 : BitVec 32 := 0#32
  let c8_i32_553 : BitVec 32 := 8#32
  let v762 : BitVec 32 := Scalar.addi c0_i32_552 c8_i32_553
  let c1_i32_554 : BitVec 32 := 1#32
  ⟨c0_i32_552, v762, c1_i32_554⟩

def k0_chk518 (v447 : IVec S16 32) (v823 : IVec S16 32) : Prop :=
  (∀ a x, ((![v823, v447] : Fin 2 → IVec S16 32) a x).toNat < S16x200.size a)
theorem k0_idx518_inb : ∀ (v447 : IVec S16 32) (v823 : IVec S16 32) (k0_hw518 : k0_chk518 v447 v823), ∀ a x, ((![v823, v447] : Fin 2 → IVec S16 32) a x).toNat < S16x200.size a := fun v447 v823 k0_hw518 => k0_hw518

def k0_chk519 (v827 : IVec S16 32) : Prop :=
  (∀ a x, ((![v827] : Fin 1 → IVec S16 32) a x).toNat < S112.size a)
theorem k0_idx519_inb : ∀ (v827 : IVec S16 32) (k0_hw519 : k0_chk519 v827), ∀ a x, ((![v827] : Fin 1 → IVec S16 32) a x).toNat < S112.size a := fun v827 k0_hw519 => k0_hw519

def k0_chk520 (v447 : IVec S16 32) (v829 : IVec S16 32) : Prop :=
  (∀ a x, ((![v829, v447] : Fin 2 → IVec S16 32) a x).toNat < S64x200.size a)
theorem k0_idx520_inb : ∀ (v447 : IVec S16 32) (v829 : IVec S16 32) (k0_hw520 : k0_chk520 v447 v829), ∀ a x, ((![v829, v447] : Fin 2 → IVec S16 32) a x).toNat < S64x200.size a := fun v447 v829 k0_hw520 => k0_hw520

def k0_chk521 (v833 : IVec S16 32) : Prop :=
  (∀ a x, ((![v833] : Fin 1 → IVec S16 32) a x).toNat < S112.size a)
theorem k0_idx521_inb : ∀ (v833 : IVec S16 32) (k0_hw521 : k0_chk521 v833), ∀ a x, ((![v833] : Fin 1 → IVec S16 32) a x).toNat < S112.size a := fun v833 k0_hw521 => k0_hw521

def k0_chk522 (v447 : IVec S16 32) (v835 : IVec S16 32) : Prop :=
  (∀ a x, ((![v835, v447] : Fin 2 → IVec S16 32) a x).toNat < S64x200.size a)
theorem k0_idx522_inb : ∀ (v447 : IVec S16 32) (v835 : IVec S16 32) (k0_hw522 : k0_chk522 v447 v835), ∀ a x, ((![v835, v447] : Fin 2 → IVec S16 32) a x).toNat < S64x200.size a := fun v447 v835 k0_hw522 => k0_hw522

def k0_chk523 (v839 : IVec S16 32) : Prop :=
  (∀ a x, ((![v839] : Fin 1 → IVec S16 32) a x).toNat < S112.size a)
theorem k0_idx523_inb : ∀ (v839 : IVec S16 32) (k0_hw523 : k0_chk523 v839), ∀ a x, ((![v839] : Fin 1 → IVec S16 32) a x).toNat < S112.size a := fun v839 k0_hw523 => k0_hw523

def k0_chk524 (v447 : IVec S16 32) (v841 : IVec S16 32) : Prop :=
  (∀ a x, ((![v841, v447] : Fin 2 → IVec S16 32) a x).toNat < S64x200.size a)
theorem k0_idx524_inb : ∀ (v447 : IVec S16 32) (v841 : IVec S16 32) (k0_hw524 : k0_chk524 v447 v841), ∀ a x, ((![v841, v447] : Fin 2 → IVec S16 32) a x).toNat < S64x200.size a := fun v447 v841 k0_hw524 => k0_hw524

def k0_chk525 (v845 : IVec S16 32) : Prop :=
  (∀ a x, ((![v845] : Fin 1 → IVec S16 32) a x).toNat < S112.size a)
theorem k0_idx525_inb : ∀ (v845 : IVec S16 32) (k0_hw525 : k0_chk525 v845), ∀ a x, ((![v845] : Fin 1 → IVec S16 32) a x).toNat < S112.size a := fun v845 k0_hw525 => k0_hw525

def k0_chk526 (v447 : IVec S16 32) (v847 : IVec S16 32) : Prop :=
  (∀ a x, ((![v847, v447] : Fin 2 → IVec S16 32) a x).toNat < S64x200.size a)
theorem k0_idx526_inb : ∀ (v447 : IVec S16 32) (v847 : IVec S16 32) (k0_hw526 : k0_chk526 v447 v847), ∀ a x, ((![v847, v447] : Fin 2 → IVec S16 32) a x).toNat < S64x200.size a := fun v447 v847 k0_hw526 => k0_hw526
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x200 : Shape := ⟨2, ![16384, 200]⟩
abbrev S100x10 : Shape := ⟨2, ![100, 10]⟩
abbrev S1x10 : Shape := ⟨2, ![1, 10]⟩
abbrev S1 : Shape := ⟨1, ![1]⟩
abbrev S_ : Shape := ⟨0, ![]⟩
abbrev S16384x200x1 : Shape := ⟨3, ![16384, 200, 1]⟩
abbrev S1x1x1 : Shape := ⟨3, ![1, 1, 1]⟩
abbrev S16384x200x10 : Shape := ⟨3, ![16384, 200, 10]⟩

abbrev nBuf : Space → Nat
  | .hbm => 31
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S100x10, .f32⟩
  | .hbm, ⟨2, _⟩ => ⟨S1x10, .f32⟩
  | .hbm, ⟨3, _⟩ => ⟨S1, .f32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S1, .i32⟩
  | .hbm, ⟨13, _⟩ => ⟨S_, .i32⟩
  | .hbm, ⟨14, _⟩ => ⟨S16384x200x1, .i32⟩
  | .hbm, ⟨15, _⟩ => ⟨S16384x200x1, .i1⟩
  | .hbm, ⟨16, _⟩ => ⟨S1x1x1, .i32⟩
  | .hbm, ⟨17, _⟩ => ⟨S16384x200x1, .i32⟩
  | .hbm, ⟨18, _⟩ => ⟨S16384x200x1, .i1⟩
  | .hbm, ⟨19, _⟩ => ⟨S16384x200x1, .i1⟩
  | .hbm, ⟨20, _⟩ => ⟨S_, .i1⟩
  | .hbm, ⟨21, _⟩ => ⟨S16384x200, .i1⟩
  | .hbm, ⟨22, _⟩ => ⟨S16384x200x10, .f32⟩
  | .hbm, ⟨23, _⟩ => ⟨S16384x200x10, .i1⟩
  | .hbm, ⟨24, _⟩ => ⟨S_, .f32⟩
  | .hbm, ⟨25, _⟩ => ⟨S16384x200x10, .f32⟩
  | .hbm, ⟨26, _⟩ => ⟨S16384x200x10, .f32⟩
  | .hbm, ⟨27, _⟩ => ⟨S16384x200x1, .f32⟩
  | .hbm, ⟨28, _⟩ => ⟨S1x1x1, .f32⟩
  | .hbm, ⟨29, _⟩ => ⟨S16384x200x1, .f32⟩
  | .hbm, ⟨30, _⟩ => ⟨S16384x200x1, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Body.lean ====
/-
  The tile's program in its own structure. The printed kernel is one long straight list of statements; here the
  same program is written as the chunks, rows, blocks and copies it is made of, each once, and `body_eq` says the
  two are one program.
-/
module

public import proofs.«01_k».proof.Proof.Gen.KernelIdeal

@[expose] public section

noncomputable section

namespace Cert.KernelIdeal.Tile

open Idealize.ShloMosaic Idealize.SL.Sem Facts₀ Facts

variable {F : FTy → Type} [FloatOps F]

/-- A program of the subcore at grid point `i`. -/
abbrev PT (F : FTy → Type) (i : grid0.Coords) (α : Type) : Type 1 :=
  Prog (TpuEff nD τ sig (Elt F) Λ₀ (.scVector ((i 0).castLE hcore0) ((i 1).castLE hsub0))) α

/-- A buffer of the subcore's own memory. -/
abbrev MS (s : Shape) (e : EltTy) : Type := Memref sig .scVector .vmem s e
/-- An array of the chip's memory. -/
abbrev MH (s : Shape) (e : EltTy) : Type := Memref sig .scVector .hbm s e

/-! ## Words and offsets -/

/-- The word holding a trip's row number. -/
def rowW (t : Nat) : BitVec 32 := Scalar.addi 0#32 (Scalar.muli (Scf.iv 0#32 1#32 t) 1#32)

/-- Where trip `t` reads its `c`-th chunk of sixteen packed words. -/
def xOff (t c : Nat) : Fin 2 → Nat := ![(Scalar.indexCast (rowW t)).toNat, 16 * c]

/-- Where trip `t` writes field `k` of its `c`-th chunk. -/
def oOff (t k c : Nat) : Fin 2 → Nat := ![(Scalar.indexCast (Scalar.addi (BitVec.ofNat 32 (16 * k)) (rowW t))).toNat, 16 * c]

/-- The word holding the first packed row of the tile at grid point `i`. -/
def prowW (i : grid0.Coords) : BitVec 32 :=
  Scalar.muli (Scalar.addi (Scalar.muli (BitVec.ofNat 32 (i 1).val) 2#32) (BitVec.ofNat 32 (i 0).val)) 128#32

/-- Where block `b` of the tile's packed rows lies. -/
def xpOff (i : grid0.Coords) (b : Nat) : Fin 2 → Nat := ![(Scalar.addi (prowW i) (BitVec.ofNat 32 (16 * b))).toNat, 0]

/-- Where field `k` of block `b` goes in the result. -/
def outOff (i : grid0.Coords) (k b : Nat) : Fin 2 → Nat :=
  ![(Scalar.addi (Scalar.addi (BitVec.ofNat 32 (4096 * k)) (prowW i)) (BitVec.ofNat 32 (16 * b))).toNat, 0]

theorem rowW_toNat (t : Nat) (ht : t < 16) : (rowW t).toNat = t := by
  unfold rowW
  simp [Scalar.addi, Scalar.muli, Scf.iv, IntOp.addi, IntOp.muli]
  omega

theorem xOff_eq (t c : Nat) (ht : t < 16) : xOff t c = ![t, 16 * c] := by
  unfold xOff
  rw [show (Scalar.indexCast (rowW t)).toNat = (rowW t).toNat from rfl, rowW_toNat t ht]

theorem oOff_eq (t k c : Nat) (ht : t < 16) (hk : k < 4) : oOff t k c = ![16 * k + t, 16 * c] := by
  unfold oOff
  have h : (Scalar.indexCast (Scalar.addi (BitVec.ofNat 32 (16 * k)) (rowW t))).toNat = 16 * k + t := by
    rw [show (Scalar.indexCast (Scalar.addi (BitVec.ofNat 32 (16 * k)) (rowW t))) = BitVec.ofNat 32 (16 * k) + rowW t from rfl,
      BitVec.toNat_add, rowW_toNat t ht, BitVec.toNat_ofNat]
    omega
  rw [h]

/-- The tile's number among the thirty-two. -/
def wid (i : grid0.Coords) : Nat := (i 1).val * 2 + (i 0).val

theorem core_lt (i : grid0.Coords) : (i 0).val < 2 := (i 0).isLt
theorem sub_lt (i : grid0.Coords) : (i 1).val < 16 := (i 1).isLt
theorem wid_lt (i : grid0.Coords) : wid i < 32 := by have := core_lt i; have := sub_lt i; unfold wid; omega

theorem prowW_toNat (i : grid0.Coords) : (prowW i).toNat = 128 * wid i := by
  have := core_lt i; have := sub_lt i
  unfold prowW wid
  simp only [Scalar.addi, Scalar.muli, IntOp.addi, IntOp.muli, BitVec.toNat_mul, BitVec.toNat_add, BitVec.toNat_ofNat]
  omega

theorem xpOff_eq (i : grid0.Coords) (b : Nat) (hb : b < 8) : xpOff i b = ![128 * wid i + 16 * b, 0] := by
  have := wid_lt i
  unfold xpOff
  have h : (Scalar.addi (prowW i) (BitVec.ofNat 32 (16 * b))).toNat = 128 * wid i + 16 * b := by
    rw [show Scalar.addi (prowW i) (BitVec.ofNat 32 (16 * b)) = prowW i + BitVec.ofNat 32 (16 * b) from rfl,
      BitVec.toNat_add, prowW_toNat, BitVec.toNat_ofNat]
    omega
  rw [h]

theorem outOff_eq (i : grid0.Coords) (k b : Nat) (hk : k < 4) (hb : b < 8) :
    outOff i k b = ![4096 * k + 128 * wid i + 16 * b, 0] := by
  have := wid_lt i
  unfold outOff
  have h : (Scalar.addi (Scalar.addi (BitVec.ofNat 32 (4096 * k)) (prowW i)) (BitVec.ofNat 32 (16 * b))).toNat
      = 4096 * k + 128 * wid i + 16 * b := by
    rw [show Scalar.addi (Scalar.addi (BitVec.ofNat 32 (4096 * k)) (prowW i)) (BitVec.ofNat 32 (16 * b))
        = BitVec.ofNat 32 (4096 * k) + prowW i + BitVec.ofNat 32 (16 * b) from rfl,
      BitVec.toNat_add, BitVec.toNat_add, prowW_toNat, BitVec.toNat_ofNat, BitVec.toNat_ofNat]
    omega
  rw [h]

theorem xOff_inb (t : Fin 16) (c : Fin 12) : ∀ a, xOff t c a + S1x16.size a ≤ S16x200.size a := by
  rw [xOff_eq _ _ t.isLt]
  have := t.isLt; have := c.isLt
  intro a
  match a with
  | ⟨0, _⟩ => show t.val + 1 ≤ 16; omega
  | ⟨1, _⟩ => show 16 * c.val + 16 ≤ 200; omega

theorem oOff_inb (t : Fin 16) (k : Fin 4) (c : Fin 12) : ∀ a, oOff t k c a + S1x16.size a ≤ S64x200.size a := by
  rw [oOff_eq _ _ _ t.isLt k.isLt]
  have := t.isLt; have := c.isLt; have := k.isLt
  intro a
  match a with
  | ⟨0, _⟩ => show 16 * k.val + t.val + 1 ≤ 64; omega
  | ⟨1, _⟩ => show 16 * c.val + 16 ≤ 200; omega

theorem xpOff_inb (i : grid0.Coords) (b : Fin 8) : ∀ a, xpOff i b a + S16x200.size a ≤ S4096x200.size a := by
  rw [xpOff_eq i _ b.isLt]
  have := wid_lt i; have := b.isLt
  intro a
  match a with
  | ⟨0, _⟩ => show 128 * wid i + 16 * b.val + 16 ≤ 4096; omega
  | ⟨1, _⟩ => show 0 + 200 ≤ 200; omega

theorem outOff_inb (i : grid0.Coords) (k : Fin 4) (b : Fin 8) : ∀ a, outOff i k b a + S16x200.size a ≤ S16384x200.size a := by
  rw [outOff_eq i _ _ k.isLt b.isLt]
  have := wid_lt i; have := b.isLt; have := k.isLt
  intro a
  match a with
  | ⟨0, _⟩ => show 4096 * k.val + 128 * wid i + 16 * b.val + 16 ≤ 16384; omega
  | ⟨1, _⟩ => show 0 + 200 ≤ 200; omega

theorem ovOff_inb (k : Fin 4) : ∀ a, (![16 * k.val, 0] : Fin 2 → Nat) a + S16x200.size a ≤ S64x200.size a := by
  have := k.isLt
  intro a
  match a with
  | ⟨0, _⟩ => show 16 * k.val + 16 ≤ 64; omega
  | ⟨1, _⟩ => show 0 + 200 ≤ 200; omega

theorem wOff_inb (d : Fin 11) : ∀ a, (![16 * d.val] : Fin 1 → Nat) a + S16.size a ≤ S176.size a := by
  have := d.isLt
  intro a
  match a with
  | ⟨0, _⟩ => show 16 * d.val + 16 ≤ 176; omega

theorem lOff_inb (c : Fin 7) : ∀ a, (![16 * c.val] : Fin 1 → Nat) a + S16.size a ≤ S112.size a := by
  have := c.isLt
  intro a
  match a with
  | ⟨0, _⟩ => show 16 * c.val + 16 ≤ 112; omega

/-! ## The lanes -/

/-- Lane numbers. -/
def lanes : IVec S16 32 := iota .scVector S16 32 [0] iota_S16_d0_w32_scVector

/-- The low eight bits. -/
def low8 : IVec S16 32 := broadcast S16 255#32

/-- The row of a pair of rows that a lane of the tail works on. -/
def tailRow : IVec S16 32 :=
  let s : IVec S16 32 := subi (extui 32 (cmpi .sgt lanes (broadcast S16 0#32)) natLt_1_32) (extui 32 (cmpi .slt lanes (broadcast S16 0#32)) natLt_1_32)
  let s' : BitVec 32 := Scalar.subi (Scalar.extui (Scalar.cmpi .sgt 8#32 0#32)) (Scalar.extui (Scalar.cmpi .slt 8#32 0#32))
  let q : IVec S16 32 := divsi lanes (broadcast S16 8#32)
  select (andi (cmpi .ne s (broadcast S16 s')) (cmpi .ne (remsi lanes (broadcast S16 8#32)) (broadcast S16 0#32)))
    (subi q (broadcast S16 1#32)) q

/-- The column a lane of the tail works on. -/
def tailCol : IVec S16 32 :=
  let e : BitVec 32 := Scalar.select (Scalar.cmpi .eq 8#32 0#32) 1#32 8#32
  let r : IVec S16 32 := remsi lanes (broadcast S16 e)
  addi (broadcast S16 192#32)
    (select (andi (xori (cmpi .slt r (broadcast S16 0#32)) (broadcastTo S16 (broadcast S16 (Scalar.cmpi .slt e 0#32)) broadcasts_S16_S16))
        (cmpi .ne r (broadcast S16 0#32)))
      (addi r (broadcast S16 e)) r)

/-! ## The program -/

variable (i : grid0.Coords)

/-- Look sixteen values up in the table of logits, once the indices are known to be inside it. -/
def look (lut : MS S112 .f32) (v : IVec S16 32) : PT F i (Vec F S16 .f32) := do
  have h : ∀ a y, ((![v] : Fin 1 → IVec S16 32) a y).toNat < S112.size a :=
    (← Prog.lift (TpuEff.assume _ (decidable_of_iff' (∀ a y, ((![v] : Fin 1 → IVec S16 32) a y).toNat < S112.size a) Iff.rfl))).down
  SparseCore.vectorLoadIdx lut ![v] h (View.loads_vmem h_S112)

/-- Field `k` of sixteen packed words. -/
def fld (x : IVec S16 32) (k : Nat) : IVec S16 32 := andi (shrui x (broadcast S16 (BitVec.ofNat 32 (8 * k)))) low8

/-- Field `k` of a chunk: take eight bits of each word, look them up, write the sixteen values. -/
def field (lut : MS S112 .f32) (ov : MS S64x200 .f32) (x : IVec S16 32) (t : Fin 16) (c : Fin 12) (k : Fin 4) : PT F i PUnit := do
  let g : Vec F S16 .f32 ← look i lut (fld x k)
  let _ ← Prog.lift (.load ov (Rect.unit (s := S64x200) (oOff t k c) S1x16.size (oOff_inb t k c)).toLoadRect (View.loadsAt_vmem h_S1x16))
  Prog.lift (.store ov (Rect.unit (s := S64x200) (oOff t k c) S1x16.size (oOff_inb t k c)) (shapeCast S1x16 g shapeCasts_S16_S1x16) Finset.univ (View.stores_vmem_bits_univ h_S1x16 rfl) (.inl rfl))

/-- One chunk of sixteen packed words: all four fields. -/
def chunk (xv : MS S16x200 .i32) (lut : MS S112 .f32) (ov : MS S64x200 .f32) (t : Fin 16) (c : Fin 12) : PT F i PUnit := do
  let xl : Vec F S1x16 .i32 ← Prog.lift (.load xv (Rect.unit (s := S16x200) (xOff t c) S1x16.size (xOff_inb t c)).toLoadRect (View.loadsAt_vmem h_S1x16))
  have x : IVec S16 32 := shapeCast S16 xl shapeCasts_S1x16_S16
  field i lut ov x t c 0
  field i lut ov x t c 1
  field i lut ov x t c 2
  field i lut ov x t c 3

/-- A row's twelve chunks, in order. -/
def chunks (xv : MS S16x200 .i32) (lut : MS S112 .f32) (ov : MS S64x200 .f32) (t : Fin 16) : PT F i PUnit := do
  chunk i xv lut ov t 0
  chunk i xv lut ov t 1
  chunk i xv lut ov t 2
  chunk i xv lut ov t 3
  chunk i xv lut ov t 4
  chunk i xv lut ov t 5
  chunk i xv lut ov t 6
  chunk i xv lut ov t 7
  chunk i xv lut ov t 8
  chunk i xv lut ov t 9
  chunk i xv lut ov t 10
  chunk i xv lut ov t 11

/-- The rows a trip of the tail works on, lane by lane. -/
def tailRows (t : Nat) : IVec S16 32 := addi (broadcast S16 (Scalar.muli 2#32 (rowW t))) tailRow

/-- The same rows of field `k`. -/
def tailOut (t k : Nat) : IVec S16 32 := addi (broadcast S16 (BitVec.ofNat 32 (16 * k))) (tailRows t)

/-- Field `k` of a trip of the tail. -/
def tailField (lut : MS S112 .f32) (ov : MS S64x200 .f32) (x : IVec S16 32) (t : Fin 8) (k : Fin 4) : PT F i PUnit := do
  have h : ∀ a y, ((![fld x k] : Fin 1 → IVec S16 32) a y).toNat < S112.size a :=
    (← Prog.lift (TpuEff.assume _ (decidable_of_iff' (∀ a y, ((![fld x k] : Fin 1 → IVec S16 32) a y).toNat < S112.size a) Iff.rfl))).down
  have h' : ∀ a y, ((![tailOut t k, tailCol] : Fin 2 → IVec S16 32) a y).toNat < S64x200.size a :=
    (← Prog.lift (TpuEff.assume _ (decidable_of_iff' (∀ a y, ((![tailOut t k, tailCol] : Fin 2 → IVec S16 32) a y).toNat < S64x200.size a) Iff.rfl))).down
  let g : Vec F S16 .f32 ← SparseCore.vectorLoadIdx lut ![fld x k] h (View.loads_vmem h_S112)
  SparseCore.vectorStoreIdx ov ![tailOut t k, tailCol] g (fun _ => 1#1) false h' (View.stores_vmem_bits_univ h_S64x200 rfl)

/-- One trip of the tail: the last eight columns of two rows. -/
def tail (xv : MS S16x200 .i32) (lut : MS S112 .f32) (ov : MS S64x200 .f32) (t : Fin 8) : PT F i PUnit := do
  have h : ∀ a y, ((![tailRows t, tailCol] : Fin 2 → IVec S16 32) a y).toNat < S16x200.size a :=
    (← Prog.lift (TpuEff.assume _ (decidable_of_iff' (∀ a y, ((![tailRows t, tailCol] : Fin 2 → IVec S16 32) a y).toNat < S16x200.size a) Iff.rfl))).down
  let x : Vec F S16 .i32 ← SparseCore.vectorLoadIdx xv ![tailRows t, tailCol] h (View.loads_vmem h_S16x200)
  tailField i lut ov x t 0
  tailField i lut ov x t 1
  tailField i lut ov x t 2
  tailField i lut ov x t 3

/-- The loop over a block's sixteen rows, and the loop over its eight pairs of rows. -/
def rowLoop : Scf.Loop 32 := ⟨0#32, Scalar.addi 0#32 16#32, 1#32⟩
def tailLoop : Scf.Loop 32 := ⟨0#32, Scalar.addi 0#32 8#32, 1#32⟩

theorem rowLoop_ok : rowLoop.OK := by decide
theorem tailLoop_ok : tailLoop.OK := by decide
theorem rowLoop_trips : rowLoop.trips = 16 := by decide
theorem tailLoop_trips : tailLoop.trips = 8 := by decide

/-- A block's rows: the first 192 columns. -/
def rows (xv : MS S16x200 .i32) (lut : MS S112 .f32) (ov : MS S64x200 .f32) : PT F i PUnit :=
  Scf.Loop.for rowLoop rowLoop_ok ⟨⟩ fun t _ => chunks i xv lut ov t

/-- A block's last eight columns. -/
def tails (xv : MS S16x200 .i32) (lut : MS S112 .f32) (ov : MS S64x200 .f32) : PT F i PUnit :=
  Scf.Loop.for tailLoop tailLoop_ok ⟨⟩ fun t _ => tail i xv lut ov t

/-- A block's values from its packed words. -/
def compute (xv : MS S16x200 .i32) (lut : MS S112 .f32) (ov : MS S64x200 .f32) : PT F i PUnit := do
  rows i xv lut ov
  tails i xv lut ov

/-! ### Copies -/

/-- Block `b` of the tile's packed rows. -/
def xpBlk (xp : MH S4096x200 .i32) (b : Fin 8) : MH S16x200 .i32 :=
  xp.slice (Rect.unit (s := S4096x200) (xpOff i b) S16x200.size (xpOff_inb i b)) (fun _ => rfl)

/-- Field `k` of block `b` in the result. -/
def outBlk (out : MH S16384x200 .f32) (k : Fin 4) (b : Fin 8) : MH S16x200 .f32 :=
  out.slice (Rect.unit (s := S16384x200) (outOff i k b) S16x200.size (outOff_inb i k b)) (fun _ => rfl)

/-- Field `k` of a block's values in the tile's memory. -/
def ovFld (ov : MS S64x200 .f32) (k : Fin 4) : MS S16x200 .f32 :=
  ov.slice (Rect.unit (s := S64x200) ![16 * k.val, 0] S16x200.size (ovOff_inb k)) (fun _ => rfl)

/-- Start fetching block `b`. -/
def startX (xp : MH S4096x200 .i32) (xv : MS S16x200 .i32) (hxv : xv.IsWhole) (sem : DmaSems sig S_) (b : Fin 8) : PT F i PUnit :=
  Prog.lift (.enqueueDma (xpBlk i xp b) (.here xv) (.dma sem.sem) (View.wordExact_bits rfl) hxv.wordExact ⟨Or.inl rfl, trivial⟩)

/-- Wait for it. -/
def waitX (xp : MH S4096x200 .i32) (xv : MS S16x200 .i32) (hxv : xv.IsWhole) (sem : DmaSems sig S_) (b : Fin 8) : PT F i PUnit :=
  Prog.lift (.waitDma2 sem.sem (xpBlk i xp b) xv (View.wordExact_bits rfl) hxv.wordExact)

/-- Start writing field `k` of block `b` out. -/
def startO (out : MH S16384x200 .f32) (ov : MS S64x200 .f32) (sem : DmaSems sig S_) (b : Fin 8) (k : Fin 4) : PT F i PUnit :=
  Prog.lift (.enqueueDma (ovFld ov k) (.here (outBlk i out k b)) (.dma sem.sem) (View.wordExact_bits rfl) (View.wordExact_bits rfl) ⟨Or.inl rfl, trivial⟩)

/-- Wait for it. -/
def waitO (out : MH S16384x200 .f32) (ov : MS S64x200 .f32) (sem : DmaSems sig S_) (b : Fin 8) (k : Fin 4) : PT F i PUnit :=
  Prog.lift (.waitDma2 sem.sem (ovFld ov k) (outBlk i out k b) (View.wordExact_bits rfl) (View.wordExact_bits rfl))

/-- Write a whole block out. -/
def startOs (out : MH S16384x200 .f32) (ov : MS S64x200 .f32) (sem : DmaSems sig S_) (b : Fin 8) : PT F i PUnit := do
  startO i out ov sem b 0
  startO i out ov sem b 1
  startO i out ov sem b 2
  startO i out ov sem b 3

/-- Wait until it is written. -/
def waitOs (out : MH S16384x200 .f32) (ov : MS S64x200 .f32) (sem : DmaSems sig S_) (b : Fin 8) : PT F i PUnit := do
  waitO i out ov sem b 0
  waitO i out ov sem b 1
  waitO i out ov sem b 2
  waitO i out ov sem b 3

/-- A copy that is waited for at once. -/
def copyIn {n : Shape} (src : MH n .f32) (hsrc : src.IsWhole) (dst : MS n .f32) (hdst : dst.IsWhole) (sem : DmaSems sig S_) : PT F i PUnit := do
  Prog.lift (.enqueueDma src (.here dst) (.dma sem.sem) hsrc.wordExact hdst.wordExact ⟨Or.inl rfl, trivial⟩)
  Prog.lift (.waitDma2 sem.sem src dst hsrc.wordExact hdst.wordExact)

/-! ### The table of logits -/

/-- The `d`-th group of sixteen equal weights (the eleventh is the bias). -/
def weight (wv : MS S176 .f32) (d : Fin 11) : PT F i (Vec F S16 .f32) :=
  Prog.lift (.load wv (Rect.unit (s := S176) ![16 * d.val] S16.size (wOff_inb d)).toLoadRect (View.loadsAt_vmem h_S16))

/-- Where the rows of chunk `c` of the embedding begin. -/
def rowBase (c : Nat) : IVec S16 32 := muli (addi (broadcast S16 (BitVec.ofNat 32 (16 * c))) lanes) (broadcast S16 10#32)

/-- Where their `d`-th entries lie. -/
def entry (c d : Nat) : IVec S16 32 := addi (rowBase c) (broadcast S16 (BitVec.ofNat 32 d))

/-- One term of sixteen logits, added to what there is. -/
def term (ev : MS S1120 .f32) (w : Vec F S16 .f32) (c d : Nat) (acc : FVec F S16 .f32) : PT F i (FVec F S16 .f32) := do
  have h : ∀ a y, ((![entry c d] : Fin 1 → IVec S16 32) a y).toNat < S1120.size a :=
    (← Prog.lift (TpuEff.assume _ (decidable_of_iff' (∀ a y, ((![entry c d] : Fin 1 → IVec S16 32) a y).toNat < S1120.size a) Iff.rfl))).down
  let g : Vec F S16 .f32 ← SparseCore.vectorLoadIdx ev ![entry c d] h (View.loads_vmem h_S1120)
  pure (addf acc (mulf g w))

/-- Sixteen logits. -/
def logits (ev : MS S1120 .f32) (lut : MS S112 .f32) (w : Fin 10 → Vec F S16 .f32) (bias : Vec F S16 .f32) (c : Fin 7) : PT F i PUnit := do
  let a0 : FVec F S16 .f32 ← term i ev (w 0) c 0 bias
  let a1 : FVec F S16 .f32 ← term i ev (w 1) c 1 a0
  let a2 : FVec F S16 .f32 ← term i ev (w 2) c 2 a1
  let a3 : FVec F S16 .f32 ← term i ev (w 3) c 3 a2
  let a4 : FVec F S16 .f32 ← term i ev (w 4) c 4 a3
  let a5 : FVec F S16 .f32 ← term i ev (w 5) c 5 a4
  let a6 : FVec F S16 .f32 ← term i ev (w 6) c 6 a5
  let a7 : FVec F S16 .f32 ← term i ev (w 7) c 7 a6
  let a8 : FVec F S16 .f32 ← term i ev (w 8) c 8 a7
  let a9 : FVec F S16 .f32 ← term i ev (w 9) c 9 a8
  let _ ← Prog.lift (.load lut (Rect.unit (s := S112) ![16 * c.val] S16.size (lOff_inb c)).toLoadRect (View.loadsAt_vmem h_S16))
  Prog.lift (.store lut (Rect.unit (s := S112) ![16 * c.val] S16.size (lOff_inb c)) a9 Finset.univ (View.stores_vmem_bits_univ h_S16 rfl) (.inl rfl))

/-- The whole table. -/
def table (ev : MS S1120 .f32) (wv : MS S176 .f32) (lut : MS S112 .f32) : PT F i PUnit := do
  let bias : Vec F S16 .f32 ← weight i wv 10
  let w0 : Vec F S16 .f32 ← weight i wv 0
  let w1 : Vec F S16 .f32 ← weight i wv 1
  let w2 : Vec F S16 .f32 ← weight i wv 2
  let w3 : Vec F S16 .f32 ← weight i wv 3
  let w4 : Vec F S16 .f32 ← weight i wv 4
  let w5 : Vec F S16 .f32 ← weight i wv 5
  let w6 : Vec F S16 .f32 ← weight i wv 6
  let w7 : Vec F S16 .f32 ← weight i wv 7
  let w8 : Vec F S16 .f32 ← weight i wv 8
  let w9 : Vec F S16 .f32 ← weight i wv 9
  logits i ev lut ![w0, w1, w2, w3, w4, w5, w6, w7, w8, w9] bias 0
  logits i ev lut ![w0, w1, w2, w3, w4, w5, w6, w7, w8, w9] bias 1
  logits i ev lut ![w0, w1, w2, w3, w4, w5, w6, w7, w8, w9] bias 2
  logits i ev lut ![w0, w1, w2, w3, w4, w5, w6, w7, w8, w9] bias 3
  logits i ev lut ![w0, w1, w2, w3, w4, w5, w6, w7, w8, w9] bias 4
  logits i ev lut ![w0, w1, w2, w3, w4, w5, w6, w7, w8, w9] bias 5
  logits i ev lut ![w0, w1, w2, w3, w4, w5, w6, w7, w8, w9] bias 6

/-! ### The tile -/

/-- What one of the tile's two lines of blocks works with: the buffer it fetches into, the buffer it writes from,
    and the two semaphores of those copies. -/
structure Line where
  xv : MS S16x200 .i32
  hxv : xv.IsWhole
  ov : MS S64x200 .f32
  sx : DmaSems sig S_
  so : DmaSems sig S_

variable (xp : MH S4096x200 .i32) (lut : MS S112 .f32) (out : MH S16384x200 .f32)

/-- A line's first block: nothing of it is being written yet. -/
def firstBlk (l : Line) (b b' : Fin 8) : PT F i PUnit := do
  waitX i xp l.xv l.hxv l.sx b
  compute i l.xv lut l.ov
  startX i xp l.xv l.hxv l.sx b'
  startOs i out l.ov l.so b

/-- A block in the middle of a line: the block `a` before it must be written first, the block `b'` after it is
    fetched at the end. -/
def midBlk (l : Line) (a b b' : Fin 8) : PT F i PUnit := do
  waitX i xp l.xv l.hxv l.sx b
  waitOs i out l.ov l.so a
  compute i l.xv lut l.ov
  startX i xp l.xv l.hxv l.sx b'
  startOs i out l.ov l.so b

/-- A line's last block. -/
def lastBlk (l : Line) (a b : Fin 8) : PT F i PUnit := do
  waitX i xp l.xv l.hxv l.sx b
  waitOs i out l.ov l.so a
  compute i l.xv lut l.ov
  startOs i out l.ov l.so b

/-- The tile's program. -/
def body (emb : MH S1120 .f32) (hemb : emb.IsWhole) (wb : MH S176 .f32) (hwb : wb.IsWhole)
    (ev : MS S1120 .f32) (hev : ev.IsWhole) (wv : MS S176 .f32) (hwv : wv.IsWhole) (r0 r1 : DmaSems sig S_) (l m : Line) : PT F i PUnit := do
  startX i xp l.xv l.hxv l.sx 0
  startX i xp m.xv m.hxv m.sx 1
  copyIn i emb hemb ev hev r0
  copyIn i wb hwb wv hwv r1
  table i ev wv lut
  firstBlk i xp lut out l 0 2
  firstBlk i xp lut out m 1 3
  midBlk i xp lut out l 0 2 4
  midBlk i xp lut out m 1 3 5
  midBlk i xp lut out l 2 4 6
  midBlk i xp lut out m 3 5 7
  lastBlk i xp lut out l 4 6
  lastBlk i xp lut out m 5 7
  waitOs i out l.ov l.so 6
  waitOs i out m.ov m.so 7

end Cert.KernelIdeal.Tile
-- ==== Proof.BodyEq.lean ====
/-
  The printed kernel is the program `Tile.body`: each of its windows is a run of the tile's named steps, and the
  windows in order are the tile's program.
-/
module

public import proofs.«01_k».proof.Proof.Body

@[expose] public section

set_option maxRecDepth 65536
set_option maxHeartbeats 4000000

noncomputable section

namespace Cert.KernelIdeal.Tile

open Idealize.ShloMosaic Idealize.SL.Sem Facts₀ Facts

variable {F : FTy → Type} [FloatOps F]
variable (i : grid0.Coords) (arg2 : Memref sig .scVector .hbm S4096x200 .i32) (harg2 : arg2.IsWhole) (arg3 : Memref sig .scVector .hbm S1120 .f32) (harg3 : arg3.IsWhole) (arg4 : Memref sig .scVector .hbm S176 .f32) (harg4 : arg4.IsWhole) (arg5 : Memref sig .scVector .hbm S16384x200 .f32) (harg5 : arg5.IsWhole) (arg6 : Memref sig .scVector .vmem S1120 .f32) (harg6 : arg6.IsWhole) (arg7 : Memref sig .scVector .vmem S176 .f32) (harg7 : arg7.IsWhole) (arg8 : Memref sig .scVector .vmem S112 .f32) (harg8 : arg8.IsWhole) (arg9 : Memref sig .scVector .vmem S16x200 .i32) (harg9 : arg9.IsWhole) (arg10 : Memref sig .scVector .vmem S16x200 .i32) (harg10 : arg10.IsWhole) (arg11 : Memref sig .scVector .vmem S64x200 .f32) (harg11 : arg11.IsWhole) (arg12 : Memref sig .scVector .vmem S64x200 .f32) (harg12 : arg12.IsWhole) (arg13 : DmaSems sig S_) (arg14 : DmaSems sig S_) (arg15 : DmaSems sig S_) (arg16 : DmaSems sig S_) (v819_r0 : DmaSems sig S_) (v819_r1 : DmaSems sig S_)

/-- The first windows fetch the tables and the first two blocks and compute the logits. -/
theorem window_table (K : BitVec 32 → IVec S16 32 → IVec S16 32 → IVec S16 32 → PT F i PUnit) : (do
  let ⟨v2, v9, v10, v11, v12, v13, v14, v15, v16, v17, v18, v19, v20, v24, v28⟩ : Σ' (v2 : BitVec 32) (v9 : IVec S16 32) (v10 : Vec F S16 .f32) (v11 : Vec F S16 .f32) (v12 : Vec F S16 .f32) (v13 : Vec F S16 .f32) (v14 : Vec F S16 .f32) (v15 : Vec F S16 .f32) (v16 : Vec F S16 .f32) (v17 : Vec F S16 .f32) (v18 : Vec F S16 .f32) (v19 : Vec F S16 .f32) (v20 : Vec F S16 .f32) (v24 : IVec S16 32), FVec F S16 .f32 ← k0_part89 i arg2 harg2 arg3 harg3 arg4 harg4 arg5 harg5 arg6 harg6 arg7 harg7 arg8 harg8 arg9 harg9 arg10 harg10 arg11 harg11 arg12 harg12 arg13 arg14 arg15 arg16 v819_r0 v819_r1
  let ⟨v69, v71⟩ : Σ' (v69 : FVec F S16 .f32), IVec S16 32 ← k0_part90 i arg2 harg2 arg3 harg3 arg4 harg4 arg5 harg5 arg6 harg6 arg7 harg7 arg8 harg8 arg9 harg9 arg10 harg10 arg11 harg11 arg12 harg12 arg13 arg14 arg15 arg16 v819_r0 v819_r1 v10 v12 v13 v14 v15 v16 v17 v18 v19 v24 v28
  let ⟨v79, v109, v112⟩ : Σ' (v79 : IVec S16 32) (v109 : FVec F S16 .f32), Vec F S16 .f32 ← k0_part91 i arg2 harg2 arg3 harg3 arg4 harg4 arg5 harg5 arg6 harg6 arg7 harg7 arg8 harg8 arg9 harg9 arg10 harg10 arg11 harg11 arg12 harg12 arg13 arg14 arg15 arg16 v819_r0 v819_r1 v9 v10 v11 v12 v13 v14 v15 v16 v20 v69 v71
  let ⟨v134, v154⟩ : Σ' (v134 : IVec S16 32), FVec F S16 .f32 ← k0_part92 i arg2 harg2 arg3 harg3 arg4 harg4 arg5 harg5 arg6 harg6 arg7 harg7 arg8 harg8 arg9 harg9 arg10 harg10 arg11 harg11 arg12 harg12 arg13 arg14 arg15 arg16 v819_r0 v819_r1 v9 v10 v11 v12 v13 v14 v17 v18 v19 v20 v79 v109 v112
  let ⟨v189, v194, v195⟩ : Σ' (v189 : IVec S16 32) (v194 : FVec F S16 .f32), IVec S16 32 ← k0_part93 i arg2 harg2 arg3 harg3 arg4 harg4 arg5 harg5 arg6 harg6 arg7 harg7 arg8 harg8 arg9 harg9 arg10 harg10 arg11 harg11 arg12 harg12 arg13 arg14 arg15 arg16 v819_r0 v819_r1 v9 v10 v11 v15 v16 v17 v18 v19 v20 v134 v154
  let ⟨v234, v238⟩ : Σ' (v234 : FVec F S16 .f32), FVec F S16 .f32 ← k0_part94 i arg2 harg2 arg3 harg3 arg4 harg4 arg5 harg5 arg6 harg6 arg7 harg7 arg8 harg8 arg9 harg9 arg10 harg10 arg11 harg11 arg12 harg12 arg13 arg14 arg15 arg16 v819_r0 v819_r1 v12 v13 v14 v15 v16 v17 v18 v19 v20 v189 v194 v195
  let ⟨v244, v279, c7_i32_53⟩ : Σ' (v244 : IVec S16 32) (v279 : FVec F S16 .f32), BitVec 32 ← k0_part95 i arg2 harg2 arg3 harg3 arg4 harg4 arg5 harg5 arg6 harg6 arg7 harg7 arg8 harg8 arg9 harg9 arg10 harg10 arg11 harg11 arg12 harg12 arg13 arg14 arg15 arg16 v819_r0 v819_r1 v9 v10 v11 v12 v13 v14 v15 v16 v17 v234 v238
  let ⟨v299, v319, v321⟩ : Σ' (v299 : IVec S16 32) (v319 : FVec F S16 .f32), IVec S16 32 ← k0_part96 i arg2 harg2 arg3 harg3 arg4 harg4 arg5 harg5 arg6 harg6 arg7 harg7 arg8 harg8 arg9 harg9 arg10 harg10 arg11 harg11 arg12 harg12 arg13 arg14 arg15 arg16 v819_r0 v819_r1 v9 v10 v11 v12 v13 v14 v18 v19 v20 v244 v279 c7_i32_53
  let ⟨v354, v359, v362⟩ : Σ' (v354 : IVec S16 32) (v359 : FVec F S16 .f32), Vec F S16 .f32 ← k0_part97 i arg2 harg2 arg3 harg3 arg4 harg4 arg5 harg5 arg6 harg6 arg7 harg7 arg8 harg8 arg9 harg9 arg10 harg10 arg11 harg11 arg12 harg12 arg13 arg14 arg15 arg16 v819_r0 v819_r1 v9 v10 v11 v15 v16 v17 v18 v19 v20 v299 v319 v321
  let v404 : FVec F S16 .f32 ← k0_part98 i arg2 harg2 arg3 harg3 arg4 harg4 arg5 harg5 arg6 harg6 arg7 harg7 arg8 harg8 arg9 harg9 arg10 harg10 arg11 harg11 arg12 harg12 arg13 arg14 arg15 arg16 v819_r0 v819_r1 v12 v13 v14 v15 v16 v17 v18 v19 v20 v354 v359 v362
  let ⟨v429, v447, v448⟩ : Σ' (v429 : IVec S16 32) (v447 : IVec S16 32), IVec S16 32 ← k0_part99 i arg2 harg2 arg3 harg3 arg4 harg4 arg5 harg5 arg6 harg6 arg7 harg7 arg8 harg8 arg9 harg9 arg10 harg10 arg11 harg11 arg12 harg12 arg13 arg14 arg15 arg16 v819_r0 v819_r1 v9 v404
  K v2 v429 v447 v448) = (do
    startX (F := F) i arg2 arg9 harg9 arg13 0
    startX i arg2 arg10 harg10 arg14 1
    copyIn i arg3 harg3 arg6 harg6 v819_r0
    copyIn i arg4 harg4 arg7 harg7 v819_r1
    table i arg6 arg7 arg8
    K (prowW i) tailRow tailCol low8) := by
  simp only [k0_part89, k0_part90, k0_part91, k0_part92, k0_part93, k0_part94, k0_part95, k0_part96, k0_part97, k0_part98, k0_part99, startX, copyIn, table, logits, term, weight, bind_assoc, pure_bind]
  rfl

/-- Window 100 of the printed kernel. -/
theorem window_100 : k0_part100 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 = (do
    waitX i arg2 arg9 harg9 arg13 0
    rows i arg9 arg8 arg11
    tails i arg9 arg8 arg11
    startX i arg2 arg9 harg9 arg13 2
    startO i arg5 arg11 arg15 0 0
    startO i arg5 arg11 arg15 0 1
    pure ⟨⟩) := rfl

/-- Window 101 of the printed kernel. -/
theorem window_101 : k0_part101 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 = (do
    startO i arg5 arg11 arg15 0 2
    startO i arg5 arg11 arg15 0 3
    waitX i arg2 arg10 harg10 arg14 1
    rows i arg10 arg8 arg12
    tails i arg10 arg8 arg12
    startX i arg2 arg10 harg10 arg14 3
    pure ⟨⟩) := rfl

/-- Window 102 of the printed kernel. -/
theorem window_102 : k0_part102 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) = (do
    startO i arg5 arg12 arg16 1 0
    startO i arg5 arg12 arg16 1 1
    startO i arg5 arg12 arg16 1 2
    startO i arg5 arg12 arg16 1 3
    waitX i arg2 arg9 harg9 arg13 2
    pure ⟨⟩) := rfl

/-- Window 103 of the printed kernel. -/
theorem window_103 : k0_part103 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 = (do
    waitO i arg5 arg11 arg15 0 0
    waitO i arg5 arg11 arg15 0 1
    waitO i arg5 arg11 arg15 0 2
    waitO i arg5 arg11 arg15 0 3
    rows i arg9 arg8 arg11
    tails i arg9 arg8 arg11
    startX i arg2 arg9 harg9 arg13 4
    pure ⟨⟩) := rfl

/-- Window 104 of the printed kernel. -/
theorem window_104 : k0_part104 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) = (do
    startO i arg5 arg11 arg15 2 0
    startO i arg5 arg11 arg15 2 1
    startO i arg5 arg11 arg15 2 2
    startO i arg5 arg11 arg15 2 3
    waitX i arg2 arg10 harg10 arg14 3
    pure ⟨⟩) := rfl

/-- Window 105 of the printed kernel. -/
theorem window_105 : k0_part105 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 = (do
    waitO i arg5 arg12 arg16 1 0
    waitO i arg5 arg12 arg16 1 1
    waitO i arg5 arg12 arg16 1 2
    waitO i arg5 arg12 arg16 1 3
    rows i arg10 arg8 arg12
    tails i arg10 arg8 arg12
    pure ⟨⟩) := rfl

/-- Window 106 of the printed kernel. -/
theorem window_106 : k0_part106 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) = (do
    startX i arg2 arg10 harg10 arg14 5
    startO i arg5 arg12 arg16 3 0
    startO i arg5 arg12 arg16 3 1
    startO i arg5 arg12 arg16 3 2
    pure ⟨⟩) := rfl

/-- Window 107 of the printed kernel. -/
theorem window_107 : k0_part107 (F := F) i arg2 harg2 arg3 harg3 arg4 harg4 arg5 harg5 arg6 harg6 arg7 harg7 arg8 harg8 arg9 harg9 arg10 harg10 arg11 harg11 arg12 harg12 arg13 arg14 arg15 arg16 v819_r0 v819_r1 low8 = (do
    startO i arg5 arg12 arg16 3 3
    waitX i arg2 arg9 harg9 arg13 4
    waitO i arg5 arg11 arg15 2 0
    waitO i arg5 arg11 arg15 2 1
    waitO i arg5 arg11 arg15 2 2
    waitO i arg5 arg11 arg15 2 3
    rows i arg9 arg8 arg11
    pure ⟨0#32, 8#32⟩) := rfl

/-- Window 108 of the printed kernel. -/
theorem window_108 : k0_part108 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 0#32 8#32 = (do
    tails i arg9 arg8 arg11
    startX i arg2 arg9 harg9 arg13 6
    startO i arg5 arg11 arg15 4 0
    startO i arg5 arg11 arg15 4 1
    startO i arg5 arg11 arg15 4 2
    pure ⟨⟩) := rfl

/-- Window 109 of the printed kernel. -/
theorem window_109 : k0_part109 (F := F) i arg2 harg2 arg3 harg3 arg4 harg4 arg5 harg5 arg6 harg6 arg7 harg7 arg8 harg8 arg9 harg9 arg10 harg10 arg11 harg11 arg12 harg12 arg13 arg14 arg15 arg16 v819_r0 v819_r1  = (do
    startO i arg5 arg11 arg15 4 3
    waitX i arg2 arg10 harg10 arg14 5
    waitO i arg5 arg12 arg16 3 0
    waitO i arg5 arg12 arg16 3 1
    waitO i arg5 arg12 arg16 3 2
    waitO i arg5 arg12 arg16 3 3
    pure ⟨⟩) := rfl

/-- Window 110 of the printed kernel. -/
theorem window_110 : k0_part110 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 = (do
    rows i arg10 arg8 arg12
    tails i arg10 arg8 arg12
    startX i arg2 arg10 harg10 arg14 7
    startO i arg5 arg12 arg16 5 0
    startO i arg5 arg12 arg16 5 1
    pure ⟨⟩) := rfl

/-- Window 111 of the printed kernel. -/
theorem window_111 : k0_part111 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) = (do
    startO i arg5 arg12 arg16 5 2
    startO i arg5 arg12 arg16 5 3
    waitX i arg2 arg9 harg9 arg13 6
    waitO i arg5 arg11 arg15 4 0
    waitO i arg5 arg11 arg15 4 1
    waitO i arg5 arg11 arg15 4 2
    pure ⟨⟩) := rfl

/-- Window 112 of the printed kernel. -/
theorem window_112 : k0_part112 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 = (do
    waitO i arg5 arg11 arg15 4 3
    rows i arg9 arg8 arg11
    tails i arg9 arg8 arg11
    startO i arg5 arg11 arg15 6 0
    startO i arg5 arg11 arg15 6 1
    pure ⟨⟩) := rfl

/-- Window 113 of the printed kernel. -/
theorem window_113 : k0_part113 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) = (do
    startO i arg5 arg11 arg15 6 2
    startO i arg5 arg11 arg15 6 3
    waitX i arg2 arg10 harg10 arg14 7
    waitO i arg5 arg12 arg16 5 0
    waitO i arg5 arg12 arg16 5 1
    waitO i arg5 arg12 arg16 5 2
    pure ⟨⟩) := rfl

/-- Window 114 of the printed kernel. -/
theorem window_114 : k0_part114 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) tailRow tailCol low8 = (do
    waitO i arg5 arg12 arg16 5 3
    rows i arg10 arg8 arg12
    tails i arg10 arg8 arg12
    startO i arg5 arg12 arg16 7 0
    startO i arg5 arg12 arg16 7 1
    pure ⟨⟩) := rfl

/-- Window 115 of the printed kernel. -/
theorem window_115 : k0_part115 (F := F) i arg2 harg2 arg3 harg3 arg4 harg4 arg5 harg5 arg6 harg6 arg7 harg7 arg8 harg8 arg9 harg9 arg10 harg10 arg11 harg11 arg12 harg12 arg13 arg14 arg15 arg16 v819_r0 v819_r1 (prowW i) = (do
    startO i arg5 arg12 arg16 7 2
    startO i arg5 arg12 arg16 7 3
    waitO i arg5 arg11 arg15 6 0
    waitO i arg5 arg11 arg15 6 1
    waitO i arg5 arg11 arg15 6 2
    pure ⟨⟩) := rfl

/-- The windows of the printed kernel in order. -/
theorem windows : k0_part116 (F := F) i arg2 harg2 arg3 harg3 arg4 harg4 arg5 harg5 arg6 harg6 arg7 harg7 arg8 harg8 arg9 harg9 arg10 harg10 arg11 harg11 arg12 harg12 arg13 arg14 arg15 arg16 v819_r0 v819_r1 = (do
    startX i arg2 arg9 harg9 arg13 0
    startX i arg2 arg10 harg10 arg14 1
    copyIn i arg3 harg3 arg6 harg6 v819_r0
    copyIn i arg4 harg4 arg7 harg7 v819_r1
    table i arg6 arg7 arg8
    firstBlk i arg2 arg8 arg5 ⟨arg9, harg9, arg11, arg13, arg15⟩ 0 2
    firstBlk i arg2 arg8 arg5 ⟨arg10, harg10, arg12, arg14, arg16⟩ 1 3
    midBlk i arg2 arg8 arg5 ⟨arg9, harg9, arg11, arg13, arg15⟩ 0 2 4
    midBlk i arg2 arg8 arg5 ⟨arg10, harg10, arg12, arg14, arg16⟩ 1 3 5
    midBlk i arg2 arg8 arg5 ⟨arg9, harg9, arg11, arg13, arg15⟩ 2 4 6
    midBlk i arg2 arg8 arg5 ⟨arg10, harg10, arg12, arg14, arg16⟩ 3 5 7
    lastBlk i arg2 arg8 arg5 ⟨arg9, harg9, arg11, arg13, arg15⟩ 4 6
    lastBlk i arg2 arg8 arg5 ⟨arg10, harg10, arg12, arg14, arg16⟩ 5 7
    waitOs i arg5 arg11 arg15 6
    waitO i arg5 arg12 arg16 7 0
    waitO i arg5 arg12 arg16 7 1) := by
  unfold k0_part116
  refine (window_table i arg2 harg2 arg3 harg3 arg4 harg4 arg5 harg5 arg6 harg6 arg7 harg7 arg8 harg8 arg9 harg9 arg10 harg10 arg11 harg11 arg12 harg12 arg13 arg14 arg15 arg16 v819_r0 v819_r1 (fun v2 v429 v447 v448 => do
      k0_part100 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448
      k0_part101 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448
      k0_part102 i arg2 harg2 arg3 harg3 arg4 harg4 arg5 harg5 arg6 harg6 arg7 harg7 arg8 harg8 arg9 harg9 arg10 harg10 arg11 harg11 arg12 harg12 arg13 arg14 arg15 arg16 v819_r0 v819_r1 v2
      k0_part103 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448
      k0_part104 i arg2 harg2 arg3 harg3 arg4 harg4 arg5 harg5 arg6 harg6 arg7 harg7 arg8 harg8 arg9 harg9 arg10 harg10 arg11 harg11 arg12 harg12 arg13 arg14 arg15 arg16 v819_r0 v819_r1 v2
      k0_part105 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448
      k0_part106 i arg2 harg2 arg3 harg3 arg4 harg4 arg5 harg5 arg6 harg6 arg7 harg7 arg8 harg8 arg9 harg9 arg10 harg10 arg11 harg11 arg12 harg12 arg13 arg14 arg15 arg16 v819_r0 v819_r1 v2
      let ⟨c0_i32_349, c8_i32_350⟩ : Σ' (c0_i32_349 : BitVec 32), BitVec 32 ← k0_part107 i arg2 harg2 arg3 harg3 arg4 harg4 arg5 harg5 arg6 harg6 arg7 harg7 arg8 harg8 arg9 harg9 arg10 harg10 arg11 harg11 arg12 harg12 arg13 arg14 arg15 arg16 v819_r0 v819_r1 v448
      k0_part108 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448 c0_i32_349 c8_i32_350
      k0_part109 i arg2 harg2 arg3 harg3 arg4 harg4 arg5 harg5 arg6 harg6 arg7 harg7 arg8 harg8 arg9 harg9 arg10 harg10 arg11 harg11 arg12 harg12 arg13 arg14 arg15 arg16 v819_r0 v819_r1
      k0_part110 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448
      k0_part111 i arg2 harg2 arg3 harg3 arg4 harg4 arg5 harg5 arg6 harg6 arg7 harg7 arg8 harg8 arg9 harg9 arg10 harg10 arg11 harg11 arg12 harg12 arg13 arg14 arg15 arg16 v819_r0 v819_r1 v2
      k0_part112 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448
      k0_part113 i arg2 harg2 arg3 harg3 arg4 harg4 arg5 harg5 arg6 harg6 arg7 harg7 arg8 harg8 arg9 harg9 arg10 harg10 arg11 harg11 arg12 harg12 arg13 arg14 arg15 arg16 v819_r0 v819_r1 v2
      k0_part114 i arg2 harg2 arg3 harg3 arg4 harg4 arg5 harg5 arg6 harg6 arg7 harg7 arg8 harg8 arg9 harg9 arg10 harg10 arg11 harg11 arg12 harg12 arg13 arg14 arg15 arg16 v819_r0 v819_r1 v2 v429 v447 v448
      k0_part115 i arg2 harg2 arg3 harg3 arg4 harg4 arg5 harg5 arg6 harg6 arg7 harg7 arg8 harg8 arg9 harg9 arg10 harg10 arg11 harg11 arg12 harg12 arg13 arg14 arg15 arg16 v819_r0 v819_r1 v2
      let v801 : Memref sig .scVector .hbm S16x200 .f32 := arg5.slice (Rect.unit (s := S16384x200) (k0_off64 i 12288#32 96#32) S16x200.size (k0_off64_inb i 3 6)) (fun _ => rfl)
      let v802 : Memref sig .scVector .vmem S16x200 .f32 := arg11.slice (Rect.unit (s := S64x200) ![48, 0] S16x200.size inb_S64x200_S16x200_48_0) (fun _ => rfl)
      Prog.lift (.waitDma2 arg15.sem v802 v801 (View.wordExact_bits rfl) (View.wordExact_bits rfl))
      let v803 : Memref sig .scVector .vmem S16x200 .f32 := arg12.slice (Rect.unit (s := S64x200) ![0, 0] S16x200.size inb_S64x200_S16x200_0_0) (fun _ => rfl)
      let v804 : Memref sig .scVector .hbm S16x200 .f32 := arg5.slice (Rect.unit (s := S16384x200) (k0_off64 i 0#32 112#32) S16x200.size (k0_off64_inb i 0 7)) (fun _ => rfl)
      let v805 : Memref sig .scVector .hbm S16x200 .f32 := arg5.slice (Rect.unit (s := S16384x200) (k0_off64 i 0#32 112#32) S16x200.size (k0_off64_inb i 0 7)) (fun _ => rfl)
      let v806 : Memref sig .scVector .vmem S16x200 .f32 := arg12.slice (Rect.unit (s := S64x200) ![0, 0] S16x200.size inb_S64x200_S16x200_0_0) (fun _ => rfl)
      Prog.lift (.waitDma2 arg16.sem v806 v805 (View.wordExact_bits rfl) (View.wordExact_bits rfl))
      let v807 : Memref sig .scVector .vmem S16x200 .f32 := arg12.slice (Rect.unit (s := S64x200) ![16, 0] S16x200.size inb_S64x200_S16x200_16_0) (fun _ => rfl)
      let v808 : Memref sig .scVector .hbm S16x200 .f32 := arg5.slice (Rect.unit (s := S16384x200) (k0_off64 i 4096#32 112#32) S16x200.size (k0_off64_inb i 1 7)) (fun _ => rfl)
      let v809 : Memref sig .scVector .hbm S16x200 .f32 := arg5.slice (Rect.unit (s := S16384x200) (k0_off64 i 4096#32 112#32) S16x200.size (k0_off64_inb i 1 7)) (fun _ => rfl)
      let v810 : Memref sig .scVector .vmem S16x200 .f32 := arg12.slice (Rect.unit (s := S64x200) ![16, 0] S16x200.size inb_S64x200_S16x200_16_0) (fun _ => rfl)
      Prog.lift (.waitDma2 arg16.sem v810 v809 (View.wordExact_bits rfl) (View.wordExact_bits rfl))
      let v811 : Memref sig .scVector .vmem S16x200 .f32 := arg12.slice (Rect.unit (s := S64x200) ![32, 0] S16x200.size inb_S64x200_S16x200_32_0) (fun _ => rfl)
      let v812 : Memref sig .scVector .hbm S16x200 .f32 := arg5.slice (Rect.unit (s := S16384x200) (k0_off64 i 8192#32 112#32) S16x200.size (k0_off64_inb i 2 7)) (fun _ => rfl)
      pure ⟨⟩
    )).trans ?_
  simp only [window_100, window_101, window_102, window_103, window_104, window_105, window_106, window_107, window_108, window_109, window_110, window_111, window_112, window_113, window_114, window_115, firstBlk, midBlk, lastBlk, compute, startOs, waitOs, bind_assoc, pure_bind]
  rfl

/-- The printed kernel is the tile's program. -/
theorem body_eq : cc0__sc_body (F := F) i arg2 harg2 arg3 harg3 arg4 harg4 arg5 harg5 arg6 harg6 arg7 harg7 arg8 harg8 arg9 harg9 arg10 harg10 arg11 harg11 arg12 harg12 arg13 arg14 arg15 arg16 v819_r0 v819_r1
    = body i arg2 arg8 arg5 arg3 harg3 arg4 harg4 arg6 harg6 arg7 harg7 v819_r0 v819_r1 ⟨arg9, harg9, arg11, arg13, arg15⟩ ⟨arg10, harg10, arg12, arg14, arg16⟩ := by
  unfold cc0__sc_body
  rw [windows]
  simp only [body, waitOs, bind_assoc]
  rfl

end Cert.KernelIdeal.Tile
-- ==== Proof.Setup.lean ====
/-
  The program as the launch theorem sees it, and the resources its proofs are about.
-/
module

public import proofs.«01_k».proof.Proof.Body
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Pipeline.ValueKit.Geometry
public import Idealize.ShloMosaic.Lib.Batch
public import Idealize.ShloMosaic.Lib.Tactic

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The handshakes' rounds beside the transfers' counters. -/
abbrev UU : Type := UH × Counters

local notation "𝕄" => MT nD τ sig (HIx 1) (Elt F) ℕ UU ℕ

abbrev EH : Emb UH (MT nD τ sig (HIx 1) (Elt F) ℕ UU ℕ) := embL
/-- The transfers' counters. -/
abbrev EC : UEmb Counters (MT nD τ sig (HIx 1) (Elt F) ℕ UU ℕ) := Idealize.ShloMosaic.countersEmb

variable [FloatOps F]

/-- The SparseCore and the subcore of a grid point. -/
abbrev cV (i : grid0.Coords) : Fin τ.nSC := (i 0).castLE hcore0
abbrev jV (i : grid0.Coords) : Fin τ.nSub := (i 1).castLE hsub0
/-- The subcore's thread. -/
abbrev thr (d : Dev nD) (i : grid0.Coords) : Thread nD τ := V d (cV i) (jV i)

variable (d : Dev nD) (i : grid0.Coords)

/-- A run of a tile's program. -/
abbrev W {α : Type} (p : PT F i α) (Q : α → sProp 𝕄) : sProp 𝕄 :=
  wp frame (wpE (defs₀ (F := F)) 𝒱₀ (thr d i) none) Set.univ p Q

/-- A buffer of the tile's, held outright, whose contents satisfy `P`. -/
def Held {sp : Space} {s : Shape} {e : EltTy} (m : Memref sig .scVector sp s e) (P : (s.Idx → Elt F e) → Prop) : sProp 𝕄 :=
  iprop(∃ f, ⌜P (m.view.read (Elt F) f)⌝ ∗ m.view.loc (thr d i) ↦[m.view.set]{fullShare} f)

/-- A buffer whose contents are `X`. -/
abbrev Holds {sp : Space} {s : Shape} {e : EltTy} (m : Memref sig .scVector sp s e) (X : s.Idx → Elt F e) : sProp 𝕄 :=
  Held d i m (fun Y => Y = X)

theorem held_mono {sp : Space} {s : Shape} {e : EltTy} {m : Memref sig .scVector sp s e} {P P' : (s.Idx → Elt F e) → Prop}
    (h : ∀ X, P X → P' X) : Held d i m P ⊢ (Held d i m P' : sProp 𝕄) := by
  unfold Held
  iintro ⟨%f, %hf, H⟩
  iexists f
  isplitr; · ipureintro; exact h _ hf
  iexact H

/-- One operation and what comes after it. -/
theorem lift_bind {Ef : Type → Type} {α β : Type} (e : Ef β) (k : β → Prog Ef α) : (Prog.lift e >>= k) = .op e k := rfl

theorem wp_load_holds {s : Shape} {e : EltTy} {m : MS s e} {X : s.Idx → Elt F e} {r : Rect s} {hl : m.view.LoadsAt r.toLoadRect}
    {α : Type} {k : (r.shape.Idx → Elt F e) → PT F i α} {Q : α → sProp 𝕄} :
    Holds d i m X ⊢ iprop((Holds d i m X -∗ W d i (k (fun x => X (r.emb x))) Q) -∗ W d i (Prog.lift (.load m r.toLoadRect hl) >>= k) Q) := by
  rw [lift_bind]
  unfold Holds Held
  iintro ⟨%f, %hf, H⟩ Hk
  iapply (wp_load_rect 𝒱₀ (thr d i) none Set.univ (m := m) (r := r) (S := m.view.set) (View.set_slice_subset _ _)) $$ H
  iintro H
  rw [show (m.access r).read (Elt F) f = fun x => X (r.emb x) from funext fun x => congrFun hf (r.emb x)]
  iapply Hk
  iexists f
  isplitr; · ipureintro; exact hf
  iexact H

theorem wp_load_any {s : Shape} {e : EltTy} {m : MS s e} {P : (s.Idx → Elt F e) → Prop} {r : Rect s} {hl : m.view.LoadsAt r.toLoadRect}
    {α : Type} {k : (r.shape.Idx → Elt F e) → PT F i α} {Q : α → sProp 𝕄} :
    Held d i m P ⊢ iprop((∀ v, Held d i m P -∗ W d i (k v) Q) -∗ W d i (Prog.lift (.load m r.toLoadRect hl) >>= k) Q) := by
  rw [lift_bind]
  unfold Held
  iintro ⟨%f, %hf, H⟩ Hk
  iapply (wp_load_rect 𝒱₀ (thr d i) none Set.univ (m := m) (r := r) (S := m.view.set) (View.set_slice_subset _ _)) $$ H
  iintro H
  iapply Hk
  iexists f
  isplitr; · ipureintro; exact hf
  iexact H

theorem wp_store_held {s : Shape} {e : EltTy} {m : MS s e} {P P' : (s.Idx → Elt F e) → Prop} {r : Rect s} {w : r.shape.Idx → Elt F e}
    {hx : (m.access r).Stores Finset.univ} {hm : (Finset.univ : Finset r.shape.Idx) = Finset.univ ∨ ∀ a, r.stride a = 1}
    {α : Type} {k : PUnit → PT F i α} {Q : α → sProp 𝕄}
    (h : ∀ X Y, P X → (∀ x, Y (r.emb x) = w x) → (∀ y, y ∉ r.set → Y y = X y) → P' Y) :
    Held d i m P ⊢ iprop((Held d i m P' -∗ W d i (k ⟨⟩) Q) -∗ W d i (Prog.lift (.store m r w Finset.univ hx hm) >>= k) Q) := by
  rw [lift_bind]
  unfold Held
  iintro ⟨%f, %hf, H⟩ Hk
  iapply (wp_store 𝒱₀ (thr d i) none Set.univ (m := m) (r := r) (Mk := Finset.univ) (S := m.view.set) (by rw [View.setOn_univ]; exact View.set_slice_subset _ _)) $$ H
  iintro H
  iapply Hk
  iexists _
  isplitr
  · ipureintro
    refine h _ _ hf (fun x => View.read_slice_write_emb r f w (Finset.mem_univ x)) fun y hy => View.read_slice_write_of_not_mem r f w _ ?_
    rwa [Rect.map_emb_univ]
  iexact H

theorem wp_check {P : Prop} {dec : Decidable P} {α : Type} {k : PLift P → PT F i α} {Q : α → sProp 𝕄} (h : P) :
    W d i (k ⟨h⟩) Q ⊢ W d i (Prog.lift (.assume P dec) >>= k) Q := wp_assume 𝒱₀ (thr d i) none Set.univ h

theorem wp_last {p : PT F i PUnit} {Q : PUnit → sProp 𝕄} : W d i (p >>= pure) Q ⊢ W d i p Q := by rw [bind_pure]

/-- One part of a program after another. -/
theorem wp_seq {α β : Type} {p : PT F i α} {q : α → PT F i β} {A : sProp 𝕄} {B : α → sProp 𝕄} {C : β → sProp 𝕄}
    (hp : A ⊢ W d i p B) (hq : ∀ a, B a ⊢ W d i (q a) C) : A ⊢ W d i (p >>= q) C := by
  unfold W
  rw [wp_bind]
  exact hp.trans (wp_mono frame _ _ hq)

/-- A part of a program beside what it leaves alone. -/
theorem wp_keep {α : Type} {p : PT F i α} {R A : sProp 𝕄} {B : α → sProp 𝕄} (h : A ⊢ W d i p B) :
    iprop(R ∗ A) ⊢ W d i p (fun a => iprop(R ∗ B a)) := by
  unfold W
  refine BIBase.Entails.trans (Q := iprop(R ∗ W d i p B)) ?_ (wp_frame_l frame (wpE (defs₀ (F := F)) 𝒱₀ (thr d i) none) Set.univ)
  show iprop(R ∗ A) ⊢ iprop(R ∗ W d i p B)
  iintro ⟨HR, HA⟩
  isplitl [HR]; · iexact HR
  iapply h $$ HA

/-- A part of a program at the head of a longer one. -/
theorem wp_then {α β : Type} {p : PT F i α} {q : α → PT F i β} {A : sProp 𝕄} {B : α → sProp 𝕄} {Q : β → sProp 𝕄} (h : A ⊢ W d i p B) :
    A ⊢ iprop((∀ a, B a -∗ W d i (q a) Q) -∗ W d i (p >>= q) Q) := by
  unfold W
  rw [wp_bind]
  iintro HA Hk
  iapply (wp_wand frame (wpE (defs₀ (F := F)) 𝒱₀ (thr d i) none) Set.univ) $$ [HA]
  · iapply h $$ HA
  iexact Hk

/-- A part of a program, its result weakened. -/
theorem wp_weaken {α : Type} {p : PT F i α} {A : sProp 𝕄} {B C : α → sProp 𝕄} (h : A ⊢ W d i p B) (hBC : ∀ a, B a ⊢ C a) : A ⊢ W d i p C :=
  h.trans (wp_mono frame _ _ hBC)

theorem wp_done {α : Type} {a : α} {A : sProp 𝕄} {Q : α → sProp 𝕄} (h : A ⊢ Q a) : A ⊢ W d i (pure a) Q := by
  unfold W
  rw [wp_pure]
  iintro H
  imodintro
  iapply h
  iexact H

theorem wp_gather {s t : Shape} {e : EltTy} {m : MS s e} {X : s.Idx → Elt F e} {idxs : Fin s.rank → IVec t 32}
    {h : ∀ a x, (idxs a x).toNat < s.size a} {hl : m.view.Loads}
    {α : Type} {k : Vec F t e → PT F i α} {Q : α → sProp 𝕄} :
    Holds d i m X ⊢ iprop((Holds d i m X -∗ W d i (k (loadIdx X idxs h)) Q) -∗ W d i (SparseCore.vectorLoadIdx m idxs h hl >>= k) Q) := by
  unfold Holds Held
  iintro ⟨%f, %hf, H⟩ Hk
  iapply (SparseCore.wp_vectorLoadIdx 𝒱₀ (thr d i) none Set.univ (base := m) (S := m.view.set) (View.set_slice_subset _ _)) $$ H
  iintro H
  rw [show (m.access (.whole s)).read (Elt F) f = X from
    funext fun x => (congrArg (m.view.read (Elt F) f) (Rect.emb_whole_apply s x)).trans (congrFun hf x)]
  iapply Hk
  iexists f
  isplitr; · ipureintro; exact hf
  iexact H

theorem wp_scatter {s : Shape} {e : EltTy} {m : MS s e} {P P' : (s.Idx → Elt F e) → Prop} {n : Fin 1 → Nat} {idxs : Fin s.rank → IVec ⟨1, n⟩ 32}
    {v : Vec F ⟨1, n⟩ e} {mask : IVec ⟨1, n⟩ 1} {h : ∀ a x, (idxs a x).toNat < s.size a} {hs : (m.access (.whole s)).Stores Finset.univ}
    {α : Type} {k : PUnit → PT F i α} {Q : α → sProp 𝕄}
    (hP : ∀ X, P X → P' (storeIdx X idxs v mask false h)) :
    Held d i m P ⊢ iprop((Held d i m P' -∗ W d i (k ⟨⟩) Q) -∗ W d i (SparseCore.vectorStoreIdx m idxs v mask false h hs >>= k) Q) := by
  have hset : (m.access (.whole s)).set = m.view.set := by
    rw [View.set_slice, Rect.set_whole]; rfl
  have hread : ∀ f, (m.access (.whole s)).read (Elt F) f = m.view.read (Elt F) f := fun f =>
    funext fun x => congrArg (m.view.read (Elt F) f) (Rect.emb_whole_apply s x)
  unfold Held
  rw [← hset]
  iintro ⟨%f, %hf, H⟩ Hk
  iapply (SparseCore.wp_vectorStoreIdx 𝒱₀ (thr d i) none Set.univ (base := m)) $$ H
  iintro H
  iapply Hk
  iexists ((m.access (.whole s)).write (Elt F) f (storeIdx ((m.access (.whole s)).read (Elt F) f) idxs v mask false h) Finset.univ)
  isplitr
  · ipureintro
    rw [← hread, View.read_write_univ, hread]
    exact hP _ hf
  iexact H

end Cert.KernelIdeal.Tile
-- ==== Proof.Rows.lean ====
/-
  The two loops of a block: what they leave in the block's buffer of results.
-/
module

public import proofs.«01_k».proof.Proof.Setup

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Facts₀ Facts

variable {F : FTy → Type}

local notation "𝕄" => MT nD τ sig (HIx 1) (Elt F) ℕ UU ℕ

/-! ## Values -/

/-- Field `k` of a packed word. -/
def fldW (w : BitVec 32) (k : Nat) : BitVec 32 := IntOp.andi (IntOp.shrui .vector w (BitVec.ofNat 32 (8 * k))) 255#32

/-- A place of a block of packed words. -/
def px (p : Fin 16) (c : Fin 200) : S16x200.Idx := fun a => match a with
  | ⟨0, _⟩ => p
  | ⟨1, _⟩ => c

/-- An entry of the table. -/
def at112 {α : Type} (L : S112.Idx → α) (n : Nat) : α := L fun a => match a with | ⟨0, _⟩ => ⟨n % 112, Nat.mod_lt _ (by decide)⟩

/-- What a block's results should be, from its packed words and the table. -/
def vals {α : Type} (X : S16x200.Idx → BitVec 32) (L : S112.Idx → α) (y : S64x200.Idx) : α :=
  at112 L (fldW (X (px ⟨(y 0).val % 16, Nat.mod_lt _ (by decide)⟩ (y 1))) ((y 0).val / 16)).toNat

/-- Every field of every packed word names an entry of the table. -/
def InTable {s : Shape} (X : s.Idx → BitVec 32) : Prop := ∀ y, ∀ k : Fin 4, (fldW (X y) k).toNat < 112

/-- The results are right at the places in `A`. -/
def Agrees {α : Type} (X : S16x200.Idx → BitVec 32) (L : S112.Idx → α) (A : Set S64x200.Idx) (R : S64x200.Idx → α) : Prop :=
  ∀ y ∈ A, R y = vals X L y

/-- The places field `k` of a chunk fills. -/
def cell (t : Fin 16) (c : Fin 12) (k : Fin 4) : Set S64x200.Idx :=
  {y | (y 0).val = 16 * k.val + t.val ∧ 16 * c.val ≤ (y 1).val ∧ (y 1).val < 16 * c.val + 16}

theorem vals_eq {α : Type} (X : S16x200.Idx → BitVec 32) (L : S112.Idx → α) (y : S64x200.Idx) (t : Fin 16) (k : Fin 4) (c : Fin 200)
    (h0 : (y 0).val = 16 * k.val + t.val) (h1 : (y 1).val = c.val) : vals X L y = at112 L (fldW (X (px t c)) k).toNat := by
  have ht := t.isLt
  unfold vals
  rw [show (y 0).val / 16 = k.val by omega]
  congr 4
  · congr 1
    · exact Fin.ext (by show (y 0).val % 16 = t.val; omega)
    · exact Fin.ext h1

variable [FloatOps F] (d : Dev nD) (i : grid0.Coords)

theorem loadIdx_table (L : S112.Idx → Elt F .f32) (x : IVec S16 32) (k : Fin 4) (h : ∀ a y, ((![fld x k] : Fin 1 → IVec S16 32) a y).toNat < S112.size a) (y : S16.Idx) :
    loadIdx L ![fld x k] h y = at112 L (fldW (x y) k).toNat := by
  unfold loadIdx at112
  congr 1
  funext a
  obtain rfl : a = 0 := Subsingleton.elim _ _
  refine Fin.ext ?_
  show (fldW (x y) k).toNat = (fldW (x y) k).toNat % 112
  exact (Nat.mod_eq_of_lt (h 0 y)).symm

/-- The indices of a field of sixteen packed words are in the table. -/
theorem fld_lt {x : IVec S16 32} (hx : InTable x) (k : Fin 4) : ∀ a y, ((![fld x k] : Fin 1 → IVec S16 32) a y).toNat < S112.size a := by
  intro a y
  obtain rfl : a = 0 := Subsingleton.elim _ _
  show (fldW (x y) k).toNat < 112
  exact hx y k

/-- Looking sixteen values up. -/
theorem wp_look {lut : MS S112 .f32} {L : S112.Idx → Elt F .f32} {v : IVec S16 32} (h : ∀ a y, ((![v] : Fin 1 → IVec S16 32) a y).toNat < S112.size a)
    {α : Type} {k : Vec F S16 .f32 → PT F i α} {Q : α → sProp 𝕄} :
    Holds d i lut L ⊢ iprop((Holds d i lut L -∗ W d i (k (loadIdx L ![v] h)) Q) -∗ W d i (look i lut v >>= k) Q) := by
  unfold look
  rw [bind_assoc]
  iintro HL Hk
  iapply (wp_check d i h)
  iapply (wp_gather d i) $$ HL
  iexact Hk

/-- The sixteen words of a chunk. -/
def chunkW (X : S16x200.Idx → BitVec 32) (t : Fin 16) (c : Fin 12) : IVec S16 32 :=
  fun y => X (px t ⟨16 * c.val + (y 0).val, by have := c.isLt; have : (y 0).val < 16 := (y 0).isLt; omega⟩)

/-- Place `n` of a row of sixteen. -/
def lane1 (n : Fin 16) : S1x16.Idx := fun a => match a with
  | ⟨0, _⟩ => (0 : Fin 1)
  | ⟨1, _⟩ => n

theorem chunkW_cast (X : S16x200.Idx → BitVec 32) (t : Fin 16) (c : Fin 12) :
    shapeCast S16 (fun x => X ((Rect.unit (s := S16x200) (xOff t c) S1x16.size (xOff_inb t c)).emb x)) shapeCasts_S1x16_S16 = chunkW X t c := by
  funext y
  rw [shapeCast_dropUnit_apply]
  unfold chunkW
  congr 1
  funext a
  refine Fin.ext ?_
  refine (ValueKit.rect_emb_unit_val _ _ _ _ a).trans ?_
  refine (congrArg (· + _) (congrFun (xOff_eq t c t.isLt) a)).trans ?_
  match a with
  | ⟨0, _⟩ => rfl
  | ⟨1, _⟩ => rfl

/-- One field of a chunk fills its cell. -/
theorem wp_field {lut : MS S112 .f32} {ov : MS S64x200 .f32} {X : S16x200.Idx → BitVec 32} {L : S112.Idx → Elt F .f32} (hX : InTable X)
    (t : Fin 16) (c : Fin 12) (k : Fin 4) (A : Set S64x200.Idx) :
    iprop(Holds d i lut L ∗ Held d i ov (Agrees X L A))
      ⊢ W d i (field i lut ov (chunkW X t c) t c k) (fun _ => iprop(Holds d i lut L ∗ Held d i ov (Agrees X L (A ∪ cell t c k)))) := by
  have hx : InTable (chunkW X t c) := fun y k => hX _ k
  unfold field
  iintro ⟨HL, HR⟩
  iapply (wp_look d i (fld_lt hx k)) $$ HL
  iintro HL
  iapply (wp_load_any d i) $$ HR
  iintro %v HR
  iapply (wp_last d i)
  iapply (wp_store_held d i (P' := Agrees X L (A ∪ cell t c k)) ?hst) $$ HR
  case hst =>
    intro R Y hR hw hn y hy
    have ht := t.isLt
    have hc := c.isLt
    by_cases hm : y ∈ cell t c k
    · obtain ⟨h0, h1, h2⟩ := hm
      have hz := hw (lane1 ⟨(y 1).val - 16 * c.val, by omega⟩)
      have he : (Rect.unit (s := S64x200) (oOff t k c) S1x16.size (oOff_inb t k c)).emb
          (lane1 ⟨(y 1).val - 16 * c.val, by omega⟩) = y := by
        funext a
        refine Fin.ext ?_
        refine (ValueKit.rect_emb_unit_val _ _ _ _ a).trans ?_
        refine (congrArg (· + _) (congrFun (oOff_eq t k c t.isLt k.isLt) a)).trans ?_
        match a with
        | ⟨0, _⟩ => show 16 * k.val + t.val + 0 = (y 0).val; omega
        | ⟨1, _⟩ => show 16 * c.val + ((y 1).val - 16 * c.val) = (y 1).val; omega
      rw [he] at hz
      rw [hz, shapeCast_addUnit_apply]
      refine (loadIdx_table L _ k (fld_lt hx k) _).trans ?_
      rw [vals_eq X L y t k ⟨16 * c.val + ((y 1).val - 16 * c.val), by omega⟩ h0 (by show (y 1).val = 16 * c.val + ((y 1).val - 16 * c.val); omega)]
      rfl
    · rw [hn y ?_]
      · exact hR y (hy.resolve_right hm)
      · intro hmem
        rw [Rect.mem_set_unit] at hmem
        apply hm
        have q0 := hmem 0
        have q1 := hmem 1
        rw [oOff_eq _ _ _ t.isLt k.isLt] at q0 q1
        have q0' : 16 * k.val + t.val ≤ (y 0).val ∧ (y 0).val < 16 * k.val + t.val + 1 := q0
        have q1' : 16 * c.val ≤ (y 1).val ∧ (y 1).val < 16 * c.val + 16 := q1
        exact ⟨by omega, q1'.1, q1'.2⟩
  iintro HR
  iapply (wp_done d i (entails_refl _))
  isplitl [HL]; · iexact HL
  iexact HR

/-- What a block's loops work on: the packed words, the table, and the results so far. -/
def St (xv : MS S16x200 .i32) (lut : MS S112 .f32) (ov : MS S64x200 .f32) (X : S16x200.Idx → BitVec 32) (L : S112.Idx → Elt F .f32)
    (A : Set S64x200.Idx) : sProp 𝕄 :=
  iprop(Holds d i xv X ∗ Holds d i lut L ∗ Held d i ov (Agrees X L A))

variable {d i} {xv : MS S16x200 .i32} {lut : MS S112 .f32} {ov : MS S64x200 .f32} {X : S16x200.Idx → BitVec 32} {L : S112.Idx → Elt F .f32}

theorem St_mono {A B : Set S64x200.Idx} (h : ∀ y ∈ B, y ∈ A) : St d i xv lut ov X L A ⊢ St d i xv lut ov X L B := by
  unfold St
  iintro ⟨HX, HL, HR⟩
  isplitl [HX]; · iexact HX
  isplitl [HL]; · iexact HL
  iapply (held_mono d i fun R hR y hy => hR y (h y hy)) $$ HR

/-- A part of the loops that leaves the packed words alone. -/
theorem St_frame {p : PT F i PUnit} {A B : Set S64x200.Idx}
    (h : iprop(Holds d i lut L ∗ Held d i ov (Agrees X L A)) ⊢ W d i p (fun _ => iprop(Holds d i lut L ∗ Held d i ov (Agrees X L B)))) :
    St d i xv lut ov X L A ⊢ W d i p (fun _ => St d i xv lut ov X L B) := by
  exact wp_keep d i h

/-- The places a chunk fills. -/
def strip (t : Fin 16) (c : Fin 12) : Set S64x200.Idx :=
  {y | (y 0).val % 16 = t.val ∧ 16 * c.val ≤ (y 1).val ∧ (y 1).val < 16 * c.val + 16}

/-- A chunk fills its strip. -/
theorem wp_chunk (hX : InTable X) (t : Fin 16) (c : Fin 12) (A : Set S64x200.Idx) :
    St d i xv lut ov X L A ⊢ W d i (chunk i xv lut ov t c) (fun _ => St d i xv lut ov X L (A ∪ strip t c)) := by
  have hf := fun k A => St_frame (xv := xv) (wp_field d i (lut := lut) (ov := ov) (L := L) hX t c k A)
  unfold chunk
  unfold St
  iintro ⟨HX, HL, HR⟩
  iapply (wp_load_holds d i) $$ HX
  iintro HX
  rw [chunkW_cast]
  iapply (wp_seq d i (hf 0 A) fun _ => wp_seq d i (hf 1 _) fun _ => wp_seq d i (hf 2 _) fun _ => (hf 3 _).trans (wp_mono frame _ _ fun _ => St_mono ?hm))
  case hm =>
    intro y hy
    rcases hy with hy | ⟨h0, h1, h2⟩
    · exact .inl (.inl (.inl (.inl hy)))
    · have ht := t.isLt
      have hy0 : (y 0).val < 64 := (y 0).isLt
      by_cases e0 : (y 0).val / 16 = 0
      · exact .inl (.inl (.inl (.inr ⟨by show (y 0).val = 16 * 0 + t.val; omega, h1, h2⟩)))
      by_cases e1 : (y 0).val / 16 = 1
      · exact .inl (.inl (.inr ⟨by show (y 0).val = 16 * 1 + t.val; omega, h1, h2⟩))
      by_cases e2 : (y 0).val / 16 = 2
      · exact .inl (.inr ⟨by show (y 0).val = 16 * 2 + t.val; omega, h1, h2⟩)
      · exact .inr ⟨by show (y 0).val = 16 * 3 + t.val; omega, h1, h2⟩
  unfold St
  isplitl [HX]; · iexact HX
  isplitl [HL]; · iexact HL
  iexact HR

/-- A row's first columns. -/
def band (t : Fin 16) (n : Nat) : Set S64x200.Idx := {y | (y 0).val % 16 = t.val ∧ (y 1).val < 16 * n}

theorem wp_chunk_band (hX : InTable X) (t : Fin 16) (c : Fin 12) (A : Set S64x200.Idx) :
    St d i xv lut ov X L (A ∪ band t c.val) ⊢ W d i (chunk i xv lut ov t c) (fun _ => St d i xv lut ov X L (A ∪ band t (c.val + 1))) := by
  refine (wp_chunk hX t c _).trans (wp_mono frame _ _ fun _ => St_mono ?_)
  intro y hy
  rcases hy with hy | ⟨h0, h1⟩
  · exact .inl (.inl hy)
  · by_cases h : (y 1).val < 16 * c.val
    · exact .inl (.inr ⟨h0, h⟩)
    · exact .inr ⟨h0, by omega, by omega⟩

/-- A row's twelve chunks fill its first 192 columns. -/
theorem wp_chunks (hX : InTable X) (t : Fin 16) (A : Set S64x200.Idx) :
    St d i xv lut ov X L A ⊢ W d i (chunks i xv lut ov t) (fun _ => St d i xv lut ov X L (A ∪ band t 12)) := by
  have h := fun c => wp_chunk_band (d := d) (i := i) (xv := xv) (lut := lut) (ov := ov) (L := L) hX t c A
  refine (St_mono (B := A ∪ band t 0) fun y hy => hy.resolve_right fun h => absurd h.2 (Nat.not_lt_zero _)).trans ?_
  unfold chunks
  exact wp_seq d i (h 0) fun _ => wp_seq d i (h 1) fun _ => wp_seq d i (h 2) fun _ => wp_seq d i (h 3) fun _ => wp_seq d i (h 4) fun _ =>
    wp_seq d i (h 5) fun _ => wp_seq d i (h 6) fun _ => wp_seq d i (h 7) fun _ => wp_seq d i (h 8) fun _ => wp_seq d i (h 9) fun _ =>
    wp_seq d i (h 10) fun _ => h 11

/-- The first rows' first 192 columns. -/
def wide (n : Nat) : Set S64x200.Idx := {y | (y 0).val % 16 < n ∧ (y 1).val < 192}

/-- The loop over the rows fills every row's first 192 columns. -/
theorem wp_rows (hX : InTable X) :
    St d i xv lut ov X L ∅ ⊢ W d i (rows i xv lut ov) (fun _ => St d i xv lut ov X L (wide 16)) := by
  unfold rows
  iintro H
  iapply (Scf.wp_for frame (wpE (defs₀ (F := F)) 𝒱₀ (thr d i) none) Set.univ rowLoop.lb rowLoop.ub rowLoop.st rowLoop_ok PUnit.unit
    (fun t _ => chunks i xv lut ov t) (fun n _ => St d i xv lut ov X L (wide n)) ?hb)
  case hb =>
    intro t _
    refine (wp_chunks hX t _).trans (wp_mono frame _ _ fun _ => St_mono ?_)
    rintro y ⟨h0, h1⟩
    by_cases h : (y 0).val % 16 < t.val
    · exact .inl ⟨h, h1⟩
    · exact .inr ⟨by show (y 0).val % 16 = t.val; omega, by show (y 1).val < 16 * 12; omega⟩
  isplitl [H]
  · iapply (St_mono (A := ∅) (B := wide 0) fun y hy => absurd hy.1 (Nat.not_lt_zero _)) $$ H
  · iintro %_ H
    iexact H

/-! ## The tail -/

/-- A lane. -/
def lane (l : Fin 16) : S16.Idx := fun a => match a with | ⟨0, _⟩ => l

theorem tailRow_lane : ∀ l : Fin 16, (tailRow (lane l)).toNat = l.val / 8 := by decide +kernel
theorem tailCol_lane : ∀ l : Fin 16, (tailCol (lane l)).toNat = 192 + l.val % 8 := by decide +kernel

theorem lane_eta (y : S16.Idx) : y = lane (y 0) := funext fun a => match a with | ⟨0, _⟩ => rfl

theorem tailCol_toNat (y : S16.Idx) : (tailCol y).toNat = 192 + (y 0).val % 8 := by
  rw [lane_eta y]; exact tailCol_lane _

theorem tailRows_toNat (t : Nat) (ht : t < 8) (y : S16.Idx) : (tailRows t y).toNat = 2 * t + (y 0).val / 8 := by
  have hl : (y 0).val < 16 := (y 0).isLt
  have h : (tailRow y).toNat = (y 0).val / 8 := by
    conv_lhs => rw [lane_eta y]
    exact tailRow_lane _
  show (2#32 * rowW t + tailRow y).toNat = _
  rw [BitVec.toNat_add, BitVec.toNat_mul, rowW_toNat t (by omega), h]
  show (2 * t % 4294967296 + (y 0).val / 8) % 4294967296 = _
  omega

theorem tailOut_toNat (t k : Nat) (ht : t < 8) (hk : k < 4) (y : S16.Idx) : (tailOut t k y).toNat = 16 * k + (2 * t + (y 0).val / 8) := by
  have hl : (y 0).val < 16 := (y 0).isLt
  show (BitVec.ofNat 32 (16 * k) + tailRows t y).toNat = _
  rw [BitVec.toNat_add, tailRows_toNat t ht, BitVec.toNat_ofNat]
  omega

theorem tailRows_lt (t : Fin 8) : ∀ a y, ((![tailRows t, tailCol] : Fin 2 → IVec S16 32) a y).toNat < S16x200.size a := by
  intro a y
  have ht := t.isLt
  have hl : (y 0).val < 16 := (y 0).isLt
  match a with
  | ⟨0, _⟩ => show (tailRows t y).toNat < 16; rw [tailRows_toNat t ht]; omega
  | ⟨1, _⟩ => show (tailCol y).toNat < 200; rw [tailCol_toNat]; omega

theorem tailOut_lt (t : Fin 8) (k : Fin 4) : ∀ a y, ((![tailOut t k, tailCol] : Fin 2 → IVec S16 32) a y).toNat < S64x200.size a := by
  intro a y
  have ht := t.isLt
  have hk := k.isLt
  have hl : (y 0).val < 16 := (y 0).isLt
  match a with
  | ⟨0, _⟩ => show (tailOut t k y).toNat < 64; rw [tailOut_toNat t k ht hk]; omega
  | ⟨1, _⟩ => show (tailCol y).toNat < 200; rw [tailCol_toNat]; omega

/-- A run of writes, each putting a right value at its own places and leaving the others alone, makes all those
    places right and leaves right what was. -/
theorem foldl_agrees {ι κ α : Type} (V : ι → α) (pl : κ → Set ι) (st : (ι → α) → κ → ι → α)
    (hin : ∀ g l, ∀ z ∈ pl l, st g l z = V z) (hout : ∀ g l, ∀ z ∉ pl l, st g l z = g z) :
    ∀ (ls : List κ) (g : ι → α) (C : Set ι), (∀ z ∈ C, g z = V z) → ∀ z, (z ∈ C ∨ ∃ l ∈ ls, z ∈ pl l) → ls.foldl st g z = V z := by
  intro ls
  induction ls with
  | nil =>
    intro g C hC z hz
    rcases hz with hz | ⟨l, hl, _⟩
    · exact hC z hz
    · exact absurd hl List.not_mem_nil
  | cons l ls ih =>
    intro g C hC z hz
    refine ih (st g l) (C ∪ pl l) (fun z' hz' => ?_) z ?_
    · by_cases hp : z' ∈ pl l
      · exact hin g l z' hp
      · exact (hout g l z' hp).trans (hC z' (hz'.resolve_right hp))
    · rcases hz with hz | ⟨l', hl', hz⟩
      · exact .inl (.inl hz)
      · rcases List.mem_cons.mp hl' with rfl | hl'
        · exact .inl (.inr hz)
        · exact .inr ⟨l', hl', hz⟩

/-- Writing sixteen values at sixteen places, each the value its place should have, makes those places right and
    leaves right what was. -/
theorem storeIdx_agrees {s : Shape} {e : EltTy} {n : Fin 1 → Nat} (f V : Vec F s e) (idxs : Fin s.rank → IVec ⟨1, n⟩ 32) (v : Vec F ⟨1, n⟩ e)
    (h : ∀ a x, (idxs a x).toNat < s.size a) (B : Set s.Idx) (hB : ∀ z ∈ B, f z = V z)
    (hv : ∀ l z, (∀ a, (z a).val = (idxs a (Shape.ofLane l)).toNat) → v (Shape.ofLane l) = V z) :
    ∀ z, (z ∈ B ∨ ∃ l : Fin (n 0), ∀ a, (z a).val = (idxs a (Shape.ofLane l)).toNat) → storeIdx f idxs v (fun _ => 1#1) false h z = V z := by
  intro z hz
  unfold storeIdx
  exact foldl_agrees V (fun l => {z | ∀ a, (z a).val = (idxs a (Shape.ofLane l)).toNat}) _
    (fun g l z hz => (if_pos hz).trans (hv l z hz)) (fun g l z hz => if_neg hz) _ f B hB z (hz.imp_right fun ⟨l, hl⟩ => ⟨l, List.mem_finRange _, hl⟩)

/-- The sixteen words of a trip of the tail. -/
abbrev tailW (X : S16x200.Idx → BitVec 32) (t : Fin 8) : IVec S16 32 := loadIdx (F := F) (e := .i32) X ![tailRows t, tailCol] (tailRows_lt t)

/-- The places field `k` of a trip of the tail fills. -/
def tailCell (t : Fin 8) (k : Fin 4) : Set S64x200.Idx :=
  {y | (y 0).val / 16 = k.val ∧ (y 0).val % 16 / 2 = t.val ∧ 192 ≤ (y 1).val}

/-- One field of a trip of the tail fills its places. -/
theorem wp_tailField (hX : InTable X) (t : Fin 8) (k : Fin 4) (A : Set S64x200.Idx) :
    iprop(Holds d i lut L ∗ Held d i ov (Agrees X L A))
      ⊢ W d i (tailField i lut ov (tailW (F := F) X t) t k) (fun _ => iprop(Holds d i lut L ∗ Held d i ov (Agrees X L (A ∪ tailCell t k)))) := by
  have hx : InTable (tailW (F := F) X t) := fun y k => hX _ k
  unfold tailField
  iintro ⟨HL, HR⟩
  iapply (wp_check d i (fld_lt hx k))
  iapply (wp_check d i (tailOut_lt t k))
  iapply (wp_gather d i) $$ HL
  iintro HL
  iapply (wp_last d i)
  iapply (wp_scatter d i (P' := Agrees X L (A ∪ tailCell t k)) ?hst) $$ HR
  case hst =>
    intro R hR y hy
    have ht := t.isLt
    have hk := k.isLt
    refine storeIdx_agrees R (vals X L) _ _ (tailOut_lt t k) A hR ?_ y (hy.imp_right ?_)
    · intro l z hz
      have hl : (l : Nat) < 16 := l.isLt
      have z0 : (z 0).val = (tailOut t k (Shape.ofLane l)).toNat := hz 0
      have z1 : (z 1).val = (tailCol (Shape.ofLane l)).toNat := hz 1
      rw [tailOut_toNat t k ht hk] at z0
      rw [tailCol_toNat] at z1
      refine (loadIdx_table L _ k (fld_lt hx k) _).trans ?_
      rw [vals_eq X L z ⟨2 * t.val + l.val / 8, by omega⟩ k ⟨192 + l.val % 8, by omega⟩ z0 z1]
      unfold tailW loadIdx
      congr 4
      funext a
      refine Fin.ext ?_
      match a with
      | ⟨0, _⟩ => exact tailRows_toNat t ht _
      | ⟨1, _⟩ => exact tailCol_toNat _
    · rintro ⟨h0, h1, h2⟩
      have hy1 : (y 1).val < 200 := (y 1).isLt
      refine ⟨(⟨8 * ((y 0).val % 2) + ((y 1).val - 192), by show _ < 16; omega⟩ : Fin 16), fun a => ?_⟩
      match a with
      | ⟨0, _⟩ =>
        refine Eq.trans ?_ (tailOut_toNat t k ht hk _).symm
        show (y 0).val = 16 * k.val + (2 * t.val + (8 * ((y 0).val % 2) + ((y 1).val - 192)) / 8)
        omega
      | ⟨1, _⟩ =>
        refine Eq.trans ?_ (tailCol_toNat _).symm
        show (y 1).val = 192 + (8 * ((y 0).val % 2) + ((y 1).val - 192)) % 8
        omega
  iintro HR
  iapply (wp_done d i (entails_refl _))
  isplitl [HL]; · iexact HL
  iexact HR

/-- The places a trip of the tail fills. -/
def tailStrip (t : Fin 8) : Set S64x200.Idx := {y | (y 0).val % 16 / 2 = t.val ∧ 192 ≤ (y 1).val}

/-- A trip of the tail fills the last eight columns of its two rows. -/
theorem wp_tail (hX : InTable X) (t : Fin 8) (A : Set S64x200.Idx) :
    St d i xv lut ov X L A ⊢ W d i (tail i xv lut ov t) (fun _ => St d i xv lut ov X L (A ∪ tailStrip t)) := by
  have hf := fun k A => St_frame (xv := xv) (wp_tailField (d := d) (i := i) (lut := lut) (ov := ov) (L := L) hX t k A)
  unfold tail
  unfold St
  iintro ⟨HX, HL, HR⟩
  iapply (wp_check d i (tailRows_lt t))
  iapply (wp_gather d i) $$ HX
  iintro HX
  iapply (wp_seq d i (hf 0 A) fun _ => wp_seq d i (hf 1 _) fun _ => wp_seq d i (hf 2 _) fun _ => (hf 3 _).trans (wp_mono frame _ _ fun _ => St_mono ?hm))
  case hm =>
    intro y hy
    rcases hy with hy | ⟨h0, h1⟩
    · exact .inl (.inl (.inl (.inl hy)))
    · have hy0 : (y 0).val < 64 := (y 0).isLt
      by_cases e0 : (y 0).val / 16 = 0
      · exact .inl (.inl (.inl (.inr ⟨e0, h0, h1⟩)))
      by_cases e1 : (y 0).val / 16 = 1
      · exact .inl (.inl (.inr ⟨e1, h0, h1⟩))
      by_cases e2 : (y 0).val / 16 = 2
      · exact .inl (.inr ⟨e2, h0, h1⟩)
      · exact .inr ⟨by show (y 0).val / 16 = 3; omega, h0, h1⟩
  unfold St
  isplitl [HX]; · iexact HX
  isplitl [HL]; · iexact HL
  iexact HR

/-- The first 192 columns, and the first pairs of rows in full. -/
def full (n : Nat) : Set S64x200.Idx := {y | (y 1).val < 192 ∨ (y 0).val % 16 / 2 < n}

/-- The loop over the pairs of rows fills the last eight columns. -/
theorem wp_tails (hX : InTable X) :
    St d i xv lut ov X L (wide 16) ⊢ W d i (tails i xv lut ov) (fun _ => St d i xv lut ov X L Set.univ) := by
  unfold tails
  iintro H
  iapply (Scf.wp_for frame (wpE (defs₀ (F := F)) 𝒱₀ (thr d i) none) Set.univ tailLoop.lb tailLoop.ub tailLoop.st tailLoop_ok PUnit.unit
    (fun t _ => tail i xv lut ov t) (fun n _ => St d i xv lut ov X L (full n)) ?hb)
  case hb =>
    intro t _
    refine (wp_tail hX t _).trans (wp_mono frame _ _ fun _ => St_mono ?_)
    intro y hy
    by_cases h : (y 1).val < 192 ∨ (y 0).val % 16 / 2 < t.val
    · exact .inl h
    · have hy' : (y 1).val < 192 ∨ (y 0).val % 16 / 2 < t.val + 1 := hy
      exact .inr ⟨by omega, by omega⟩
  isplitl [H]
  · iapply (St_mono (A := wide 16) (B := full 0) ?hs) $$ H
    case hs =>
      intro y hy
      have hy' : (y 1).val < 192 ∨ (y 0).val % 16 / 2 < 0 := hy
      exact ⟨Nat.mod_lt _ (by decide), by omega⟩
  · iintro %_ H
    iapply (St_mono (A := full tailLoop.trips) (B := Set.univ) ?hs) $$ H
    case hs =>
      intro y _
      rw [tailLoop_trips]
      exact .inr (by omega)

/-- A block's values from its packed words and the table. -/
theorem wp_compute (hX : InTable X) {P : (S64x200.Idx → Elt F .f32) → Prop} :
    iprop(Holds d i xv X ∗ Holds d i lut L ∗ Held d i ov P)
      ⊢ W d i (compute i xv lut ov) (fun _ => iprop(Holds d i xv X ∗ Holds d i lut L ∗ Holds d i ov (vals X L))) := by
  unfold compute
  have h0 : iprop(Holds d i xv X ∗ Holds d i lut L ∗ Held d i ov P) ⊢ St d i xv lut ov X L ∅ := by
    unfold St
    iintro ⟨HX, HL, HR⟩
    isplitl [HX]; · iexact HX
    isplitl [HL]; · iexact HL
    iapply (held_mono d i fun R _ y hy => absurd hy (Set.notMem_empty y)) $$ HR
  have h1 : St d i xv lut ov X L Set.univ ⊢ iprop(Holds d i xv X ∗ Holds d i lut L ∗ Holds d i ov (vals X L)) := by
    unfold St
    iintro ⟨HX, HL, HR⟩
    isplitl [HX]; · iexact HX
    isplitl [HL]; · iexact HL
    iapply (held_mono d i fun R hR => funext fun y => hR y (Set.mem_univ y)) $$ HR
  exact wp_seq d i (h0.trans (wp_rows hX)) fun _ => (wp_tails hX).trans (wp_mono frame _ _ fun _ => h1)

end Cert.KernelIdeal.Tile
-- ==== Proof.Copies.lean ====
/-
  The tile's copies: fetching a block of packed words, writing a block of results out, and the two copies it begins with.
-/
module

public import proofs.«01_k».proof.Proof.Rows

@[expose] public section

noncomputable section

namespace Cert.KernelIdeal.Tile

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig (HIx 1) (Elt F) ℕ UU ℕ

variable (d : Dev nD) (i : grid0.Coords)

/-- A share of a buffer whose contents are `X`. -/
def Part {sp : Space} {s : Shape} {e : EltTy} (q : PosShare TreeShare) (m : Memref sig .scVector sp s e) (X : s.Idx → Elt F e) : sProp 𝕄 :=
  iprop(∃ f, ⌜m.view.read (Elt F) f = X⌝ ∗ m.view.loc (thr d i) ↦[m.view.set]{q} f)

/-- A semaphore of the tile's at rest. -/
abbrev Rest (sem : DmaSems sig S_) : sProp 𝕄 := semVal (thr d i, .dma sem.sem) 0

/-- What the tile owes, and what it has waited for: nothing of another's since it began. -/
def Ow (O : CellTallies nD τ sig (HIx 1)) (W₀ : Waits sig (HIx 1)) : sProp 𝕄 :=
  iprop(MayWaits (thr d i) none O ∗ ∃ W', ⌜∀ p ∈ W', p ∈ W₀ ∨ p.2 = none⌝ ∗ owes (thr d i) O W')

variable {d i} {O : CellTallies nD τ sig (HIx 1)} {W₀ : Waits sig (HIx 1)}

theorem waits_insert {W' : Waits sig (HIx 1)} (h : ∀ p ∈ W', p ∈ W₀ ∨ p.2 = none) (sm : SemLoc sig) :
    ∀ p ∈ insert (sm, (none : HIx 1)) W', p ∈ W₀ ∨ p.2 = none := by
  intro p hp
  rcases Finset.mem_insert.mp hp with rfl | hp
  · exact .inr rfl
  · exact h p hp

theorem held_intro {sp : Space} {s : Shape} {e : EltTy} {m : Memref sig .scVector sp s e} {P : (s.Idx → Elt F e) → Prop}
    (f : Buf (Elt F) (m.view.loc (thr d i))) (h : P (m.view.read (Elt F) f)) :
    (m.view.loc (thr d i) ↦[m.view.set]{fullShare} f : sProp 𝕄) ⊢ Held d i m P := by
  unfold Held
  iintro H
  iexists f
  isplitr; · ipureintro; exact h
  iexact H

theorem held_elim {sp : Space} {s : Shape} {e : EltTy} {m : Memref sig .scVector sp s e} {P : (s.Idx → Elt F e) → Prop} :
    (Held d i m P : sProp 𝕄) ⊢ iprop(∃ f, ⌜P (m.view.read (Elt F) f)⌝ ∗ m.view.loc (thr d i) ↦[m.view.set]{fullShare} f) := by
  unfold Held
  exact entails_refl _

/-- What a copy leaves in the whole of its destination is what it read. -/
theorem landed {sp : Space} {s : Shape} {e : EltTy} {m : Memref sig .scVector sp s e} (fd : m.view.ty.Contents (Elt F)) {g X : s.Idx → Elt F e} (h : g = X) :
    m.view.read (Elt F) (m.view.write (Elt F) fd ((ReadAs.same : ReadAs (Elt F) s e s e).apply g) Finset.univ) = X := by
  rw [View.read_write_univ, ReadAs.apply_same, h]

/-- A copy that is waited for at once. -/
theorem wp_copyIn {n : Shape} (hn : 0 < n.numel) {src : MH n .f32} {hsrc : src.IsWhole} {dst : MS n .f32} {hdst : dst.IsWhole} {sem : DmaSems sig S_}
    {q : PosShare TreeShare} {X : n.Idx → Elt F .f32} {P : (n.Idx → Elt F .f32) → Prop} :
    iprop(Part d i q src X ∗ Held d i dst P ∗ Rest d i sem ∗ Ow d i O W₀)
      ⊢ W d i (copyIn i src hsrc dst hdst sem) (fun _ => iprop(Part d i q src X ∗ Holds d i dst X ∗ Rest d i sem ∗ Ow d i O W₀)) := by
  unfold copyIn Part Ow
  rw [lift_bind]
  iintro ⟨⟨%fs, %hfs, Hs⟩, Hd, Hv, #HM, %W', %hW', HO⟩
  ihave Hd := held_elim $$ Hd
  icases Hd with ⟨%fd, %hfd, Hd⟩
  iapply (wp_dmaLocal EC 𝒱₀ (thr d i) none none (dst.view.dmaCredit) rfl (View.dmaCredit_pos _ hn) (Finset.Subset.refl _)) $$ [Hs Hd Hv]
  · isplitl [Hs]; · iexact Hs
    isplitl [Hd]; · iexact Hd
    iexact Hv
  iintro HF
  iapply (wp_last d i)
  rw [lift_bind]
  iapply (wp_waitLocalO EC 𝒱₀ (thr d i) none none rfl) $$ [HF HO]
  · isplitl [HF]; · iexact HF
    isplitl [HO]; · iexact HO
    iapply (MayWaits.elim (.dma sem.sem)) $$ HM
  iintro ⟨⟨Hd, Hs⟩, Hv, HO⟩
  iapply (wp_done d i (entails_refl _))
  isplitl [Hs]
  · iexists fs; isplitr; · ipureintro; exact hfs
    iexact Hs
  isplitl [Hd]
  · iapply (held_intro (P := fun Y => Y = X) _ (landed fd hfs)) $$ Hd
  isplitl [Hv]; · iexact Hv
  isplitr; · iexact HM
  iexists _; isplitr; rotate_left; iexact HO; · ipureintro; exact waits_insert hW' _

/-! ## Fetching a block -/

variable {xp : MH S4096x200 .i32} {out : MH S16384x200 .f32} {l : Line}

/-- Block `b` on its way into the line's buffer. -/
def XFly (d : Dev nD) (i : grid0.Coords) (xp : MH S4096x200 .i32) (l : Line) (b : Fin 8) (X : S16x200.Idx → Elt F .i32) : sProp 𝕄 :=
  iprop(∃ (fs : Buf (Elt F) ((xpBlk i xp b).view.loc (thr d i))) (fd : Buf (Elt F) (l.xv.view.loc (thr d i))), ⌜(xpBlk i xp b).view.read (Elt F) fs = X⌝
    ∗ Flight EC (thr d i) (.dma l.sx.sem) none l.xv.view.dmaCredit
        iprop((l.xv.view.loc (thr d i) ↦[l.xv.view.set]{fullShare} (l.xv.view.write (Elt F) fd ((ReadAs.same : ReadAs (Elt F) S16x200 .i32 S16x200 .i32).apply ((xpBlk i xp b).view.read (Elt F) fs)) Finset.univ))
          ∗ ((xpBlk i xp b).view.loc (thr d i) ↦[(xpBlk i xp b).view.set]{fullShare} fs)))

theorem wp_startX {b : Fin 8} {X : S16x200.Idx → Elt F .i32} {P : (S16x200.Idx → Elt F .i32) → Prop} :
    iprop(Held d i l.xv P ∗ Holds d i (xpBlk i xp b) X ∗ Rest d i l.sx) ⊢ W d i (startX i xp l.xv l.hxv l.sx b) (fun _ => XFly d i xp l b X) := by
  unfold startX Holds Held XFly
  iintro ⟨⟨%fd, %hfd, Hd⟩, ⟨%fs, %hfs, Hs⟩, Hv⟩
  iapply (wp_last d i)
  rw [lift_bind]
  iapply (wp_dmaLocal EC 𝒱₀ (thr d i) none none (l.xv.view.dmaCredit) rfl (View.dmaCredit_pos _ (by decide)) (Finset.Subset.refl _)) $$ [Hs Hd Hv]
  · isplitl [Hs]; · iexact Hs
    isplitl [Hd]; · iexact Hd
    iexact Hv
  iintro HF
  iapply (wp_done d i (entails_refl _))
  iexists fs, fd
  isplitr; · ipureintro; exact hfs
  iexact HF

theorem wp_waitX {b : Fin 8} {X : S16x200.Idx → Elt F .i32} :
    iprop(XFly d i xp l b X ∗ Ow d i O W₀)
      ⊢ W d i (waitX i xp l.xv l.hxv l.sx b) (fun _ => iprop(Holds d i l.xv X ∗ Holds d i (xpBlk i xp b) X ∗ Rest d i l.sx ∗ Ow d i O W₀)) := by
  unfold waitX XFly Ow
  iintro ⟨⟨%fs, %fd, %hfs, HF⟩, #HM, %W', %hW', HO⟩
  iapply (wp_last d i)
  rw [lift_bind]
  iapply (wp_waitLocalO EC 𝒱₀ (thr d i) none none rfl) $$ [HF HO]
  · isplitl [HF]; · iexact HF
    isplitl [HO]; · iexact HO
    iapply (MayWaits.elim (.dma l.sx.sem)) $$ HM
  iintro ⟨⟨Hd, Hs⟩, Hv, HO⟩
  iapply (wp_done d i (entails_refl _))
  isplitl [Hd]
  · iapply (held_intro (P := fun Y => Y = X) _ (landed fd hfs)) $$ Hd
  isplitl [Hs]; · iapply (held_intro fs hfs) $$ Hs
  isplitl [Hv]; · iexact Hv
  isplitr; · iexact HM
  iexists _; isplitr; rotate_left; iexact HO; · ipureintro; exact waits_insert hW' _

/-! ## Writing a block out -/

/-- A property of each of four things, one by one. -/
theorem four (Φ : Fin 4 → sProp 𝕄) : bigSep Finset.univ Φ = iprop(Φ 0 ∗ Φ 1 ∗ Φ 2 ∗ Φ 3) := by
  rw [bigSep_pending_zero, bigSep_pending_step _ 0 (by decide), bigSep_pending_step _ 1 (by decide), bigSep_pending_step _ 2 (by decide),
    bigSep_pending_last _ 3 (by decide) rfl]
  rfl

/-- The part of a block's results that holds field `k`. -/
def fldOf {α : Type} (V : S64x200.Idx → α) (k : Fin 4) : S16x200.Idx → α :=
  fun x => V ((Rect.unit (s := S64x200) ![16 * k.val, 0] S16x200.size (ovOff_inb k)).emb x)

/-- The elements of the buffer of results that hold field `k`. -/
abbrev fldSet (ov : MS S64x200 .f32) (k : Fin 4) : Finset ov.view.ty.Idx := (ovFld ov k).view.set

theorem mem_fldRect (k : Fin 4) (y : S64x200.Idx) :
    y ∈ (Rect.unit (s := S64x200) ![16 * k.val, 0] S16x200.size (ovOff_inb k)).set ↔ (y 0).val / 16 = k.val := by
  rw [Rect.mem_set_unit]
  have hy1 : (y 1).val < 200 := (y 1).isLt
  constructor
  · intro h
    have h0 : 16 * k.val ≤ (y 0).val ∧ (y 0).val < 16 * k.val + 16 := h 0
    omega
  · intro h a
    match a with
    | ⟨0, _⟩ => show 16 * k.val ≤ (y 0).val ∧ (y 0).val < 16 * k.val + 16; omega
    | ⟨1, _⟩ => show 0 ≤ (y 1).val ∧ (y 1).val < 0 + 200; omega

theorem fldSet_eq (ov : MS S64x200 .f32) (k : Fin 4) :
    fldSet ov k = (Rect.unit (s := S64x200) ![16 * k.val, 0] S16x200.size (ovOff_inb k)).set.map ov.view.emb := View.set_slice _ _

theorem fldSet_disjoint (ov : MS S64x200 .f32) : ∀ k ∈ (Finset.univ : Finset (Fin 4)), ∀ k' ∈ (Finset.univ : Finset (Fin 4)), k ≠ k' → Disjoint (fldSet ov k) (fldSet ov k') := by
  intro k _ k' _ hk
  rw [fldSet_eq, fldSet_eq, Finset.disjoint_map, Finset.disjoint_left]
  intro y hy hy'
  rw [mem_fldRect] at hy hy'
  exact hk (Fin.ext (hy.symm.trans hy'))

theorem fldSet_union (ov : MS S64x200 .f32) : (Finset.univ : Finset (Fin 4)).biUnion (fldSet ov) = ov.view.set := by
  ext z
  rw [Finset.mem_biUnion]
  constructor
  · rintro ⟨k, _, hz⟩
    exact View.set_slice_subset _ _ hz
  · intro hz
    obtain ⟨y, _, rfl⟩ := Finset.mem_map.mp hz
    have hy0 : (y 0).val < 64 := (y 0).isLt
    refine ⟨⟨(y 0).val / 16, by omega⟩, Finset.mem_univ _, ?_⟩
    rw [fldSet_eq]
    exact Finset.mem_map_of_mem _ ((mem_fldRect _ y).mpr rfl)

/-- The buffer of results by its fields. -/
theorem ov_split (ov : MS S64x200 .f32) (f : Buf (Elt F) (ov.view.loc (thr d i))) :
    (ov.view.loc (thr d i) ↦[ov.view.set]{fullShare} f : sProp 𝕄)
      = iprop((ov.view.loc (thr d i) ↦[fldSet ov 0]{fullShare} f) ∗ (ov.view.loc (thr d i) ↦[fldSet ov 1]{fullShare} f)
          ∗ (ov.view.loc (thr d i) ↦[fldSet ov 2]{fullShare} f) ∗ (ov.view.loc (thr d i) ↦[fldSet ov 3]{fullShare} f)) := by
  rw [← fldSet_union, pointsTo_biUnion _ _ (fldSet_disjoint ov), four]

/-- What a copy of field `k` of block `b` delivers. -/
def Deliv (d : Dev nD) (i : grid0.Coords) (out : MH S16384x200 .f32) (ov : MS S64x200 .f32) (b : Fin 8) (V : S64x200.Idx → Elt F .f32)
    (f : Buf (Elt F) (ov.view.loc (thr d i))) (k : Fin 4) : sProp 𝕄 :=
  iprop(Holds d i (outBlk i out k b) (fldOf V k) ∗ (ov.view.loc (thr d i) ↦[fldSet ov k]{fullShare} f))

instance deliv_storable (out : MH S16384x200 .f32) (ov : MS S64x200 .f32) (b : Fin 8) (V : S64x200.Idx → Elt F .f32)
    (f : Buf (Elt F) (ov.view.loc (thr d i))) (k : Fin 4) : Storable (upEmb : UEmb _ 𝕄) (Deliv d i out ov b V f k) := by
  unfold Deliv Holds Held; infer_instance

/-- The units of one copy of sixteen rows out. -/
abbrev NO (i : grid0.Coords) (out : MH S16384x200 .f32) : ℕ := (outBlk i out 0 0).view.dmaCredit

theorem NO_amount (i : grid0.Coords) (out : MH S16384x200 .f32) (k : Fin 4) (b : Fin 8) (sem : DmaSem sig) : (outBlk i out k b).view.amount (.dma sem) = NO i out := rfl

theorem NO_pos (i : grid0.Coords) (out : MH S16384x200 .f32) : 0 < NO i out := View.dmaCredit_pos _ (by decide)

/-- Block `b` on its way out of the line's buffer. -/
def OFly (d : Dev nD) (i : grid0.Coords) (out : MH S16384x200 .f32) (l : Line) (b : Fin 8) (V : S64x200.Idx → Elt F .f32) : sProp 𝕄 :=
  iprop(∃ f : Buf (Elt F) (l.ov.view.loc (thr d i)), Batch EC (thr d i) (.dma l.so.sem) none (NO i out) (Deliv d i out l.ov b V f) 4 0)

/-- Starting one field's copy. -/
theorem wp_startO {b : Fin 8} (V : S64x200.Idx → Elt F .f32) (f : Buf (Elt F) (l.ov.view.loc (thr d i))) (hf : l.ov.view.read (Elt F) f = V) (k : Fin 4)
    {P : (S16x200.Idx → Elt F .f32) → Prop} :
    iprop((l.ov.view.loc (thr d i) ↦[fldSet l.ov k]{fullShare} f) ∗ Held d i (outBlk i out k b) P
        ∗ Batch EC (thr d i) (.dma l.so.sem) none (NO i out) (Deliv d i out l.ov b V f) k.val 0)
      ⊢ W d i (startO i out l.ov l.so b k) (fun _ => Batch EC (thr d i) (.dma l.so.sem) none (NO i out) (Deliv d i out l.ov b V f) (k.val + 1) 0) := by
  unfold startO Held
  iintro ⟨Hs, ⟨%fd, %hfd, Hd⟩, HB⟩
  iapply (wp_last d i)
  rw [lift_bind]
  have hD : iprop(((outBlk i out k b).view.loc (thr d i) ↦[(outBlk i out k b).view.set]{fullShare}
        ((outBlk i out k b).view.write (Elt F) fd ((ReadAs.same : ReadAs (Elt F) S16x200 .f32 S16x200 .f32).apply ((ovFld l.ov k).view.read (Elt F) f)) Finset.univ))
      ∗ ((ovFld l.ov k).view.loc (thr d i) ↦[(ovFld l.ov k).view.set]{fullShare} f)) ⊢ Deliv d i out l.ov b V f k := by
    have hr : (ovFld l.ov k).view.read (Elt F) f = fldOf V k := funext fun x => congrFun hf _
    unfold Deliv
    iintro ⟨Hd, Hs⟩
    isplitl [Hd]
    · iapply (held_intro (P := fun Y => Y = fldOf V k) _ (landed fd hr)) $$ Hd
    iexact Hs
  have hX := wp_dmaBatch EC 𝒱₀ (thr d i) none none (NO i out) (NO_amount i out k b l.so.sem) (D := Deliv d i out l.ov b V f) (src := ovFld l.ov k)
    (dst := outBlk i out k b) (via := ReadAs.same) (hsrc := View.wordExact_bits rfl) (hdst := View.wordExact_bits rfl) (hsem := ⟨Or.inl rfl, trivial⟩)
    (k := fun u => (pure u : PT F i PUnit)) (fs := f) (fd := fd) (q := fullShare)
    (Q := fun _ => Batch EC (thr d i) (.dma l.so.sem) none (NO i out) (Deliv d i out l.ov b V f) (k.val + 1) 0)
    (defs := defs₀ (F := F)) (Finset.Subset.refl _) k.isLt (Nat.zero_le _) hD
  iapply hX $$ [Hs Hd HB]
  · isplitl [Hs]; · iexact Hs
    isplitl [Hd]; · iexact Hd
    iexact HB
  iintro HB
  iapply (wp_done d i (entails_refl _))
  iexact HB

/-- Starting a block's four copies. -/
theorem wp_startOs {b : Fin 8} (V : S64x200.Idx → Elt F .f32) {P : (S16x200.Idx → Elt F .f32) → Prop} :
    iprop(Holds d i l.ov V ∗ (bigSep Finset.univ fun k => Held d i (outBlk i out k b) P) ∗ Rest d i l.so)
      ⊢ W d i (startOs i out l.ov l.so b) (fun _ => OFly d i out l b V) := by
  unfold startOs OFly
  rw [four]
  iintro ⟨HV, ⟨H0, H1, H2, H3⟩, Hv⟩
  ihave HV := held_elim $$ HV
  icases HV with ⟨%f, %hf, Hf⟩
  ihave Hf := (Entails.of_eq (ov_split l.ov f)) $$ Hf
  icases Hf with ⟨F0, F1, F2, F3⟩
  imod (batch_alloc' EC (thr d i) none (NO i out) (Deliv d i out l.ov b V f) (E := Set.univ)) $$ Hv with HB
  iapply (wp_then d i (wp_startO V f hf 0)) $$ [F0 H0 HB]
  · isplitl [F0]; · iexact F0
    isplitl [H0]; · iexact H0
    iexact HB
  iintro %_ HB
  iapply (wp_then d i (wp_startO V f hf 1)) $$ [F1 H1 HB]
  · isplitl [F1]; · iexact F1
    isplitl [H1]; · iexact H1
    iexact HB
  iintro %_ HB
  iapply (wp_then d i (wp_startO V f hf 2)) $$ [F2 H2 HB]
  · isplitl [F2]; · iexact F2
    isplitl [H2]; · iexact H2
    iexact HB
  iintro %_ HB
  iapply (wp_last d i)
  iapply (wp_then d i (wp_startO V f hf 3)) $$ [F3 H3 HB]
  · isplitl [F3]; · iexact F3
    isplitl [H3]; · iexact H3
    iexact HB
  iintro %_ HB
  iapply (wp_done d i (entails_refl _))
  iexists f
  iexact HB

/-- Waiting for a block's four copies. -/
theorem wp_waitOs {b : Fin 8} (V : S64x200.Idx → Elt F .f32) :
    iprop(OFly d i out l b V ∗ Ow d i O W₀)
      ⊢ W d i (waitOs i out l.ov l.so b) (fun _ => iprop(Held d i l.ov (fun _ => True) ∗ (bigSep Finset.univ fun k => Holds d i (outBlk i out k b) (fldOf V k))
          ∗ Rest d i l.so ∗ Ow d i O W₀)) := by
  unfold waitOs OFly Ow waitO
  rw [four]
  iintro ⟨⟨%f, HB⟩, #HM, %W', %hW', HO⟩
  rw [lift_bind]
  iapply (wp_waitBatchO EC 𝒱₀ (thr d i) none none (N := NO i out) (D := Deliv d i out l.ov b V f) (u := 0) (NO_amount i out 0 b l.so.sem) (by have := NO_pos i out; omega)) $$ [HB HO]
  · isplitl [HB]; · iexact HB
    isplitl [HO]; · iexact HO
    iapply (MayWaits.elim (.dma l.so.sem)) $$ HM
  iintro ⟨HB, HO⟩
  rw [lift_bind]
  iapply (wp_waitBatchO EC 𝒱₀ (thr d i) none none (N := NO i out) (D := Deliv d i out l.ov b V f) (u := (0 + NO i out)) (NO_amount i out 1 b l.so.sem) (by have := NO_pos i out; omega)) $$ [HB HO]
  · isplitl [HB]; · iexact HB
    isplitl [HO]; · iexact HO
    iapply (MayWaits.elim (.dma l.so.sem)) $$ HM
  iintro ⟨HB, HO⟩
  rw [lift_bind]
  iapply (wp_waitBatchO EC 𝒱₀ (thr d i) none none (N := NO i out) (D := Deliv d i out l.ov b V f) (u := (0 + NO i out + NO i out)) (NO_amount i out 2 b l.so.sem) (by have := NO_pos i out; omega)) $$ [HB HO]
  · isplitl [HB]; · iexact HB
    isplitl [HO]; · iexact HO
    iapply (MayWaits.elim (.dma l.so.sem)) $$ HM
  iintro ⟨HB, HO⟩
  iapply (wp_last d i)
  rw [lift_bind]
  iapply (wp_waitBatchLastO EC 𝒱₀ (thr d i) none none (N := NO i out) (D := Deliv d i out l.ov b V f) (u := 0 + NO i out + NO i out + NO i out) (NO_amount i out 3 b l.so.sem) (NO_pos i out) (by omega)) $$ [HB HO]
  · isplitl [HB]; · iexact HB
    isplitl [HO]; · iexact HO
    iapply (MayWaits.elim (.dma l.so.sem)) $$ HM
  iintro ⟨HD, Hv, HO⟩
  ihave HD := (Entails.of_eq (four _)) $$ HD
  unfold Deliv
  icases HD with ⟨⟨H0, F0⟩, ⟨H1, F1⟩, ⟨H2, F2⟩, H3, F3⟩
  iapply (wp_done d i (entails_refl _))
  isplitl [F0 F1 F2 F3]
  · iapply (held_intro f trivial)
    iapply (Entails.of_eq (ov_split l.ov f).symm)
    isplitl [F0]; · iexact F0
    isplitl [F1]; · iexact F1
    isplitl [F2]; · iexact F2
    iexact F3
  isplitl [H0 H1 H2 H3]
  · isplitl [H0]; · iexact H0
    isplitl [H1]; · iexact H1
    isplitl [H2]; · iexact H2
    iexact H3
  isplitl [Hv]; · iexact Hv
  isplitr; · iexact HM
  iexists _; isplitr; rotate_left; iexact HO
  · ipureintro; exact waits_insert (waits_insert (waits_insert (waits_insert hW' _) _) _) _

end Cert.KernelIdeal.Tile
-- ==== Proof.Table.lean ====
/-
  The table of logits: what the tile computes from the embedding and the weights before its blocks.
-/
module

public import proofs.«01_k».proof.Proof.Rows

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Facts₀ Facts

variable {F : FTy → Type}

local notation "𝕄" => MT nD τ sig (HIx 1) (Elt F) ℕ UU ℕ

/-! ## Values -/

/-- An entry of the flat embedding. -/
def at1120 {α : Type} (E : S1120.Idx → α) (n : Nat) : α := E fun a => match a with | ⟨0, _⟩ => ⟨n % 1120, Nat.mod_lt _ (by decide)⟩

/-- An entry of the repeated weights. -/
def at176 {α : Type} (G : S176.Idx → α) (n : Nat) : α := G fun a => match a with | ⟨0, _⟩ => ⟨n % 176, Nat.mod_lt _ (by decide)⟩

variable [FloatOps F]

/-- Ten products and a bias, added from the left beginning with the bias. -/
def dot10 (e w : Nat → F .f32) : F .f32 :=
  let t (d : Nat) : F .f32 := FloatOps.mulf (e d) (w d)
  FloatOps.addf (FloatOps.addf (FloatOps.addf (FloatOps.addf (FloatOps.addf (FloatOps.addf (FloatOps.addf (FloatOps.addf (FloatOps.addf (FloatOps.addf
    (w 10) (t 0)) (t 1)) (t 2)) (t 3)) (t 4)) (t 5)) (t 6)) (t 7)) (t 8)) (t 9)

/-- The logit of row `n` of the embedding. -/
def logit (E : S1120.Idx → F .f32) (G : S176.Idx → F .f32) (n : Nat) : F .f32 :=
  dot10 (fun d => at1120 E (10 * n + d)) (fun d => at176 G (16 * d + n % 16))

/-- The table. -/
def lutOf (E : S1120.Idx → F .f32) (G : S176.Idx → F .f32) (y : S112.Idx) : F .f32 := logit E G (y 0).val

/-- The `d`-th entries of sixteen rows of the embedding. -/
def col (E : S1120.Idx → F .f32) (c d : Nat) : FVec F S16 .f32 := fun y => at1120 E (10 * (16 * c + (y 0).val) + d)

/-- A group of sixteen weights. -/
def wt (G : S176.Idx → F .f32) (d : Nat) : FVec F S16 .f32 := fun y => at176 G (16 * d + (y 0).val)

/-! ## The program -/

theorem lanes_lane : ∀ l : Fin 16, (lanes (lane l)).toNat = l.val := by decide +kernel

theorem entry_toNat (c d : Nat) (hc : c < 7) (hd : d < 10) (y : S16.Idx) : (entry c d y).toNat = 10 * (16 * c + (y 0).val) + d := by
  have hl : (y 0).val < 16 := (y 0).isLt
  have h : (lanes y).toNat = (y 0).val := by
    conv_lhs => rw [lane_eta y]
    exact lanes_lane _
  show ((BitVec.ofNat 32 (16 * c) + lanes y) * 10#32 + BitVec.ofNat 32 d).toNat = _
  rw [BitVec.toNat_add, BitVec.toNat_mul, BitVec.toNat_add, h, BitVec.toNat_ofNat, BitVec.toNat_ofNat]
  show (((16 * c % 4294967296 + (y 0).val) % 4294967296 * 10) % 4294967296 + d % 4294967296) % 4294967296 = _
  omega

theorem entry_lt (c d : Nat) (hc : c < 7) (hd : d < 10) : ∀ a y, ((![entry c d] : Fin 1 → IVec S16 32) a y).toNat < S1120.size a := by
  intro a y
  obtain rfl : a = 0 := Subsingleton.elim _ _
  have hl : (y 0).val < 16 := (y 0).isLt
  show (entry c d y).toNat < 1120
  rw [entry_toNat c d hc hd]; omega

theorem loadIdx_entry (E : S1120.Idx → Elt F .f32) (c d : Nat) (hc : c < 7) (hd : d < 10) :
    loadIdx E ![entry c d] (entry_lt c d hc hd) = col E c d := by
  funext y
  have hl : (y 0).val < 16 := (y 0).isLt
  unfold loadIdx col at1120
  congr 1
  funext a
  refine Fin.ext ?_
  match a with
  | ⟨0, _⟩ =>
    show (entry c d y).toNat = (10 * (16 * c + (y 0).val) + d) % 1120
    rw [entry_toNat c d hc hd]; omega

variable {d : Dev nD} {i : grid0.Coords} {ev : MS S1120 .f32} {wv : MS S176 .f32} {lut : MS S112 .f32}
  {E : S1120.Idx → Elt F .f32} {G : S176.Idx → Elt F .f32}

/-- One term of sixteen logits. -/
theorem wp_term (w : Vec F S16 .f32) (c e : Nat) (hc : c < 7) (he : e < 10) (acc : FVec F S16 .f32) {α : Type} {k : FVec F S16 .f32 → PT F i α} {Q : α → sProp 𝕄} :
    Holds d i ev E ⊢ iprop((Holds d i ev E -∗ W d i (k (addf acc (mulf (col E c e) w))) Q) -∗ W d i (term i ev w c e acc >>= k) Q) := by
  unfold term
  simp only [bind_assoc, pure_bind]
  iintro HE Hk
  iapply (wp_check d i (entry_lt c e hc he))
  iapply (wp_gather d i) $$ HE
  rw [loadIdx_entry E c e hc he]
  iexact Hk

theorem rect_weight (e : Fin 11) :
    (fun x => G ((Rect.unit (s := S176) ![16 * e.val] S16.size (wOff_inb e)).emb x)) = wt G e.val := by
  funext y
  have hl : (y 0).val < 16 := (y 0).isLt
  have he := e.isLt
  unfold wt at176
  congr 1
  funext a
  refine Fin.ext ?_
  refine (ValueKit.rect_emb_unit_val _ _ _ _ a).trans ?_
  match a with
  | ⟨0, _⟩ =>
    show 16 * e.val + (y 0).val = (16 * e.val + (y 0).val) % 176
    omega

/-- A group of sixteen weights is loaded. -/
theorem wp_weight (e : Fin 11) {α : Type} {k : Vec F S16 .f32 → PT F i α} {Q : α → sProp 𝕄} :
    Holds d i wv G ⊢ iprop((Holds d i wv G -∗ W d i (k (wt G e.val)) Q) -∗ W d i (weight i wv e >>= k) Q) := by
  unfold weight
  rw [← rect_weight e]
  exact wp_load_holds d i

/-- The table is right at its first `n` chunks. -/
def Upto (E : S1120.Idx → F .f32) (G : S176.Idx → F .f32) (n : Nat) (R : S112.Idx → F .f32) : Prop :=
  ∀ y, (y 0).val < 16 * n → R y = lutOf E G y

/-- A chunk of the table. -/
theorem wp_logits (c : Fin 7) :
    iprop(Holds d i ev E ∗ Held d i lut (Upto E G c.val))
      ⊢ W d i (logits i ev lut ![wt G 0, wt G 1, wt G 2, wt G 3, wt G 4, wt G 5, wt G 6, wt G 7, wt G 8, wt G 9] (wt G 10) c)
          (fun _ => iprop(Holds d i ev E ∗ Held d i lut (Upto E G (c.val + 1)))) := by
  have hc := c.isLt
  unfold logits
  iintro ⟨HE, HL⟩
  iapply (wp_term _ c 0 hc (by decide)) $$ HE; iintro HE
  iapply (wp_term _ c 1 hc (by decide)) $$ HE; iintro HE
  iapply (wp_term _ c 2 hc (by decide)) $$ HE; iintro HE
  iapply (wp_term _ c 3 hc (by decide)) $$ HE; iintro HE
  iapply (wp_term _ c 4 hc (by decide)) $$ HE; iintro HE
  iapply (wp_term _ c 5 hc (by decide)) $$ HE; iintro HE
  iapply (wp_term _ c 6 hc (by decide)) $$ HE; iintro HE
  iapply (wp_term _ c 7 hc (by decide)) $$ HE; iintro HE
  iapply (wp_term _ c 8 hc (by decide)) $$ HE; iintro HE
  iapply (wp_term _ c 9 hc (by decide)) $$ HE; iintro HE
  iapply (wp_load_any d i) $$ HL
  iintro %v HL
  iapply (wp_last d i)
  iapply (wp_store_held d i (P' := Upto E G (c.val + 1)) ?hst) $$ HL
  case hst =>
    intro R Y hR hw hn y hy
    by_cases hm : (y 0).val < 16 * c.val
    · rw [hn y ?_]
      · exact hR y hm
      · intro hmem
        rw [Rect.mem_set_unit] at hmem
        have q0 : 16 * c.val ≤ (y 0).val ∧ (y 0).val < 16 * c.val + 16 := hmem 0
        omega
    · have hz := hw (lane ⟨(y 0).val - 16 * c.val, by omega⟩)
      have he : (Rect.unit (s := S112) ![16 * c.val] S16.size (lOff_inb c)).emb (lane ⟨(y 0).val - 16 * c.val, by omega⟩) = y := by
        funext a
        refine Fin.ext ?_
        refine (ValueKit.rect_emb_unit_val _ _ _ _ a).trans ?_
        match a with
        | ⟨0, _⟩ => show 16 * c.val + ((y 0).val - 16 * c.val) = (y 0).val; omega
      rw [he] at hz
      rw [hz]
      show dot10 (fun e => at1120 E (10 * (16 * c.val + ((y 0).val - 16 * c.val)) + e)) (fun e => at176 G (16 * e + ((y 0).val - 16 * c.val))) = lutOf E G y
      unfold lutOf logit
      rw [show 16 * c.val + ((y 0).val - 16 * c.val) = (y 0).val by omega, show (y 0).val % 16 = (y 0).val - 16 * c.val by omega]
  iintro HL
  iapply (wp_done d i (entails_refl _))
  isplitl [HE]; · iexact HE
  iexact HL

/-- The whole table. -/
theorem wp_table {P : (S112.Idx → Elt F .f32) → Prop} :
    iprop(Holds d i ev E ∗ Holds d i wv G ∗ Held d i lut P)
      ⊢ W d i (table i ev wv lut) (fun _ => iprop(Holds d i wv G ∗ Holds d i ev E ∗ Holds d i lut (lutOf E G))) := by
  have h := fun c => wp_keep d i (R := Holds d i wv G) (wp_logits (d := d) (i := i) (ev := ev) (lut := lut) (E := E) (G := G) c)
  have h7 : iprop(Holds d i wv G ∗ Holds d i ev E ∗ Held d i lut (Upto E G 7)) ⊢ iprop(Holds d i wv G ∗ Holds d i ev E ∗ Holds d i lut (lutOf E G)) := by
    iintro ⟨HW, HE, HL⟩
    isplitl [HW]; · iexact HW
    isplitl [HE]; · iexact HE
    iapply (held_mono d i fun R hR => funext fun y => hR y (y 0).isLt) $$ HL
  unfold table
  iintro ⟨HE, HW, HL⟩
  iapply (wp_weight 10) $$ HW; iintro HW
  iapply (wp_weight 0) $$ HW; iintro HW
  iapply (wp_weight 1) $$ HW; iintro HW
  iapply (wp_weight 2) $$ HW; iintro HW
  iapply (wp_weight 3) $$ HW; iintro HW
  iapply (wp_weight 4) $$ HW; iintro HW
  iapply (wp_weight 5) $$ HW; iintro HW
  iapply (wp_weight 6) $$ HW; iintro HW
  iapply (wp_weight 7) $$ HW; iintro HW
  iapply (wp_weight 8) $$ HW; iintro HW
  iapply (wp_weight 9) $$ HW; iintro HW
  iapply (wp_seq d i (h 0) fun _ => wp_seq d i (h 1) fun _ => wp_seq d i (h 2) fun _ => wp_seq d i (h 3) fun _ => wp_seq d i (h 4) fun _ =>
    wp_seq d i (h 5) fun _ => (h 6).trans (wp_mono frame _ _ fun _ => h7))
  isplitl [HW]; · iexact HW
  isplitl [HE]; · iexact HE
  iapply (held_mono d i fun R _ y hy => absurd hy (Nat.not_lt_zero _)) $$ HL

end Cert.KernelIdeal.Tile
-- ==== Proof.Blocks.lean ====
/-
  The tile's blocks, and the tile's whole program.
-/
module

public import proofs.«01_k».proof.Proof.Copies
public import proofs.«01_k».proof.Proof.Table

@[expose] public section

noncomputable section

namespace Cert.KernelIdeal.Tile

open Idealize.ShloMosaic
open Idealize.ShloMosaic.SparseCore (S V T)
open Idealize.ShloMosaic.SparseCore.Cfg (HIx Pay)
open Idealize.ShloMosaic.Transfers
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig (HIx 1) (Elt F) ℕ UU ℕ

variable (d : Dev nD) (i : grid0.Coords)

/-- A block's four places in the result, not yet written. -/
def Outs (out : MH S16384x200 .f32) (b : Fin 8) : sProp 𝕄 := bigSep Finset.univ fun k => Held d i (outBlk i out k b) (fun _ => True)

/-- A block's four places in the result, written. -/
def Outed (out : MH S16384x200 .f32) (b : Fin 8) (V : S64x200.Idx → Elt F .f32) : sProp 𝕄 :=
  bigSep Finset.univ fun k => Holds d i (outBlk i out k b) (fldOf V k)

variable {d i} {O : CellTallies nD τ sig (HIx 1)} {W₀ : Waits sig (HIx 1)}
  {xp : MH S4096x200 .i32} {out : MH S16384x200 .f32} {lut : MS S112 .f32} {l m : Line} {L : S112.Idx → Elt F .f32} {X : Fin 8 → S16x200.Idx → Elt F .i32}

/-- A line's first block. -/
theorem wp_firstBlk (hX : ∀ b, InTable (X b)) (b b' : Fin 8) :
    iprop(XFly d i xp l b (X b) ∗ Held d i l.ov (fun _ => True) ∗ Rest d i l.so ∗ Outs d i out b ∗ Holds d i (xpBlk i xp b') (X b') ∗ Holds d i lut L ∗ Ow d i O W₀)
      ⊢ W d i (firstBlk i xp lut out l b b') (fun _ => iprop(XFly d i xp l b' (X b') ∗ OFly d i out l b (vals (X b) L) ∗ Holds d i (xpBlk i xp b) (X b)
          ∗ Holds d i lut L ∗ Ow d i O W₀)) := by
  unfold firstBlk
  iintro ⟨HX, Hov, Hso, Hout, Hxp', HL, HO⟩
  iapply (wp_then d i wp_waitX) $$ [HX HO]
  · isplitl [HX]; · iexact HX
    iexact HO
  iintro %_ ⟨Hxv, Hxp, Hsx, HO⟩
  iapply (wp_then d i (wp_compute (hX b))) $$ [Hxv HL Hov]
  · isplitl [Hxv]; · iexact Hxv
    isplitl [HL]; · iexact HL
    iexact Hov
  iintro %_ ⟨Hxv, HL, Hov⟩
  iapply (wp_then d i wp_startX) $$ [Hxv Hxp' Hsx]
  · isplitl [Hxv]; · iexact Hxv
    isplitl [Hxp']; · iexact Hxp'
    iexact Hsx
  iintro %_ HX
  iapply (wp_last d i)
  unfold Outs
  iapply (wp_then d i (wp_startOs _)) $$ [Hov Hout Hso]
  · isplitl [Hov]; · iexact Hov
    isplitl [Hout]; · iexact Hout
    iexact Hso
  iintro %_ HOF
  iapply (wp_done d i (entails_refl _))
  isplitl [HX]; · iexact HX
  isplitl [HOF]; · iexact HOF
  isplitl [Hxp]; · iexact Hxp
  isplitl [HL]; · iexact HL
  iexact HO

/-- A block in the middle of a line. -/
theorem wp_midBlk (hX : ∀ b, InTable (X b)) (a b b' : Fin 8) :
    iprop(XFly d i xp l b (X b) ∗ OFly d i out l a (vals (X a) L) ∗ Outs d i out b ∗ Holds d i (xpBlk i xp b') (X b') ∗ Holds d i lut L ∗ Ow d i O W₀)
      ⊢ W d i (midBlk i xp lut out l a b b') (fun _ => iprop(XFly d i xp l b' (X b') ∗ OFly d i out l b (vals (X b) L) ∗ Holds d i (xpBlk i xp b) (X b)
          ∗ Outed d i out a (vals (X a) L) ∗ Holds d i lut L ∗ Ow d i O W₀)) := by
  unfold midBlk
  iintro ⟨HX, HOF, Hout, Hxp', HL, HO⟩
  iapply (wp_then d i wp_waitX) $$ [HX HO]
  · isplitl [HX]; · iexact HX
    iexact HO
  iintro %_ ⟨Hxv, Hxp, Hsx, HO⟩
  iapply (wp_then d i (wp_waitOs _)) $$ [HOF HO]
  · isplitl [HOF]; · iexact HOF
    iexact HO
  iintro %_ ⟨Hov, Hdone, Hso, HO⟩
  iapply (wp_then d i (wp_compute (hX b))) $$ [Hxv HL Hov]
  · isplitl [Hxv]; · iexact Hxv
    isplitl [HL]; · iexact HL
    iexact Hov
  iintro %_ ⟨Hxv, HL, Hov⟩
  iapply (wp_then d i wp_startX) $$ [Hxv Hxp' Hsx]
  · isplitl [Hxv]; · iexact Hxv
    isplitl [Hxp']; · iexact Hxp'
    iexact Hsx
  iintro %_ HX
  iapply (wp_last d i)
  unfold Outs Outed
  iapply (wp_then d i (wp_startOs _)) $$ [Hov Hout Hso]
  · isplitl [Hov]; · iexact Hov
    isplitl [Hout]; · iexact Hout
    iexact Hso
  iintro %_ HOF
  iapply (wp_done d i (entails_refl _))
  isplitl [HX]; · iexact HX
  isplitl [HOF]; · iexact HOF
  isplitl [Hxp]; · iexact Hxp
  isplitl [Hdone]; · iexact Hdone
  isplitl [HL]; · iexact HL
  iexact HO

/-- A line's last block. -/
theorem wp_lastBlk (hX : ∀ b, InTable (X b)) (a b : Fin 8) :
    iprop(XFly d i xp l b (X b) ∗ OFly d i out l a (vals (X a) L) ∗ Outs d i out b ∗ Holds d i lut L ∗ Ow d i O W₀)
      ⊢ W d i (lastBlk i xp lut out l a b) (fun _ => iprop(Holds d i l.xv (X b) ∗ Rest d i l.sx ∗ OFly d i out l b (vals (X b) L) ∗ Holds d i (xpBlk i xp b) (X b)
          ∗ Outed d i out a (vals (X a) L) ∗ Holds d i lut L ∗ Ow d i O W₀)) := by
  unfold lastBlk
  iintro ⟨HX, HOF, Hout, HL, HO⟩
  iapply (wp_then d i wp_waitX) $$ [HX HO]
  · isplitl [HX]; · iexact HX
    iexact HO
  iintro %_ ⟨Hxv, Hxp, Hsx, HO⟩
  iapply (wp_then d i (wp_waitOs _)) $$ [HOF HO]
  · isplitl [HOF]; · iexact HOF
    iexact HO
  iintro %_ ⟨Hov, Hdone, Hso, HO⟩
  iapply (wp_then d i (wp_compute (hX b))) $$ [Hxv HL Hov]
  · isplitl [Hxv]; · iexact Hxv
    isplitl [HL]; · iexact HL
    iexact Hov
  iintro %_ ⟨Hxv, HL, Hov⟩
  iapply (wp_last d i)
  unfold Outs Outed
  iapply (wp_then d i (wp_startOs _)) $$ [Hov Hout Hso]
  · isplitl [Hov]; · iexact Hov
    isplitl [Hout]; · iexact Hout
    iexact Hso
  iintro %_ HOF
  iapply (wp_done d i (entails_refl _))
  isplitl [Hxv]; · iexact Hxv
  isplitl [Hsx]; · iexact Hsx
  isplitl [HOF]; · iexact HOF
  isplitl [Hxp]; · iexact Hxp
  isplitl [Hdone]; · iexact Hdone
  isplitl [HL]; · iexact HL
  iexact HO

/-- A property of each of eight things, one by one. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_pending_zero, bigSep_pending_step _ 0 (by decide), bigSep_pending_step _ 1 (by decide), bigSep_pending_step _ 2 (by decide),
    bigSep_pending_step _ 3 (by decide), bigSep_pending_step _ 4 (by decide), bigSep_pending_step _ 5 (by decide), bigSep_pending_step _ 6 (by decide),
    bigSep_pending_last _ 7 (by decide) rfl]
  rfl

/-- What a line works with, at rest. -/
def LineRest (d : Dev nD) (i : grid0.Coords) (l : Line) : sProp 𝕄 :=
  iprop(Held d i l.xv (fun _ => True) ∗ Held d i l.ov (fun _ => True) ∗ Rest d i l.sx ∗ Rest d i l.so)

variable {emb : MH S1120 .f32} {hemb : emb.IsWhole} {wb : MH S176 .f32} {hwb : wb.IsWhole} {ev : MS S1120 .f32} {hev : ev.IsWhole} {wv : MS S176 .f32} {hwv : wv.IsWhole}
  {r0 r1 : DmaSems sig S_} {E : S1120.Idx → Elt F .f32} {G : S176.Idx → Elt F .f32} {q : PosShare TreeShare}

/-- The tile's own memory, at rest. -/
def Own (d : Dev nD) (i : grid0.Coords) (ev : MS S1120 .f32) (wv : MS S176 .f32) (lut : MS S112 .f32) (r0 r1 : DmaSems sig S_) (l m : Line) : sProp 𝕄 :=
  iprop(Held d i ev (fun _ => True) ∗ Held d i wv (fun _ => True) ∗ Held d i lut (fun _ => True) ∗ Rest d i r0 ∗ Rest d i r1 ∗ LineRest d i l ∗ LineRest d i m)

/-- The tile's whole program: from the packed words of its eight blocks, the flat embedding and the weights, the
    values of its eight blocks in the result. -/
theorem wp_body (hX : ∀ b, InTable (X b)) :
    iprop(Own d i ev wv lut r0 r1 l m ∗ Part d i q emb E ∗ Part d i q wb G ∗ (bigSep Finset.univ fun b => Holds d i (xpBlk i xp b) (X b))
        ∗ (bigSep Finset.univ fun b => Outs d i out b) ∗ Ow d i O W₀)
      ⊢ W d i (body i xp lut out emb hemb wb hwb ev hev wv hwv r0 r1 l m) (fun _ =>
          iprop(Own d i ev wv lut r0 r1 l m ∗ Part d i q emb E ∗ Part d i q wb G ∗ (bigSep Finset.univ fun b => Holds d i (xpBlk i xp b) (X b))
            ∗ (bigSep Finset.univ fun b => Outed d i out b (vals (X b) (lutOf E G))) ∗ Ow d i O W₀)) := by
  unfold body
  rw [eight, eight, eight]
  unfold Own LineRest
  iintro ⟨⟨Hev, Hwv, HL, Hr0, Hr1, ⟨Hlx, Hlo, Hlsx, Hlso⟩, Hmx, Hmo, Hmsx, Hmso⟩, Hemb, Hwb, ⟨X0, X1, X2, X3, X4, X5, X6, X7⟩, ⟨O0, O1, O2, O3, O4, O5, O6, O7⟩, HO⟩
  iapply (wp_then d i wp_startX) $$ [Hlx X0 Hlsx]
  · isplitl [Hlx]; · iexact Hlx
    isplitl [X0]; · iexact X0
    iexact Hlsx
  iintro %_ HXl
  iapply (wp_then d i wp_startX) $$ [Hmx X1 Hmsx]
  · isplitl [Hmx]; · iexact Hmx
    isplitl [X1]; · iexact X1
    iexact Hmsx
  iintro %_ HXm
  iapply (wp_then d i (wp_copyIn (by decide))) $$ [Hemb Hev Hr0 HO]
  · isplitl [Hemb]; · iexact Hemb
    isplitl [Hev]; · iexact Hev
    isplitl [Hr0]; · iexact Hr0
    iexact HO
  iintro %_ ⟨Hemb, Hev, Hr0, HO⟩
  iapply (wp_then d i (wp_copyIn (by decide))) $$ [Hwb Hwv Hr1 HO]
  · isplitl [Hwb]; · iexact Hwb
    isplitl [Hwv]; · iexact Hwv
    isplitl [Hr1]; · iexact Hr1
    iexact HO
  iintro %_ ⟨Hwb, Hwv, Hr1, HO⟩
  iapply (wp_then d i wp_table) $$ [Hev Hwv HL]
  · isplitl [Hev]; · iexact Hev
    isplitl [Hwv]; · iexact Hwv
    iexact HL
  iintro %_ ⟨Hwv, Hev, HL⟩
  iapply (wp_then d i (wp_firstBlk hX 0 2)) $$ [HXl Hlo Hlso O0 X2 HL HO]
  · isplitl [HXl]; · iexact HXl
    isplitl [Hlo]; · iexact Hlo
    isplitl [Hlso]; · iexact Hlso
    isplitl [O0]; · iexact O0
    isplitl [X2]; · iexact X2
    isplitl [HL]; · iexact HL
    iexact HO
  iintro %_ ⟨HXl, HOl, X0, HL, HO⟩
  iapply (wp_then d i (wp_firstBlk hX 1 3)) $$ [HXm Hmo Hmso O1 X3 HL HO]
  · isplitl [HXm]; · iexact HXm
    isplitl [Hmo]; · iexact Hmo
    isplitl [Hmso]; · iexact Hmso
    isplitl [O1]; · iexact O1
    isplitl [X3]; · iexact X3
    isplitl [HL]; · iexact HL
    iexact HO
  iintro %_ ⟨HXm, HOm, X1, HL, HO⟩
  iapply (wp_then d i (wp_midBlk hX 0 2 4)) $$ [HXl HOl O2 X4 HL HO]
  · isplitl [HXl]; · iexact HXl
    isplitl [HOl]; · iexact HOl
    isplitl [O2]; · iexact O2
    isplitl [X4]; · iexact X4
    isplitl [HL]; · iexact HL
    iexact HO
  iintro %_ ⟨HXl, HOl, X2, O0, HL, HO⟩
  iapply (wp_then d i (wp_midBlk hX 1 3 5)) $$ [HXm HOm O3 X5 HL HO]
  · isplitl [HXm]; · iexact HXm
    isplitl [HOm]; · iexact HOm
    isplitl [O3]; · iexact O3
    isplitl [X5]; · iexact X5
    isplitl [HL]; · iexact HL
    iexact HO
  iintro %_ ⟨HXm, HOm, X3, O1, HL, HO⟩
  iapply (wp_then d i (wp_midBlk hX 2 4 6)) $$ [HXl HOl O4 X6 HL HO]
  · isplitl [HXl]; · iexact HXl
    isplitl [HOl]; · iexact HOl
    isplitl [O4]; · iexact O4
    isplitl [X6]; · iexact X6
    isplitl [HL]; · iexact HL
    iexact HO
  iintro %_ ⟨HXl, HOl, X4, O2, HL, HO⟩
  iapply (wp_then d i (wp_midBlk hX 3 5 7)) $$ [HXm HOm O5 X7 HL HO]
  · isplitl [HXm]; · iexact HXm
    isplitl [HOm]; · iexact HOm
    isplitl [O5]; · iexact O5
    isplitl [X7]; · iexact X7
    isplitl [HL]; · iexact HL
    iexact HO
  iintro %_ ⟨HXm, HOm, X5, O3, HL, HO⟩
  iapply (wp_then d i (wp_lastBlk hX 4 6)) $$ [HXl HOl O6 HL HO]
  · isplitl [HXl]; · iexact HXl
    isplitl [HOl]; · iexact HOl
    isplitl [O6]; · iexact O6
    isplitl [HL]; · iexact HL
    iexact HO
  iintro %_ ⟨Hlx, Hlsx, HOl, X6, O4, HL, HO⟩
  iapply (wp_then d i (wp_lastBlk hX 5 7)) $$ [HXm HOm O7 HL HO]
  · isplitl [HXm]; · iexact HXm
    isplitl [HOm]; · iexact HOm
    isplitl [O7]; · iexact O7
    isplitl [HL]; · iexact HL
    iexact HO
  iintro %_ ⟨Hmx, Hmsx, HOm, X7, O5, HL, HO⟩
  iapply (wp_then d i (wp_waitOs _)) $$ [HOl HO]
  · isplitl [HOl]; · iexact HOl
    iexact HO
  iintro %_ ⟨Hlo, O6, Hlso, HO⟩
  iapply (wp_last d i)
  iapply (wp_then d i (wp_waitOs _)) $$ [HOm HO]
  · isplitl [HOm]; · iexact HOm
    iexact HO
  iintro %_ ⟨Hmo, O7, Hmso, HO⟩
  iapply (wp_done d i (entails_refl _))
  isplitl [Hev Hwv HL Hr0 Hr1 Hlx Hlo Hlsx Hlso Hmx Hmo Hmsx Hmso]
  · isplitl [Hev]; · iapply (held_mono d i fun _ _ => trivial) $$ Hev
    isplitl [Hwv]; · iapply (held_mono d i fun _ _ => trivial) $$ Hwv
    isplitl [HL]; · iapply (held_mono d i fun _ _ => trivial) $$ HL
    isplitl [Hr0]; · iexact Hr0
    isplitl [Hr1]; · iexact Hr1
    isplitl [Hlx Hlo Hlsx Hlso]
    · isplitl [Hlx]; · iapply (held_mono d i fun _ _ => trivial) $$ Hlx
      isplitl [Hlo]; · iexact Hlo
      isplitl [Hlsx]; · iexact Hlsx
      iexact Hlso
    · isplitl [Hmx]; · iapply (held_mono d i fun _ _ => trivial) $$ Hmx
      isplitl [Hmo]; · iexact Hmo
      isplitl [Hmsx]; · iexact Hmsx
      iexact Hmso
  isplitl [Hemb]; · iexact Hemb
  isplitl [Hwb]; · iexact Hwb
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [O0 O1 O2 O3 O4 O5 O6 O7]
  · isplitl [O0]; · iexact O0
    isplitl [O1]; · iexact O1
    isplitl [O2]; · iexact O2
    isplitl [O3]; · iexact O3
    isplitl [O4]; · iexact O4
    isplitl [O5]; · iexact O5
    isplitl [O6]; · unfold Outed; iexact O6
    unfold Outed; iexact O7
  iexact HO

end Cert.KernelIdeal.Tile
-- ==== Proof.Tile.lean ====
/-
  The tile's obligation: what a tile is handed, what it hands back, and that its program takes the one to the other.
-/
module

public import proofs.«01_k».proof.Proof.BodyEq
public import proofs.«01_k».proof.Proof.Blocks
public import Idealize.ShloMosaic.Lib.ShareLeaves

@[expose] public section

noncomputable section

namespace Cert.KernelIdeal.Tile

open Idealize.ShloMosaic
open Idealize.ShloMosaic.SparseCore (S V T)
open Idealize.ShloMosaic.SparseCore.Cfg (HIx Pay ownBufs ownSems0 ownCells ownRefs mem_ownCells)
open Idealize.ShloMosaic.Transfers
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig (HIx 1) (Elt F) ℕ UU ℕ

/-! ## The buffers -/

/-- The packed words. -/
abbrev xpW : MH S4096x200 .i32 := Memref.whole main_v19_scv
/-- The flat embedding. -/
abbrev embW : MH S1120 .f32 := Memref.whole main_v1_scv
/-- The flat weights. -/
abbrev wbW : MH S176 .f32 := Memref.whole main_v5_scv
/-- The result. -/
abbrev outW : MH S16384x200 .f32 := Memref.whole main_v20_scv

abbrev evW : MS S1120 .f32 := Memref.whole cc0_scratch0
abbrev wvW : MS S176 .f32 := Memref.whole cc0_scratch1
abbrev lutW : MS S112 .f32 := Memref.whole cc0_scratch2
/-- The line of the blocks of even number. -/
abbrev lineA : Line := ⟨Memref.whole cc0_scratch3, Memref.isWhole_whole _, Memref.whole cc0_scratch5, cc0_scratch7, cc0_scratch9⟩
/-- The line of the blocks of odd number. -/
abbrev lineB : Line := ⟨Memref.whole cc0_scratch4, Memref.isWhole_whole _, Memref.whole cc0_scratch6, cc0_scratch8, cc0_scratch10⟩

variable (d : Dev nD) (i : grid0.Coords)

/-! ## What a tile owns -/

/-- The semaphores a tile uses. -/
def tileSems : Finset (SemLoc sig) :=
  {.dma cc0_scoped0.sem, .dma cc0_scoped1.sem, .dma cc0_scratch7.sem, .dma cc0_scratch9.sem, .dma cc0_scratch8.sem, .dma cc0_scratch10.sem}

/-- A tile's semaphores as the device's. -/
def semEmb : SemLoc sig ↪ GSem nD τ sig := ⟨fun s => (thr d i, s), fun _ _ e => (Prod.mk.inj e).2⟩

/-- The buffers a tile uses. -/
def tileBufs : Finset (Ref sig .scVector) :=
  {cc0_scratch0, cc0_scratch1, cc0_scratch2, cc0_scratch3, cc0_scratch5, cc0_scratch4, cc0_scratch6}

/-- A tile's buffers as the device's. -/
def bufEmb : Ref sig .scVector ↪ DevRef τ sig := ⟨(Proc.scVector (cV i) (jV i)).devRef, Proc.devRef_injective _⟩

theorem tileSems_own : (tileSems.map (semEmb d i)) ⊆ ownCells (thr d i) := by
  intro g hg
  obtain ⟨s, hs, rfl⟩ := Finset.mem_map.mp hg
  refine mem_ownCells.mpr ⟨rfl, ?_⟩
  have h : ∀ s ∈ tileSems, (s : SemLoc sig).isScoped .scVector = true := by decide
  exact h s hs

theorem tileBufs_own : (tileBufs.map (bufEmb i)) ⊆ ownRefs (τ := τ) (.scVector (cV i) (jV i)) := by
  intro b hb
  obtain ⟨r, hr, rfl⟩ := Finset.mem_map.mp hb
  refine SparseCore.Cfg.mem_ownRefs_of_owner (p := Proc.scVector (cV i) (jV i)) ?_
  simp only [tileBufs, Finset.mem_insert, Finset.mem_singleton] at hr
  rcases hr with rfl | rfl | rfl | rfl | rfl | rfl | rfl <;> rfl

/-- The semaphores a tile does not use. -/
def semsLeft : sProp 𝕄 := bigSep (ownCells (thr d i) \ tileSems.map (semEmb d i)) fun g => semVal g 0

/-- The buffers a tile does not use. -/
def bufsLeft : sProp 𝕄 :=
  bigSep (ownRefs (τ := τ) (.scVector (cV i) (jV i)) \ tileBufs.map (bufEmb i)) fun b => iprop(∃ f, ((d, b) : Loc nD τ sig) ↦{fullShare} f)

/-- A tile's semaphores are the six it uses and the others. -/
theorem ownSems0_V :
    (ownSems0 (thr d i) : sProp 𝕄)
      = iprop((Rest d i cc0_scoped0 ∗ Rest d i cc0_scoped1 ∗ Rest d i cc0_scratch7 ∗ Rest d i cc0_scratch9 ∗ Rest d i cc0_scratch8 ∗ Rest d i cc0_scratch10)
          ∗ semsLeft d i) := by
  unfold SparseCore.Cfg.ownSems0 semsLeft
  rw [SparseCore.bigSep_sdiff_split' (tileSems_own d i), Idealize.SL.BI.bigSep_map]
  congr 1
  unfold tileSems
  rw [SparseCore.bigSep_insert' (by decide), SparseCore.bigSep_insert' (by decide), SparseCore.bigSep_insert' (by decide), SparseCore.bigSep_insert' (by decide),
    SparseCore.bigSep_insert' (by decide), bigSep_singleton]
  rfl

/-- A buffer of the tile's, at some contents. -/
abbrev bufPt (r : Ref sig .scVector) : sProp 𝕄 := iprop(∃ f, (thr d i).loc r ↦{fullShare} f)

/-- A tile's buffers are the seven it uses and the others. -/
theorem ownBufs_V :
    (ownBufs (thr d i) : sProp 𝕄)
      = iprop((bufPt d i cc0_scratch0 ∗ bufPt d i cc0_scratch1 ∗ bufPt d i cc0_scratch2 ∗ bufPt d i cc0_scratch3 ∗ bufPt d i cc0_scratch5
          ∗ bufPt d i cc0_scratch4 ∗ bufPt d i cc0_scratch6) ∗ bufsLeft d i) := by
  unfold SparseCore.Cfg.ownBufs bufsLeft
  refine (SparseCore.bigSep_sdiff_split' (tileBufs_own i)).trans ?_
  rw [Idealize.SL.BI.bigSep_map]
  congr 1
  unfold tileBufs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- A buffer at some contents is a buffer held. -/
theorem pt_held (r : Ref sig .scVector) : (bufPt d i r : sProp 𝕄) ⊢ Held d i (Memref.whole r) (fun _ => True) := by
  unfold Held
  simp only [Memref.view_whole, View.set_whole]
  iintro ⟨%f, H⟩
  iexists f
  isplitr; · ipureintro; trivial
  iexact H

/-- A buffer held is a buffer at some contents. -/
theorem held_pt (r : Ref sig .scVector) : Held d i (Memref.whole r) (fun _ => True) ⊢ (bufPt d i r : sProp 𝕄) := by
  unfold Held
  simp only [Memref.view_whole, View.set_whole]
  iintro ⟨%f, -, H⟩
  iexists f
  iexact H

/-- What a tile's program needs of the tile. -/
abbrev OwnT : sProp 𝕄 := Own d i evW wvW lutW cc0_scoped0 cc0_scoped1 lineA lineB

theorem own_intro : iprop(ownBufs (thr d i) ∗ ownSems0 (thr d i)) ⊢ (iprop(OwnT d i ∗ bufsLeft d i ∗ semsLeft d i) : sProp 𝕄) := by
  rw [ownBufs_V, ownSems0_V]
  unfold OwnT Own LineRest
  iintro ⟨⟨⟨H0, H1, H2, H3, H5, H4, H6⟩, HB⟩, ⟨R0, R1, R7, R9, R8, R10⟩, HS⟩
  ihave H0 := (pt_held d i cc0_scratch0) $$ H0
  ihave H1 := (pt_held d i cc0_scratch1) $$ H1
  ihave H2 := (pt_held d i cc0_scratch2) $$ H2
  ihave H3 := (pt_held d i cc0_scratch3) $$ H3
  ihave H4 := (pt_held d i cc0_scratch4) $$ H4
  ihave H5 := (pt_held d i cc0_scratch5) $$ H5
  ihave H6 := (pt_held d i cc0_scratch6) $$ H6
  isplitl [H0 H1 H2 H3 H4 H5 H6 R0 R1 R7 R8 R9 R10]
  · isplitl [H0]; · iexact H0
    isplitl [H1]; · iexact H1
    isplitl [H2]; · iexact H2
    isplitl [R0]; · iexact R0
    isplitl [R1]; · iexact R1
    isplitl [H3 H5 R7 R9]
    · isplitl [H3]; · iexact H3
      isplitl [H5]; · iexact H5
      isplitl [R7]; · iexact R7
      iexact R9
    isplitl [H4]; · iexact H4
    isplitl [H6]; · iexact H6
    isplitl [R8]; · iexact R8
    iexact R10
  isplitl [HB]; · iexact HB
  iexact HS

theorem own_elim : iprop(OwnT d i ∗ bufsLeft d i ∗ semsLeft d i) ⊢ (iprop(ownBufs (thr d i) ∗ ownSems0 (thr d i)) : sProp 𝕄) := by
  rw [ownBufs_V, ownSems0_V]
  unfold OwnT Own LineRest
  iintro ⟨⟨H0, H1, H2, R0, R1, ⟨H3, H5, R7, R9⟩, H4, H6, R8, R10⟩, HB, HS⟩
  ihave H0 := (held_pt d i cc0_scratch0) $$ H0
  ihave H1 := (held_pt d i cc0_scratch1) $$ H1
  ihave H2 := (held_pt d i cc0_scratch2) $$ H2
  ihave H3 := (held_pt d i cc0_scratch3) $$ H3
  ihave H4 := (held_pt d i cc0_scratch4) $$ H4
  ihave H5 := (held_pt d i cc0_scratch5) $$ H5
  ihave H6 := (held_pt d i cc0_scratch6) $$ H6
  isplitl [H0 H1 H2 H3 H4 H5 H6 HB]
  · isplitr [HB]
    · isplitl [H0]; · iexact H0
      isplitl [H1]; · iexact H1
      isplitl [H2]; · iexact H2
      isplitl [H3]; · iexact H3
      isplitl [H5]; · iexact H5
      isplitl [H4]; · iexact H4
      iexact H6
    iexact HB
  isplitr [HS]
  · isplitl [R0]; · iexact R0
    isplitl [R1]; · iexact R1
    isplitl [R7]; · iexact R7
    isplitl [R9]; · iexact R9
    isplitl [R8]; · iexact R8
    iexact R10
  iexact HS

/-! ## The tile's part of the call -/

variable (q : PosShare TreeShare) (E : S1120.Idx → Elt F .f32) (G : S176.Idx → Elt F .f32) (X : Fin 8 → S16x200.Idx → Elt F .i32)

/-- What a tile is handed. -/
def TileIn : sProp 𝕄 :=
  iprop(Part d i q embW E ∗ Part d i q wbW G ∗ (bigSep Finset.univ fun b => Holds d i (xpBlk i xpW b) (X b)) ∗ bigSep Finset.univ fun b => Outs d i outW b)

/-- What a tile hands back. -/
def TileOut : sProp 𝕄 :=
  iprop(Part d i q embW E ∗ Part d i q wbW G ∗ (bigSep Finset.univ fun b => Holds d i (xpBlk i xpW b) (X b))
    ∗ bigSep Finset.univ fun b => Outed d i outW b (vals (X b) (lutOf E G)))

/-- The tile's program, from what it is handed and what it owns. -/
theorem tile_body (hX : ∀ b, InTable (X b)) (O : CellTallies nD τ sig (HIx 1)) (W₀ : Waits sig (HIx 1)) (hO : ∀ g, O g none = 0) :
    iprop(levAts (K (F := F)).L (K (F := F)).lev ∗ emp ∗ TileIn d i q E G X ∗ scopedBufs (thr d i) ∗ scopedSems0 (thr d i) ∗ owes (thr d i) O W₀)
      ⊢ wp frame (wpE (defs₀ (F := F)) 𝒱₀ (thr d i) none) Set.univ
          (cc0__sc_body i xpW (Memref.isWhole_whole _) embW (Memref.isWhole_whole _) wbW (Memref.isWhole_whole _) outW (Memref.isWhole_whole _)
            evW (Memref.isWhole_whole _) wvW (Memref.isWhole_whole _) lutW (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            cc0_scratch7 cc0_scratch8 cc0_scratch9 cc0_scratch10 cc0_scoped0 cc0_scoped1)
          fun _ => (iprop(TileOut d i q E G X ∗ scopedBufs (thr d i) ∗ scopedSems0 (thr d i)
            ∗ ∃ W', ⌜∀ p ∈ W', p ∈ W₀ ∨ p.2 = none⌝ ∗ owes (thr d i) O W') : sProp 𝕄) := by
  rw [body_eq, (K (F := F)).scopedBufs_V facts d (cV i) (jV i), SparseCore.Cfg.scopedSems0_V (Val := Elt F) d (cV i) (jV i)]
  have hbody := wp_keep d i (R := iprop(bufsLeft d i ∗ semsLeft d i)) (wp_body (d := d) (i := i) (q := q) (E := E) (G := G) (xp := xpW) (out := outW) (emb := embW)
    (wb := wbW) (ev := evW) (wv := wvW) (lut := lutW) (r0 := cc0_scoped0) (r1 := cc0_scoped1) (l := lineA) (m := lineB)
    (hemb := Memref.isWhole_whole _) (hwb := Memref.isWhole_whole _) (hev := Memref.isWhole_whole _) (hwv := Memref.isWhole_whole _) (O := O) (W₀ := W₀) hX)
  refine BIBase.Entails.trans ?_ (wp_weaken d i hbody ?_)
  · unfold TileIn
    iintro ⟨#Hlv, -, ⟨HE, HG, HX, HOut⟩, Hb, Hs, HO⟩
    ihave Hown := (own_intro d i) $$ [Hb Hs]
    · isplitl [Hb]; · iexact Hb
      iexact Hs
    icases Hown with ⟨Hown, HB, HS⟩
    isplitl [HB HS]
    · isplitl [HB]; · iexact HB
      iexact HS
    isplitl [Hown]; · iexact Hown
    isplitl [HE]; · iexact HE
    isplitl [HG]; · iexact HG
    isplitl [HX]; · iexact HX
    isplitl [HOut]; · iexact HOut
    unfold Ow
    isplitr
    · iapply ((K (F := F)).mayWaits_none (thr := thr d i) hO) $$ Hlv
    iexists W₀
    isplitr; · ipureintro; exact fun p hp => .inl hp
    iexact HO
  · intro _
    unfold TileOut Ow
    iintro ⟨⟨HB, HS⟩, Hown, HE, HG, HX, HOut, -, HO⟩
    isplitl [HE HG HX HOut]
    · isplitl [HE]; · iexact HE
      isplitl [HG]; · iexact HG
      isplitl [HX]; · iexact HX
      iexact HOut
    ihave H := (own_elim d i) $$ [Hown HB HS]
    · isplitl [Hown]; · iexact Hown
      isplitl [HB]; · iexact HB
      iexact HS
    icases H with ⟨Hb, Hs⟩
    isplitl [Hb]; · iexact Hb
    isplitl [Hs]; · iexact Hs
    iexact HO

/-! ## The call -/

/-- The grid point of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xpW (Memref.isWhole_whole _) embW (Memref.isWhole_whole _) wbW (Memref.isWhole_whole _) outW (Memref.isWhole_whole _)
          evW (Memref.isWhole_whole _) wvW (Memref.isWhole_whole _) lutW (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          cc0_scratch7 cc0_scratch8 cc0_scratch9 cc0_scratch10 cc0_scoped0 cc0_scoped1) ⟨⟩ c s := rfl

/-- The packed words of block `b` of a tile. -/
def xRow {α : Type} (Xp : S4096x200.Idx → α) (i : grid0.Coords) (b : Fin 8) : S16x200.Idx → α :=
  fun x => Xp ((Rect.unit (s := S4096x200) (xpOff i b) S16x200.size (xpOff_inb i b)).emb x)

/-- A tile's share of what every tile reads: a half for the core, a sixteenth of it for the subcore. -/
def share (c : Fin (grid0.bound 0)) (s : Fin (grid0.bound 1)) : PosShare TreeShare :=
  ShareLeaves.leaf 4 (ShareLeaves.leaf 1 fullShare (c : Fin 2)) (s : Fin 16)

variable (vE : Dev nD → S1120.Idx → Elt F .f32) (vG : Dev nD → S176.Idx → Elt F .f32) (vX : Dev nD → S4096x200.Idx → Elt F .i32)

/-- What the tile of a core and a subcore is handed, and hands back. -/
def goT (d : Dev nD) (c : Fin (grid0.bound 0)) (s : Fin (grid0.bound 1)) : sProp 𝕄 :=
  TileIn d (coordsV c s) (share c s) (vE d) (vG d) (xRow (vX d) (coordsV c s))
def tdT (d : Dev nD) (c : Fin (grid0.bound 0)) (s : Fin (grid0.bound 1)) : sProp 𝕄 :=
  TileOut d (coordsV c s) (share c s) (vE d) (vG d) (xRow (vX d) (coordsV c s))

instance Held_storable {sp : Space} {s : Shape} {e : EltTy} (m : Memref sig .scVector sp s e) (P : (s.Idx → Elt F e) → Prop) :
    BI.Storable (upEmb : UEmb _ 𝕄) (Held d i m P) := by unfold Held; infer_instance
instance Part_storable {sp : Space} {s : Shape} {e : EltTy} (m : Memref sig .scVector sp s e) (X : s.Idx → Elt F e) :
    BI.Storable (upEmb : UEmb _ 𝕄) (Part d i q m X) := by unfold Part; infer_instance
instance goT_storable (c : Fin (grid0.bound 0)) (s : Fin (grid0.bound 1)) : BI.Storable (upEmb : UEmb _ 𝕄) (goT vE vG vX d c s) := by
  unfold goT TileIn Outs; infer_instance
instance tdT_storable (c : Fin (grid0.bound 0)) (s : Fin (grid0.bound 1)) : BI.Storable (upEmb : UEmb _ 𝕄) (tdT vE vG vX d c s) := by
  unfold tdT TileOut Outed Holds; infer_instance

/-- What a core is handed for its tiles, and hands back. -/
def stT (d : Dev nD) (c : Fin (grid0.bound 0)) : sProp 𝕄 := bigSep Finset.univ fun s : Fin (grid0.bound 1) => goT vE vG vX d c s
def dnT (d : Dev nD) (c : Fin (grid0.bound 0)) : sProp 𝕄 := bigSep Finset.univ fun s : Fin (grid0.bound 1) => tdT vE vG vX d c s

instance stT_storable (c : Fin (grid0.bound 0)) : BI.Storable (upEmb : UEmb _ 𝕄) (stT vE vG vX d c) := by
  unfold stT; infer_instance
instance dnT_storable (c : Fin (grid0.bound 0)) : BI.Storable (upEmb : UEmb _ 𝕄) (dnT vE vG vX d c) := by
  unfold dnT; infer_instance

/-- The call hands each core what its tiles are handed, and gets back what they hand back. -/
def P : (K (F := F)).Pay (nD := nD) (Val := Elt F) (Name := ℕ) (U := UU) where
  st := fun q d c => match q with | 0 => stT vE vG vX d c
  dn := fun q d c => match q with | 0 => dnT vE vG vX d c
  go := fun q d c s => match q with | 0 => goT vE vG vX d c s
  td := fun q d c s => match q with | 0 => tdT vE vG vX d c s
  x := fun _ _ => iprop(emp)

instance P_storable : (P vE vG vX).IsStorable where
  st q d c := match q with | 0 => stT_storable d vE vG vX c
  dn q d c := match q with | 0 => dnT_storable d vE vG vX c
  go q d c s := match q with | 0 => goT_storable d vE vG vX c s
  td q d c s := match q with | 0 => tdT_storable d vE vG vX c s

theorem obl_post {t : Thread nD τ} {A B C : sProp 𝕄} {O : CellTallies nD τ sig (HIx 1)} {W₀ : Waits sig (HIx 1)} {p : Fin 1} :
    iprop(A ∗ B ∗ C ∗ ∃ W', ⌜∀ x ∈ W', x ∈ W₀ ∨ x.2 = none⌝ ∗ owes t O W')
      ⊢ iprop(A ∗ B ∗ C ∗ ∃ W', ⌜∀ x ∈ W', x ∈ W₀ ∨ x.2 = none ∨ x.2 = some p⌝ ∗ owes t O W') := by
  iintro ⟨HA, HB, HC, %W', %hW', HO⟩
  isplitl [HA]; · iexact HA
  isplitl [HB]; · iexact HB
  isplitl [HC]; · iexact HC
  iexists W'; isplitr
  · ipureintro; exact fun x hx => (hW' x hx).imp_right Or.inl
  · iexact HO

theorem tileObl (hX : ∀ d, InTable (vX d)) : (K (F := F)).TileObl (D (F := F)) 𝒱 (P vE vG vX) v₀ 0 := by
  intro d c s O W hO _ _
  simp only [show (P vE vG vX).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]; simp only [SparseCore.onTile, hc, and_self, ↓reduceDIte]
  exact (tile_body d (coordsV ⟨_, hc.1⟩ ⟨_, hc.2⟩) (share ⟨_, hc.1⟩ ⟨_, hc.2⟩) (vE d) (vG d) _ (fun b x k => hX d _ k) O W hO).trans
    (wp_mono frame _ _ fun _ => obl_post)

/-- What is handed on and handed back unchanged. -/
theorem split_id (A B : sProp 𝕄) : A ⊢ |={Set.univ}=> iprop(A ∗ (B -∗ B)) := by
  iintro H; imodintro
  isplitl [H]; · iexact H
  iintro H; iexact H

theorem vecSplit : (K (F := F)).VecSplit' (P vE vG vX) 0 := fun d c => split_id (stT vE vG vX d c) (dnT vE vG vX d c)

end Cert.KernelIdeal.Tile

end
-- ==== Proof.Host.lean ====
/-
  What the program prepares before the call, and the one step after it.
-/
module

public import proofs.«01_k».proof.Proof.Setup

@[expose] public section

noncomputable section

namespace Cert.KernelIdeal.Tile

open Idealize.ShloMosaic
open Idealize.ShloMosaic.SparseCore.Cfg (HIx Pay)
open Facts₀ Facts

variable {F : FTy → Type} [FloatOps F]

/-- The steps before the call, in order. -/
def hostOps : List (HloOp τ sig (Elt F)) :=
  [ StableHlo.reshape main_arg1 main_v0 (rfl : (.f32 : EltTy) = .f32) shapeCasts_S100x10_S1000,
    StableHlo.nullary main_c (constantI S_ 32 0#32),
    StableHlo.TRef.unary (StableHlo.TRef.of (T := ⟨S_, .i32⟩) main_c) (StableHlo.TRef.of (T := ⟨S_, .f32⟩) main_call0_v0) (sitofp .f32),
    StableHlo.TRef.binary (StableHlo.TRef.of (T := ⟨S1000, .f32⟩) main_v0) (StableHlo.TRef.of (T := ⟨S_, .f32⟩) main_call0_v0) (StableHlo.TRef.of (T := ⟨S1120, .f32⟩) main_v1) (fun x v => pad S1120 ![0] ![120] ![0] x v pads_S1000_S1120_01200 h_S_),
    StableHlo.reshape main_arg2 main_v2 (rfl : (.f32 : EltTy) = .f32) shapeCasts_S1x10_S10,
    StableHlo.binary main_v2 main_arg3 main_v3 ((fun a b => concatenate S11 0 [⟨S10, a⟩, ⟨S1, b⟩] concatenates_S10_S1_S11_d0) : (⟨S10, .f32⟩ : BufTy).Contents (Elt F) → (⟨S1, .f32⟩ : BufTy).Contents (Elt F) → (⟨S11, .f32⟩ : BufTy).Contents (Elt F)),
    StableHlo.unary main_v3 main_v4 (broadcastInDim S11x16 ![0] bcast_S11_S11x16_0 : (⟨S11, .f32⟩ : BufTy).Contents (Elt F) → (⟨S11x16, .f32⟩ : BufTy).Contents (Elt F)),
    StableHlo.reshape main_v4 main_v5 (rfl : (.f32 : EltTy) = .f32) shapeCasts_S11x16_S176,
    StableHlo.unary main_arg0 main_v6 ((extractStridedSlice S4096x200 ![0, 0] · slices_S16384x200_S4096x200_0_0) : (⟨S16384x200, .i32⟩ : BufTy).Contents (Elt F) → (⟨S4096x200, .i32⟩ : BufTy).Contents (Elt F)),
    StableHlo.unary main_arg0 main_v7 ((extractStridedSlice S4096x200 ![4096, 0] · slices_S16384x200_S4096x200_4096_0) : (⟨S16384x200, .i32⟩ : BufTy).Contents (Elt F) → (⟨S4096x200, .i32⟩ : BufTy).Contents (Elt F)),
    StableHlo.nullary main_c_0 (constantI S_ 32 8#32),
    StableHlo.unary main_c_0 main_v8 (broadcastInDim S4096x200 ![] bcast_S_S4096x200 : (⟨S_, .i32⟩ : BufTy).Contents (Elt F) → (⟨S4096x200, .i32⟩ : BufTy).Contents (Elt F)),
    StableHlo.binary main_v7 main_v8 main_v9 (Host.shli : (⟨S4096x200, .i32⟩ : BufTy).Contents (Elt F) → (⟨S4096x200, .i32⟩ : BufTy).Contents (Elt F) → (⟨S4096x200, .i32⟩ : BufTy).Contents (Elt F)),
    StableHlo.binary main_v6 main_v9 main_v10 (ori : (⟨S4096x200, .i32⟩ : BufTy).Contents (Elt F) → (⟨S4096x200, .i32⟩ : BufTy).Contents (Elt F) → (⟨S4096x200, .i32⟩ : BufTy).Contents (Elt F)),
    StableHlo.unary main_arg0 main_v11 ((extractStridedSlice S4096x200 ![8192, 0] · slices_S16384x200_S4096x200_8192_0) : (⟨S16384x200, .i32⟩ : BufTy).Contents (Elt F) → (⟨S4096x200, .i32⟩ : BufTy).Contents (Elt F)),
    StableHlo.nullary main_c_1 (constantI S_ 32 16#32),
    StableHlo.unary main_c_1 main_v12 (broadcastInDim S4096x200 ![] bcast_S_S4096x200 : (⟨S_, .i32⟩ : BufTy).Contents (Elt F) → (⟨S4096x200, .i32⟩ : BufTy).Contents (Elt F)),
    StableHlo.binary main_v11 main_v12 main_v13 (Host.shli : (⟨S4096x200, .i32⟩ : BufTy).Contents (Elt F) → (⟨S4096x200, .i32⟩ : BufTy).Contents (Elt F) → (⟨S4096x200, .i32⟩ : BufTy).Contents (Elt F)),
    StableHlo.binary main_v10 main_v13 main_v14 (ori : (⟨S4096x200, .i32⟩ : BufTy).Contents (Elt F) → (⟨S4096x200, .i32⟩ : BufTy).Contents (Elt F) → (⟨S4096x200, .i32⟩ : BufTy).Contents (Elt F)),
    StableHlo.unary main_arg0 main_v15 ((extractStridedSlice S4096x200 ![12288, 0] · slices_S16384x200_S4096x200_12288_0) : (⟨S16384x200, .i32⟩ : BufTy).Contents (Elt F) → (⟨S4096x200, .i32⟩ : BufTy).Contents (Elt F)),
    StableHlo.nullary main_c_2 (constantI S_ 32 24#32),
    StableHlo.unary main_c_2 main_v16 (broadcastInDim S4096x200 ![] bcast_S_S4096x200 : (⟨S_, .i32⟩ : BufTy).Contents (Elt F) → (⟨S4096x200, .i32⟩ : BufTy).Contents (Elt F)),
    StableHlo.binary main_v15 main_v16 main_v17 (Host.shli : (⟨S4096x200, .i32⟩ : BufTy).Contents (Elt F) → (⟨S4096x200, .i32⟩ : BufTy).Contents (Elt F) → (⟨S4096x200, .i32⟩ : BufTy).Contents (Elt F)),
    StableHlo.binary main_v14 main_v17 main_v18 (ori : (⟨S4096x200, .i32⟩ : BufTy).Contents (Elt F) → (⟨S4096x200, .i32⟩ : BufTy).Contents (Elt F) → (⟨S4096x200, .i32⟩ : BufTy).Contents (Elt F)),
    StableHlo.unary main_v18 main_v19 (id : (⟨S4096x200, .i32⟩ : BufTy).Contents (Elt F) → (⟨S4096x200, .i32⟩ : BufTy).Contents (Elt F)) ]

/-- The step after the call. -/
def lastOp : HloOp τ sig (Elt F) :=
  StableHlo.unary main_v20 main_v21 (broadcastInDim S16384x200x1 ![0, 1] bcast_S16384x200_S16384x200x1_0_1 : (⟨S16384x200, .f32⟩ : BufTy).Contents (Elt F) → (⟨S16384x200x1, .f32⟩ : BufTy).Contents (Elt F))

/-- The program is its steps before the call, the call, and the step after it. -/
theorem main_eq (d : Dev nD) :
    main (F := F) d = StableHlo.seq hostOps >>= fun _ => (sc (F := F)).run d 0 >>= fun _ => hlo rfl lastOp (fun _ => .ret ⟨⟩) := rfl

/-- The flat embedding, filled up with zeros. -/
def embOf (a1 : S100x10.Idx → F .f32) : S1120.Idx → F .f32 :=
  pad S1120 ![0] ![120] ![0] (shapeCast S1000 a1 shapeCasts_S100x10_S1000) (sitofp .f32 (constantI S_ 32 0#32)) pads_S1000_S1120_01200 h_S_

/-- The weights and the bias, each sixteen times. -/
def wbOf (a2 : S1x10.Idx → F .f32) (a3 : S1.Idx → F .f32) : S176.Idx → F .f32 :=
  shapeCast S176 (broadcastInDim S11x16 ![0] bcast_S11_S11x16_0
    (concatenate S11 0 [⟨S10, shapeCast S10 a2 shapeCasts_S1x10_S10⟩, ⟨S1, a3⟩] concatenates_S10_S1_S11_d0)) shapeCasts_S11x16_S176

/-- Four rows of indices packed into one. -/
def xpOf (a0 : IVec S16384x200 32) : IVec S4096x200 32 :=
  ori (ori (ori (extractStridedSlice S4096x200 ![0, 0] a0 slices_S16384x200_S4096x200_0_0)
        (Host.shli (extractStridedSlice S4096x200 ![4096, 0] a0 slices_S16384x200_S4096x200_4096_0)
          (broadcastInDim S4096x200 ![] bcast_S_S4096x200 (constantI S_ 32 8#32))))
      (Host.shli (extractStridedSlice S4096x200 ![8192, 0] a0 slices_S16384x200_S4096x200_8192_0)
        (broadcastInDim S4096x200 ![] bcast_S_S4096x200 (constantI S_ 32 16#32))))
    (Host.shli (extractStridedSlice S4096x200 ![12288, 0] a0 slices_S16384x200_S4096x200_12288_0)
      (broadcastInDim S4096x200 ![] bcast_S_S4096x200 (constantI S_ 32 24#32)))

variable (V : Valuation τ sig (Elt F))

theorem after_emb : StableHlo.after hostOps V (Proc.devRef .tc main_v1) = embOf (V (Proc.devRef .tc main_arg1)) := by
  simp only [hostOps, StableHlo.TRef.binary, StableHlo.TRef.unary, StableHlo.TRef.toBuf, StableHlo.TRef.ofBuf, cast_eq]
  after_results
  rfl

theorem after_wb : StableHlo.after hostOps V (Proc.devRef .tc main_v5) = wbOf (V (Proc.devRef .tc main_arg2)) (V (Proc.devRef .tc main_arg3)) := by
  simp only [hostOps, StableHlo.TRef.binary, StableHlo.TRef.unary, StableHlo.TRef.toBuf, StableHlo.TRef.ofBuf, cast_eq]
  after_results
  rfl

theorem after_xp : StableHlo.after hostOps V (Proc.devRef .tc main_v19) = xpOf (V (Proc.devRef .tc main_arg0)) := by
  simp only [hostOps, StableHlo.TRef.binary, StableHlo.TRef.unary, StableHlo.TRef.toBuf, StableHlo.TRef.ofBuf, cast_eq]
  after_results
  rfl

theorem after_arg0 : StableHlo.after hostOps V (Proc.devRef .tc main_arg0) = V (Proc.devRef .tc main_arg0) := by
  simp only [hostOps, StableHlo.TRef.binary, StableHlo.TRef.unary, StableHlo.TRef.toBuf, StableHlo.TRef.ofBuf, cast_eq]
  after_results
theorem after_arg1 : StableHlo.after hostOps V (Proc.devRef .tc main_arg1) = V (Proc.devRef .tc main_arg1) := by
  simp only [hostOps, StableHlo.TRef.binary, StableHlo.TRef.unary, StableHlo.TRef.toBuf, StableHlo.TRef.ofBuf, cast_eq]
  after_results
theorem after_arg2 : StableHlo.after hostOps V (Proc.devRef .tc main_arg2) = V (Proc.devRef .tc main_arg2) := by
  simp only [hostOps, StableHlo.TRef.binary, StableHlo.TRef.unary, StableHlo.TRef.toBuf, StableHlo.TRef.ofBuf, cast_eq]
  after_results
theorem after_arg3 : StableHlo.after hostOps V (Proc.devRef .tc main_arg3) = V (Proc.devRef .tc main_arg3) := by
  simp only [hostOps, StableHlo.TRef.binary, StableHlo.TRef.unary, StableHlo.TRef.toBuf, StableHlo.TRef.ofBuf, cast_eq]
  after_results

end Cert.KernelIdeal.Tile

end
-- ==== Proof.Split.lean ====
/-
  The call's buffers, dealt to the tiles and gathered from them.
-/
module

public import proofs.«01_k».proof.Proof.Tile
public import proofs.«01_k».proof.Proof.Host

@[expose] public section

noncomputable section

namespace Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

local notation "𝕄" => MT nD τ sig (HIx 1) (Elt F) ℕ UU ℕ

/-! ## Pieces -/

/-- A buffer is its pieces, when every place has one piece that it lies in. -/
theorem split_by {Tt : Type} [Fintype Tt] [DecidableEq Tt] {ℓ : Loc nD τ sig} (Kt : Tt → Finset (Idx ℓ)) (own : Idx ℓ → Tt)
    (h : ∀ t y, y ∈ Kt t ↔ own y = t) (f : Buf (Elt F) ℓ) :
    (ℓ ↦{fullShare} f : sProp 𝕄) = bigSep Finset.univ fun t => ℓ ↦[Kt t]{fullShare} f := by
  have hc : (Finset.univ : Finset Tt).biUnion Kt = Finset.univ := by
    ext y
    simp only [Finset.mem_biUnion, Finset.mem_univ, true_and, iff_true]
    exact ⟨own y, (h _ y).mpr rfl⟩
  rw [← pointsTo_biUnion Finset.univ Kt (fun t _ t' _ ht => Finset.disjoint_left.mpr fun y hy hy' => ht (((h t y).mp hy).symm.trans ((h t' y).mp hy'))), hc]

abbrev Core : Type := Fin (grid0.bound 0)
abbrev Sub : Type := Fin (grid0.bound 1)

theorem wid_coords (c : Core) (s : Sub) : wid (coordsV c s) = s.val * 2 + c.val := rfl

/-- The packed words' piece: the block of a tile. -/
def xpPiece (t : Core × Sub × Fin 8) : Finset S4096x200.Idx :=
  (Rect.unit (s := S4096x200) (xpOff (coordsV t.1 t.2.1) t.2.2) S16x200.size (xpOff_inb (coordsV t.1 t.2.1) t.2.2)).set

/-- The piece a packed word lies in. -/
def xpOwn (y : S4096x200.Idx) : Core × Sub × Fin 8 :=
  (⟨(y 0).val / 128 % 2, Nat.mod_lt _ (by decide)⟩,
    ⟨(y 0).val / 128 / 2, by have h : (y 0).val < 4096 := (y 0).isLt; show (y 0).val / 128 / 2 < 16; omega⟩, ⟨(y 0).val / 16 % 8, Nat.mod_lt _ (by decide)⟩)

theorem mem_xpPiece (t : Core × Sub × Fin 8) (y : S4096x200.Idx) : y ∈ xpPiece t ↔ xpOwn y = t := by
  obtain ⟨c, s, b⟩ := t
  unfold xpPiece xpOwn
  rw [Rect.mem_set_unit]
  simp only [xpOff_eq _ _ b.isLt, wid_coords, Prod.mk.injEq, Fin.ext_iff]
  have hc : c.val < 2 := c.isLt
  have hs : s.val < 16 := s.isLt
  have hb := b.isLt
  have hy1 : (y 1).val < 200 := (y 1).isLt
  constructor
  · intro h
    have h0 : 128 * (s.val * 2 + c.val) + 16 * b.val ≤ (y 0).val ∧ (y 0).val < 128 * (s.val * 2 + c.val) + 16 * b.val + 16 := h 0
    omega
  · intro h a
    match a with
    | ⟨0, _⟩ =>
      show 128 * (s.val * 2 + c.val) + 16 * b.val ≤ (y 0).val ∧ (y 0).val < 128 * (s.val * 2 + c.val) + 16 * b.val + 16
      omega
    | ⟨1, _⟩ => show 0 ≤ (y 1).val ∧ (y 1).val < 0 + 200; omega

/-- The result's piece: a field of the block of a tile. -/
def outPiece (t : Core × Sub × Fin 8 × Fin 4) : Finset S16384x200.Idx :=
  (Rect.unit (s := S16384x200) (outOff (coordsV t.1 t.2.1) t.2.2.2 t.2.2.1) S16x200.size (outOff_inb (coordsV t.1 t.2.1) t.2.2.2 t.2.2.1)).set

/-- The piece a place of the result lies in. -/
def outOwn (y : S16384x200.Idx) : Core × Sub × Fin 8 × Fin 4 :=
  (⟨(y 0).val / 128 % 2, Nat.mod_lt _ (by decide)⟩,
    ⟨(y 0).val % 4096 / 128 / 2, by show (y 0).val % 4096 / 128 / 2 < 16; omega⟩, ⟨(y 0).val / 16 % 8, Nat.mod_lt _ (by decide)⟩,
    ⟨(y 0).val / 4096, by have h : (y 0).val < 16384 := (y 0).isLt; omega⟩)

theorem mem_outPiece (t : Core × Sub × Fin 8 × Fin 4) (y : S16384x200.Idx) : y ∈ outPiece t ↔ outOwn y = t := by
  obtain ⟨c, s, b, k⟩ := t
  unfold outPiece outOwn
  rw [Rect.mem_set_unit]
  simp only [outOff_eq _ _ _ k.isLt b.isLt, wid_coords, Prod.mk.injEq, Fin.ext_iff]
  have hc : c.val < 2 := c.isLt
  have hs : s.val < 16 := s.isLt
  have hb := b.isLt
  have hk := k.isLt
  have hy1 : (y 1).val < 200 := (y 1).isLt
  constructor
  · intro h
    have h0 : 4096 * k.val + 128 * (s.val * 2 + c.val) + 16 * b.val ≤ (y 0).val ∧ (y 0).val < 4096 * k.val + 128 * (s.val * 2 + c.val) + 16 * b.val + 16 := h 0
    omega
  · intro h a
    match a with
    | ⟨0, _⟩ =>
      show 4096 * k.val + 128 * (s.val * 2 + c.val) + 16 * b.val ≤ (y 0).val ∧ (y 0).val < 4096 * k.val + 128 * (s.val * 2 + c.val) + 16 * b.val + 16
      omega
    | ⟨1, _⟩ => show 0 ≤ (y 1).val ∧ (y 1).val < 0 + 200; omega

/-- A place of the packed words. -/
def pRow (r : Nat) (c : Fin 200) : S4096x200.Idx := fun a => match a with
  | ⟨0, _⟩ => ⟨r % 4096, Nat.mod_lt _ (by decide)⟩
  | ⟨1, _⟩ => c

/-- The result of the call: the table at a field of a packed word. -/
def outOf {α : Type} (Xp : S4096x200.Idx → BitVec 32) (L : S112.Idx → α) (y : S16384x200.Idx) : α :=
  at112 L (fldW (Xp (pRow (y 0).val (y 1))) ((y 0).val / 4096)).toNat

/-- A field of a tile's block of the result is what the tile leaves there. -/
theorem outOf_piece {α : Type} (Xp : S4096x200.Idx → BitVec 32) (L : S112.Idx → α) (i : grid0.Coords) (b : Fin 8) (k : Fin 4) (x : S16x200.Idx) :
    outOf Xp L ((Rect.unit (s := S16384x200) (outOff i k b) S16x200.size (outOff_inb i k b)).emb x) = fldOf (vals (xRow Xp i b) L) k x := by
  have hx0 : (x 0).val < 16 := (x 0).isLt
  have hw := wid_lt i
  have hb := b.isLt
  have hk := k.isLt
  have e0 : ((Rect.unit (s := S16384x200) (outOff i k b) S16x200.size (outOff_inb i k b)).emb x 0).val = 4096 * k.val + 128 * wid i + 16 * b.val + (x 0).val :=
    (ValueKit.rect_emb_unit_val _ _ _ _ 0).trans (congrArg (· + _) (congrFun (outOff_eq i k b hk hb) 0))
  have e1 : ((Rect.unit (s := S16384x200) (outOff i k b) S16x200.size (outOff_inb i k b)).emb x 1).val = 0 + (x 1).val :=
    (ValueKit.rect_emb_unit_val _ _ _ _ 1).trans (congrArg (· + _) (congrFun (outOff_eq i k b hk hb) 1))
  have f0 : ((Rect.unit (s := S64x200) ![16 * k.val, 0] S16x200.size (ovOff_inb k)).emb x 0).val = 16 * k.val + (x 0).val :=
    ValueKit.rect_emb_unit_val _ _ _ _ 0
  have f1 : ((Rect.unit (s := S64x200) ![16 * k.val, 0] S16x200.size (ovOff_inb k)).emb x 1).val = 0 + (x 1).val :=
    ValueKit.rect_emb_unit_val _ _ _ _ 1
  refine congrArg₂ (fun v n => at112 L (fldW (Xp v) n).toNat) ?_ ?_
  · funext a
    apply Fin.ext
    match a with
    | ⟨0, _⟩ =>
      refine Eq.trans ?_ ((ValueKit.rect_emb_unit_val _ _ _ _ 0).trans (congrArg (· + _) (congrFun (xpOff_eq i b hb) 0))).symm
      refine (congrArg (· % 4096) e0).trans (Eq.trans ?_ (congrArg (fun n => 128 * wid i + 16 * b.val + n % 16) f0).symm)
      show (4096 * k.val + 128 * wid i + 16 * b.val + (x 0).val) % 4096 = 128 * wid i + 16 * b.val + (16 * k.val + (x 0).val) % 16
      omega
    | ⟨1, _⟩ =>
      refine Eq.trans ?_ ((ValueKit.rect_emb_unit_val _ _ _ _ 1).trans (congrArg (· + _) (congrFun (xpOff_eq i b hb) 1))).symm
      exact e1.trans (f1.symm.trans (Nat.zero_add _).symm)
  · refine (congrArg (· / 4096) e0).trans (Eq.trans ?_ (congrArg (· / 16) f0).symm)
    show (4096 * k.val + 128 * wid i + 16 * b.val + (x 0).val) / 4096 = (16 * k.val + (x 0).val) / 16
    omega

/-! ## Dealing and gathering -/

variable (d : Dev nD)

/-- Where a buffer of the program's lies. -/
abbrev tl (d : Dev nD) (r : Ref sig .tc) : Loc nD τ sig := (SparseCore.T d).loc r

theorem set_xpBlk (i : grid0.Coords) (b : Fin 8) :
    (xpBlk i xpW b).view.set = (Rect.unit (s := S4096x200) (xpOff i b) S16x200.size (xpOff_inb i b)).set := by
  show ((View.whole (main_v19_scv : Ref sig .scVector)).slice _).set = _
  rw [View.set_slice]; exact Finset.map_refl

theorem set_outBlk (i : grid0.Coords) (b : Fin 8) (k : Fin 4) :
    (outBlk i outW k b).view.set = (Rect.unit (s := S16384x200) (outOff i k b) S16x200.size (outOff_inb i k b)).set := by
  show ((View.whole (main_v20_scv : Ref sig .scVector)).slice _).set = _
  rw [View.set_slice]; exact Finset.map_refl

/-- One assertion from another. -/
theorem of_raw {A B : sProp 𝕄} (h : A ⊢ B) : Idealize.SL.BI.Entails A B := h

/-- The packed words, dealt to the tiles. -/
theorem xp_deal (f : S4096x200.Idx → Elt F .i32) :
    (tl d main_v19 ↦{fullShare} f : sProp 𝕄) ⊢ bigSep Finset.univ fun c : Core => bigSep Finset.univ fun s : Sub => bigSep Finset.univ fun b : Fin 8 =>
      Holds d (coordsV c s) (xpBlk (coordsV c s) xpW b) (xRow f (coordsV c s) b) := by
  rw [split_by (ℓ := tl d main_v19) xpPiece xpOwn mem_xpPiece f, bigSep_univ_prod]
  simp only [bigSep_univ_prod]
  refine bigSep_mono fun c _ => bigSep_mono fun s _ => bigSep_mono fun b _ => ?_
  refine BIBase.Entails.trans ?_ (held_intro (d := d) (i := coordsV c s) (m := xpBlk (coordsV c s) xpW b) (P := fun Y => Y = xRow f (coordsV c s) b) f rfl)
  rw [set_xpBlk]
  exact entails_refl _

/-- The result's places, dealt to the tiles. -/
theorem out_deal (f : S16384x200.Idx → Elt F .f32) :
    (tl d main_v20 ↦{fullShare} f : sProp 𝕄) ⊢ bigSep Finset.univ fun c : Core => bigSep Finset.univ fun s : Sub => bigSep Finset.univ fun b : Fin 8 =>
      Outs d (coordsV c s) outW b := by
  rw [split_by (ℓ := tl d main_v20) outPiece outOwn mem_outPiece f, bigSep_univ_prod]
  simp only [bigSep_univ_prod]
  unfold Outs
  refine bigSep_mono fun c _ => bigSep_mono fun s _ => bigSep_mono fun b _ => bigSep_mono fun k _ => ?_
  refine BIBase.Entails.trans ?_ (held_intro (d := d) (i := coordsV c s) (m := outBlk (coordsV c s) outW k b) (P := fun _ => True) f trivial)
  rw [set_outBlk]
  exact entails_refl _

/-- The result, gathered from the tiles. -/
theorem out_gather (Xp : S4096x200.Idx → BitVec 32) (L : S112.Idx → Elt F .f32) :
    (bigSep Finset.univ fun c : Core => bigSep Finset.univ fun s : Sub => bigSep Finset.univ fun b : Fin 8 =>
      Outed d (coordsV c s) outW b (vals (xRow Xp (coordsV c s) b) L)) ⊢ (tl d main_v20 ↦{fullShare} outOf Xp L : sProp 𝕄) := by
  rw [split_by (ℓ := tl d main_v20) outPiece outOwn mem_outPiece (outOf Xp L), bigSep_univ_prod]
  simp only [bigSep_univ_prod]
  unfold Outed
  refine bigSep_mono fun c _ => bigSep_mono fun s _ => bigSep_mono fun b _ => bigSep_mono fun k _ => ?_
  unfold Holds Held
  rw [set_outBlk]
  refine of_raw ?_
  iintro ⟨%f, %hf, H⟩
  have hfg : ∀ y ∈ outPiece (c, s, b, k), f y = outOf Xp L y := by
    intro y hy
    unfold outPiece at hy
    obtain ⟨x, -, rfl⟩ := Finset.mem_map.mp (by rw [← Rect.map_emb_univ] at hy; exact hy)
    exact (congrFun hf x).trans (outOf_piece Xp L (coordsV c s) b k x).symm
  have e : ((outBlk (coordsV c s) outW k b).view.loc (thr d (coordsV c s))
      ↦[(Rect.unit (s := S16384x200) (outOff (coordsV c s) k b) S16x200.size (outOff_inb (coordsV c s) k b)).set]{fullShare} f : sProp 𝕄)
        ⊢ (tl d main_v20 ↦[outPiece (c, s, b, k)]{fullShare} outOf Xp L) :=
    Entails.of_eq (pointsTo_congr (ℓ := tl d main_v20) (q := fullShare) hfg)
  iapply e $$ H

/-- What every tile reads, dealt to the tiles. -/
theorem share_deal {ℓ : Loc nD τ sig} (f : Buf (Elt F) ℓ) :
    (ℓ ↦{fullShare} f : sProp 𝕄) = bigSep Finset.univ fun c : Core => bigSep Finset.univ fun s : Sub => ℓ ↦{share c s} f := by
  rw [ShareLeaves.pointsTo_leaves Finset.univ f 1 fullShare]
  exact bigSep_congr fun c _ => ShareLeaves.pointsTo_leaves Finset.univ f 4 _

theorem emb_deal (f : S1120.Idx → Elt F .f32) :
    (tl d main_v1 ↦{fullShare} f : sProp 𝕄) ⊢ bigSep Finset.univ fun c : Core => bigSep Finset.univ fun s : Sub =>
      Part d (coordsV c s) (share c s) embW f := by
  rw [share_deal]
  refine bigSep_mono fun c _ => bigSep_mono fun s _ => ?_
  unfold Part
  simp only [Memref.view_whole, View.set_whole]
  refine of_raw ?_
  iintro H
  iexists f
  isplitr; · ipureintro; rfl
  iexact H

theorem wb_deal (f : S176.Idx → Elt F .f32) :
    (tl d main_v5 ↦{fullShare} f : sProp 𝕄) ⊢ bigSep Finset.univ fun c : Core => bigSep Finset.univ fun s : Sub =>
      Part d (coordsV c s) (share c s) wbW f := by
  rw [share_deal]
  refine bigSep_mono fun c _ => bigSep_mono fun s _ => ?_
  unfold Part
  simp only [Memref.view_whole, View.set_whole]
  refine of_raw ?_
  iintro H
  iexists f
  isplitr; · ipureintro; rfl
  iexact H

variable (vE : Dev nD → S1120.Idx → Elt F .f32) (vG : Dev nD → S176.Idx → Elt F .f32) (vX : Dev nD → S4096x200.Idx → Elt F .i32)

/-- All that the call is handed. -/
theorem deal (f : S16384x200.Idx → Elt F .f32) :
    (iprop((tl d main_v1 ↦{fullShare} vE d) ∗ (tl d main_v5 ↦{fullShare} vG d) ∗ (tl d main_v19 ↦{fullShare} vX d)
        ∗ tl d main_v20 ↦{fullShare} f) : sProp 𝕄)
      ⊢ bigSep Finset.univ fun c : Core => stT vE vG vX d c := by
  unfold stT goT TileIn
  simp only [bigSep_sep']
  exact BI.sep_mono (emb_deal d (vE d)) (BI.sep_mono (wb_deal d (vG d)) (BI.sep_mono (xp_deal d (vX d)) (out_deal d f)))

/-- The result, from all that the call hands back. -/
theorem gathered :
    (bigSep Finset.univ fun c : Core => dnT vE vG vX d c)
      ⊢ (tl d main_v20 ↦{fullShare} outOf (vX d) (lutOf (vE d) (vG d)) : sProp 𝕄) := by
  unfold dnT tdT TileOut
  simp only [bigSep_sep']
  iintro ⟨-, -, -, H⟩
  iapply (out_gather d (vX d) (lutOf (vE d) (vG d))) $$ H

end Cert.KernelIdeal.Tile

end
-- ==== Proof.Launch.lean ====
/-
  The program's run: what it prepares, the call, and the step after it.
-/
module

public import proofs.«01_k».proof.Proof.Split
public import Idealize.ShloMosaic.Lib.Pipeline.Frame

@[expose] public section

noncomputable section

namespace Cert.KernelIdeal.Tile

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig (HIx 1) (Elt F) ℕ UU ℕ

variable (m : (ℓ : Loc nD τ sig) → Buf (Elt F) ℓ) (ρ : Dev nD → PrngReg) (d : Dev nD)

/-! ## The values -/

/-- The program's value, from its four arguments. -/
def kerOf (a0 : IVec S16384x200 32) (a1 : S100x10.Idx → F .f32) (a2 : S1x10.Idx → F .f32) (a3 : S1.Idx → F .f32) : S16384x200x1.Idx → F .f32 :=
  broadcastInDim S16384x200x1 ![0, 1] bcast_S16384x200_S16384x200x1_0_1 (outOf (xpOf a0) (lutOf (embOf a1) (wbOf a2 a3)))

def mE (d : Dev nD) : S1120.Idx → Elt F .f32 := embOf (m (tl d main_arg1))
def mG (d : Dev nD) : S176.Idx → Elt F .f32 := wbOf (m (tl d main_arg2)) (m (tl d main_arg3))
def mX (d : Dev nD) : S4096x200.Idx → Elt F .i32 := xpOf (m (tl d main_arg0))

/-- The call's dealings, in this run. -/
abbrev PP : (K (F := F)).Pay (nD := nD) (Val := Elt F) (Name := ℕ) (U := UU) := P (mE m) (mG m) (mX m)

/-- The memory at the beginning. -/
abbrev V0 : Valuation τ sig (Elt F) := StableHlo.launchContents m d
/-- The memory at the call. -/
abbrev V1 : Valuation τ sig (Elt F) := StableHlo.after hostOps (V0 m d)
/-- The memory after the call. -/
def V2 : Valuation τ sig (Elt F) := Function.update (V1 m d) (Proc.devRef .tc main_v20) (outOf (mX m d) (lutOf (mE m d) (mG m d)))

/-! ## The buffers -/

def refEmb : Ref sig .tc ↪ DevRef τ sig := ⟨Proc.devRef .tc, Proc.devRef_injective _⟩

theorem held_refs (A : Finset (Ref sig .tc)) (W : Valuation τ sig (Elt F)) :
    (StableHlo.held (SparseCore.T d) (A.map refEmb) W : sProp 𝕄) = bigSep A fun r => tl d r ↦{fullShare} W (Proc.devRef .tc r) := by
  unfold StableHlo.held
  rw [Idealize.SL.BI.bigSep_map]
  rfl

/-- The buffers the call and what follows it are about. -/
def used : Finset (Ref sig .tc) := {main_v1, main_v5, main_v19, main_v20, main_v21, main_arg0, main_arg1, main_arg2, main_arg3}

theorem used_sub : used.map refEmb ⊆ Pipeline.ucRefs τ sig := by
  intro b hb
  obtain ⟨r, hr, rfl⟩ := Finset.mem_map.mp hb
  have h : ∀ r ∈ used, ¬ (Proc.devRef (τ := τ) .tc r).isScoped := by decide
  exact Finset.mem_filter.mpr ⟨StableHlo.devRef_mem_tcRefs r, h r hr⟩

theorem held_used (W : Valuation τ sig (Elt F)) :
    (StableHlo.held (SparseCore.T d) (used.map refEmb) W : sProp 𝕄)
      = iprop((tl d main_v1 ↦{fullShare} W (Proc.devRef .tc main_v1)) ∗ (tl d main_v5 ↦{fullShare} W (Proc.devRef .tc main_v5))
          ∗ (tl d main_v19 ↦{fullShare} W (Proc.devRef .tc main_v19)) ∗ (tl d main_v20 ↦{fullShare} W (Proc.devRef .tc main_v20))
          ∗ (tl d main_v21 ↦{fullShare} W (Proc.devRef .tc main_v21)) ∗ (tl d main_arg0 ↦{fullShare} W (Proc.devRef .tc main_arg0))
          ∗ (tl d main_arg1 ↦{fullShare} W (Proc.devRef .tc main_arg1)) ∗ (tl d main_arg2 ↦{fullShare} W (Proc.devRef .tc main_arg2))
          ∗ tl d main_arg3 ↦{fullShare} W (Proc.devRef .tc main_arg3)) := by
  rw [held_refs]
  unfold used
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-- The buffers of the step after the call. -/
def lastUsed : Finset (Ref sig .tc) := {main_v20, main_v21}

theorem held_last (W : Valuation τ sig (Elt F)) :
    (StableHlo.held (SparseCore.T d) (lastUsed.map refEmb) W : sProp 𝕄)
      = iprop((tl d main_v20 ↦{fullShare} W (Proc.devRef .tc main_v20)) ∗ tl d main_v21 ↦{fullShare} W (Proc.devRef .tc main_v21)) := by
  rw [held_refs]
  unfold lastUsed
  rw [SparseCore.bigSep_insert' (by decide), bigSep_singleton]

theorem last_sub : (lastOp (F := F)).bufs ⊆ lastUsed.map refEmb := by
  intro b hb
  have hb : b ∈ ({Proc.devRef .tc main_v20, Proc.devRef .tc main_v21} : Finset (DevRef τ sig)) := hb
  simp only [Finset.mem_insert, Finset.mem_singleton] at hb
  rcases hb with rfl | rfl
  · exact Finset.mem_map.mpr ⟨main_v20, by decide, rfl⟩
  · exact Finset.mem_map.mpr ⟨main_v21, by decide, rfl⟩

theorem ops_sub : ∀ op ∈ (hostOps : List (HloOp τ sig (Elt F))), op.bufs ⊆ Pipeline.ucRefs τ sig := by
  intro op hop
  refine Pipeline.sub_ucRefs op ?_
  revert op
  exact List.forall_iff_forall_mem.1 (by
    unfold hostOps
    simp only [List.Forall, StableHlo.TRef.unary, StableHlo.TRef.binary, StableHlo.reshape_bufs_sub, StableHlo.nullary_bufs_sub, StableHlo.unary_bufs_sub,
      StableHlo.binary_bufs_sub, and_self])

theorem ops_fresh : ∀ op ∈ (hostOps : List (HloOp τ sig (Elt F))), op.fresh = ∅ :=
  List.forall_iff_forall_mem.1 (StableHlo.forall_fresh_of_map rfl)

theorem V2_v20 : V2 m d (Proc.devRef .tc main_v20) = outOf (mX m d) (lutOf (mE m d) (mG m d)) := Function.update_self ..
theorem V2_v21 : V2 m d (Proc.devRef .tc main_v21) = V1 m d (Proc.devRef .tc main_v21) :=
  Function.update_of_ne (StableHlo.devRef_ne_of_ne (by decide)) _ _

theorem result_v21 : (lastOp (F := F)).result (V2 m d) (Proc.devRef .tc main_v21)
    = kerOf (m (tl d main_arg0)) (m (tl d main_arg1)) (m (tl d main_arg2)) (m (tl d main_arg3)) := by
  unfold lastOp
  rw [StableHlo.unary_result, V2_v20]
  rfl

/-! ## The program -/

/-- What the program ends with: its arguments as they were, and its value. -/
def FIN : sProp 𝕄 :=
  iprop((tl d main_v21 ↦{fullShare} kerOf (m (tl d main_arg0)) (m (tl d main_arg1)) (m (tl d main_arg2)) (m (tl d main_arg3)))
    ∗ (tl d main_arg0 ↦{fullShare} m (tl d main_arg0)) ∗ (tl d main_arg1 ↦{fullShare} m (tl d main_arg1))
    ∗ (tl d main_arg2 ↦{fullShare} m (tl d main_arg2)) ∗ tl d main_arg3 ↦{fullShare} m (tl d main_arg3))

theorem st0_eq : (bigSep Finset.univ fun c : Fin ((K (F := F)).nCore 0) => (PP m).st 0 d c)
    = bigSep Finset.univ fun c : Core => stT (mE m) (mG m) (mX m) d c := rfl
theorem dn0_eq : (bigSep Finset.univ fun c : Fin ((K (F := F)).nCore 0) => (PP m).dn 0 d c)
    = bigSep Finset.univ fun c : Core => dnT (mE m) (mG m) (mX m) d c := rfl

theorem held_call : (StableHlo.held (SparseCore.T d) (Pipeline.ucRefs τ sig) (V1 m d) : sProp 𝕄)
    ⊢ iprop((tl d main_v1 ↦{fullShare} mE m d) ∗ (tl d main_v5 ↦{fullShare} mG m d) ∗ (tl d main_v19 ↦{fullShare} mX m d)
        ∗ (tl d main_v20 ↦{fullShare} V1 m d (Proc.devRef .tc main_v20)) ∗ (tl d main_v21 ↦{fullShare} V1 m d (Proc.devRef .tc main_v21))
        ∗ (tl d main_arg0 ↦{fullShare} m (tl d main_arg0)) ∗ (tl d main_arg1 ↦{fullShare} m (tl d main_arg1))
        ∗ (tl d main_arg2 ↦{fullShare} m (tl d main_arg2)) ∗ tl d main_arg3 ↦{fullShare} m (tl d main_arg3)) := by
  rw [StableHlo.held_sub_split (SparseCore.T d) used_sub (V1 m d), held_used]
  refine sep_elim_left.trans (BIBase.Entails.of_eq ?_)
  rw [show V1 m d (Proc.devRef .tc main_v1) = mE m d from after_emb _, show V1 m d (Proc.devRef .tc main_v5) = mG m d from after_wb _,
    show V1 m d (Proc.devRef .tc main_v19) = mX m d from after_xp _, show V1 m d (Proc.devRef .tc main_arg0) = m (tl d main_arg0) from after_arg0 _,
    show V1 m d (Proc.devRef .tc main_arg1) = m (tl d main_arg1) from after_arg1 _, show V1 m d (Proc.devRef .tc main_arg2) = m (tl d main_arg2) from after_arg2 _,
    show V1 m d (Proc.devRef .tc main_arg3) = m (tl d main_arg3) from after_arg3 _]

theorem held_last_in : (iprop((tl d main_v20 ↦{fullShare} outOf (mX m d) (lutOf (mE m d) (mG m d)))
      ∗ tl d main_v21 ↦{fullShare} V1 m d (Proc.devRef .tc main_v21)) : sProp 𝕄)
    ⊢ StableHlo.held (SparseCore.T d) (lastUsed.map refEmb) (V2 m d) := by
  rw [held_last, V2_v20, V2_v21]

theorem held_last_out : (StableHlo.held (SparseCore.T d) (lastUsed.map refEmb) ((lastOp (F := F)).result (V2 m d)) : sProp 𝕄)
    ⊢ tl d main_v21 ↦{fullShare} kerOf (m (tl d main_arg0)) (m (tl d main_arg1)) (m (tl d main_arg2)) (m (tl d main_arg3)) := by
  rw [held_last, result_v21]
  exact sep_elim_right

theorem gathered0 : (bigSep Finset.univ fun c : Fin ((K (F := F)).nCore 0) => (PP m).dn 0 d c)
    ⊢ (tl d main_v20 ↦{fullShare} outOf (mX m d) (lutOf (mE m d) (mG m d)) : sProp 𝕄) := by
  rw [dn0_eq]
  exact gathered d (mE m) (mG m) (mX m)

/-- The program: its preparation, the call, and the step after it. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => (iprop((K (F := F)).tcSt EH d 1 ∗ FIN m d ∗ (K (F := F)).tcEnd d) : sProp 𝕄) := by
  have hu : (unscopedBufs d (fun b => m ((SparseCore.T d).loc b)) : sProp 𝕄) = StableHlo.held (SparseCore.T d) (Pipeline.ucRefs τ sig) (V0 m d) :=
    Pipeline.unscopedBufs_held d (V0 m d)
  unfold SparseCore.Cfg.tcRes SparseCore.Cfg.tcEnd
  rw [hu, main_eq]
  iintro ⟨#Hctx, Hst, ⟨Hb, Hheld, Hts, -⟩, -⟩
  iapply (StableHlo.wp_seq 𝒱 none Set.univ d (Pipeline.ucRefs τ sig) _ hostOps ops_sub ops_fresh (V0 m d)) $$ [Hb Hheld]
  · isplitl [Hb]; · iexact Hb
    iexact Hheld
  iintro ⟨Hb, Hheld⟩
  ihave Hheld := (held_call m d) $$ Hheld
  icases Hheld with ⟨HE, HG, HX, H20, H21, HA⟩
  ihave Hst0 := (deal d (mE m) (mG m) (mX m) (V1 m d (Proc.devRef .tc main_v20))) $$ [HE HG HX H20]
  · isplitl [HE]; · iexact HE
    isplitl [HG]; · iexact HG
    isplitl [HX] <;> iassumption
  rw [wp_bind]
  iapply ((K (F := F)).wp_run (D (F := F)) 𝒱 (EH := EH) (P := PP m) κ d 0)
  isplitr; · iexact Hctx
  isplitl [Hst]; · iexact Hst
  isplitl [Hst0]; · iexact Hst0
  iintro ⟨Hst, Hdn⟩
  ihave H20 := (gathered0 m d) $$ Hdn
  iapply (StableHlo.wp_hlo_within 𝒱 (SparseCore.T d) none Set.univ (op := lastOp) last_sub (V := V2 m d)) $$ [Hb H20 H21]
  · isplitl [Hb]; · iexact Hb
    iapply (held_last_in m d)
    isplitl [H20] <;> iassumption
  iintro ⟨Hb, Hheld⟩
  ihave H21 := (held_last_out m d) $$ Hheld
  rw [wp_ret]
  imodintro
  isplitl [Hst]; · iexact Hst
  isplitr [Hb Hts]
  · unfold FIN
    isplitl [H21] <;> iassumption
  isplitl [Hb] <;> iassumption

def fq (d : Dev nD) (s' : Phys nD τ sig (Elt F)) : Prop :=
  s'.mem.mem (tl d main_v21) = kerOf (m (tl d main_arg0)) (m (tl d main_arg1)) (m (tl d main_arg2)) (m (tl d main_arg3))
    ∧ s'.mem.mem (tl d main_arg0) = m (tl d main_arg0) ∧ s'.mem.mem (tl d main_arg1) = m (tl d main_arg1)
    ∧ s'.mem.mem (tl d main_arg2) = m (tl d main_arg2) ∧ s'.mem.mem (tl d main_arg3) = m (tl d main_arg3)

/-- A buffer owned whole holds, in the final memory, what it is owned at. -/
theorem read_back (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  unfold FIN
  iintro ⟨⟨Hv, H0, H1, H2, H3⟩, HSI⟩
  ihave H := (read_back s' _ _) $$ [HSI Hv]
  · isplitl [HSI] <;> iassumption
  icases H with ⟨%hv, HSI⟩
  ihave H := (read_back s' _ _) $$ [HSI H0]
  · isplitl [HSI] <;> iassumption
  icases H with ⟨%h0, HSI⟩
  ihave H := (read_back s' _ _) $$ [HSI H1]
  · isplitl [HSI] <;> iassumption
  icases H with ⟨%h1, HSI⟩
  ihave H := (read_back s' _ _) $$ [HSI H2]
  · isplitl [HSI] <;> iassumption
  icases H with ⟨%h2, HSI⟩
  ihave H := (read_back s' _ _) $$ [HSI H3]
  · isplitl [HSI] <;> iassumption
  icases H with ⟨%h3, -⟩
  ipureintro
  exact ⟨hv, h0, h1, h2, h3⟩

/-! ## The run -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (PP m).x q thr) = (iprop(emp) : sProp 𝕄) from
    (bigSep_congr fun _ _ => bigSep_emp' _).trans (bigSep_emp' _)]
  iempintro

def QC : PUnit × MemSt nD τ sig (Elt F) → Prop := fun r => (∀ d : Dev nD,
  r.2.mem (tl d main_v21) = kerOf (m (tl d main_arg0)) (m (tl d main_arg1)) (m (tl d main_arg2)) (m (tl d main_arg3))
    ∧ r.2.mem (tl d main_arg0) = m (tl d main_arg0) ∧ r.2.mem (tl d main_arg1) = m (tl d main_arg1)
    ∧ r.2.mem (tl d main_arg2) = m (tl d main_arg2) ∧ r.2.mem (tl d main_arg3) = m (tl d main_arg3)) ∧ r.2.sem = fun _ => 0

/-- The whole program, over any numbers: it ends with its value in `main_v21`, its arguments as they were, and every
    semaphore at zero, whenever the packed indices lie in the table. -/
theorem run_main [∀ e, Nonempty (Elt F e)] (hX : ∀ d, InTable (mX m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (mE m) (mG m) (mX m) hX)
    (fun q _ => match q with | 0 => SparseCore.Cfg.VecSplit.of_plain (vecSplit (mE m) (mG m) (mX m)))
    m ρ main (fun _ => iprop(emp)) (FIN m) (u₀ (F := F)) (sep_elim_left.trans (hu₀ m)) (hmain m ρ) (fq m) (hfin m) (QC m) (fun _ h hz => ⟨h, hz⟩)

end Cert.KernelIdeal.Tile

end
-- ==== Proof.Pack.lean ====
/-
  The packed indices: four of them in a word, each read back by a shift and a mask.
-/
module

public import proofs.«01_k».proof.Proof.Split
public import proofs.«01_k».proof.Proof.Gen.Pre_in_range

@[expose] public section

noncomputable section

namespace Cert.KernelIdeal.Tile

open Idealize.ShloMosaic
open Facts₀ Facts

/-! ## Four small numbers in a word -/

/-- Four words, shifted to their places and joined. -/
def pack4 (a b c e : BitVec 32) : BitVec 32 :=
  IntOp.ori (IntOp.ori (IntOp.ori a (IntOp.shli .host b 8#32)) (IntOp.shli .host c 16#32)) (IntOp.shli .host e 24#32)

/-- A number below 256 has no bit from the eighth on. -/
theorem high_bit {x : BitVec 32} (hx : x.toNat < 256) {i : Nat} (hi : 8 ≤ i) : x.getLsbD i = false :=
  Nat.testBit_lt_two_pow (lt_of_lt_of_le hx (show 2 ^ 8 ≤ 2 ^ i from Nat.pow_le_pow_right (by decide) hi))

theorem bit_shl (x : BitVec 32) (s : Nat) (hs : s < 32) (j : Nat) :
    (IntOp.shli .host x (BitVec.ofNat 32 s)).getLsbD j = (decide (j < 32) && !decide (j < s) && x.getLsbD (j - s)) := by
  have e : (BitVec.ofNat 32 s).toNat = s := by rw [BitVec.toNat_ofNat]; exact Nat.mod_eq_of_lt (by omega)
  unfold IntOp.shli
  rw [if_pos (by rw [e]; exact hs), BitVec.shiftLeft_eq', e, BitVec.getLsbD_shiftLeft]

theorem bit_mask (i : Nat) (hi : i < 32) : (255#32).getLsbD i = decide (i < 8) := by
  revert i
  decide

/-- A bit of a field of a word. -/
theorem bit_fldW (w : BitVec 32) (k : Fin 4) (i : Nat) (hi : i < 32) : (fldW w k).getLsbD i = (w.getLsbD (8 * k.val + i) && decide (i < 8)) := by
  have hk := k.isLt
  have e : (BitVec.ofNat 32 (8 * k.val)).toNat = 8 * k.val := by rw [BitVec.toNat_ofNat]; exact Nat.mod_eq_of_lt (by omega)
  unfold fldW IntOp.andi IntOp.shrui
  rw [if_pos (by rw [e]; omega), BitVec.getLsbD_and, BitVec.ushiftRight_eq', e, BitVec.getLsbD_ushiftRight, bit_mask i hi]

/-- A bit of four joined words. -/
theorem bit_pack4 (a b c e : BitVec 32) (j : Nat) (hj : j < 32) : (pack4 a b c e).getLsbD j
    = (((a.getLsbD j || (!decide (j < 8) && b.getLsbD (j - 8))) || (!decide (j < 16) && c.getLsbD (j - 16))) || (!decide (j < 24) && e.getLsbD (j - 24))) := by
  unfold pack4 IntOp.ori
  rw [BitVec.getLsbD_or, BitVec.getLsbD_or, BitVec.getLsbD_or, bit_shl b 8 (by decide), bit_shl c 16 (by decide), bit_shl e 24 (by decide),
    decide_eq_true hj]
  simp only [Bool.true_and]

/-- Four numbers below 256, packed, are read back by their places. -/
theorem fldW_pack4 (x : Fin 4 → BitVec 32) (hx : ∀ m, (x m).toNat < 256) (k : Fin 4) : fldW (pack4 (x 0) (x 1) (x 2) (x 3)) k = x k := by
  apply BitVec.eq_of_getLsbD_eq
  intro i hi
  rw [bit_fldW _ _ _ hi]
  rcases Nat.lt_or_ge i 8 with h8 | h8
  · have hk := k.isLt
    rw [bit_pack4 _ _ _ _ _ (by omega), decide_eq_true h8, Bool.and_true]
    have hz (m : Fin 4) {j : Nat} (hj : 8 ≤ j) : (x m).getLsbD j = false := high_bit (hx m) hj
    match k with
    | 0 =>
      simp only [Fin.val_zero, Nat.mul_zero, Nat.zero_add]
      rw [decide_eq_true h8, decide_eq_true (show i < 16 by omega), decide_eq_true (show i < 24 by omega)]
      simp
    | 1 =>
      show (((_ || (!decide (8 + i < 8) && (x 1).getLsbD (8 + i - 8))) || (!decide (8 + i < 16) && _)) || (!decide (8 + i < 24) && _)) = _
      rw [hz 0 (by omega), decide_eq_false (by omega), decide_eq_true (by omega), decide_eq_true (by omega), Nat.add_sub_cancel_left]
      simp
    | 2 =>
      show (((_ || (!decide (16 + i < 8) && _)) || (!decide (16 + i < 16) && (x 2).getLsbD (16 + i - 16))) || (!decide (16 + i < 24) && _)) = _
      rw [hz 0 (by omega), hz 1 (by omega), decide_eq_false (by omega), decide_eq_false (by omega), decide_eq_true (by omega), Nat.add_sub_cancel_left]
      simp
    | 3 =>
      show (((_ || (!decide (24 + i < 8) && _)) || (!decide (24 + i < 16) && _)) || (!decide (24 + i < 24) && (x 3).getLsbD (24 + i - 24))) = _
      rw [hz 0 (by omega), hz 1 (by omega), hz 2 (by omega), decide_eq_false (by omega), decide_eq_false (by omega), decide_eq_false (by omega), Nat.add_sub_cancel_left]
      simp
  · rw [decide_eq_false (by omega), Bool.and_false, high_bit (hx k) h8]

/-! ## The packed rows -/

/-- The row of the indices that the `k`-th field of a packed row holds. -/
def srcRow (k : Fin 4) (y : S4096x200.Idx) : S16384x200.Idx := fun a => match a with
  | 0 => ⟨4096 * k.val + (y 0).val, by
      have h : (y 0).val < 4096 := (y 0).isLt
      have hk := k.isLt
      show _ < 16384
      omega⟩
  | 1 => y 1

theorem xpOf_eq (a0 : IVec S16384x200 32) (y : S4096x200.Idx) :
    xpOf a0 y = pack4 (a0 (srcRow 0 y)) (a0 (srcRow 1 y)) (a0 (srcRow 2 y)) (a0 (srcRow 3 y)) := by
  have hs (k : Fin 4) (h : S16384x200.Slices ![4096 * k.val, 0] S4096x200) :
      extractStridedSlice S4096x200 ![4096 * k.val, 0] a0 h y = a0 (srcRow k y) := by
    refine congrArg a0 (funext fun a => Fin.ext ?_)
    match a with
    | 0 => rfl
    | 1 => exact Nat.zero_add _
  rw [← hs 0 slices_S16384x200_S4096x200_0_0, ← hs 1 slices_S16384x200_S4096x200_4096_0, ← hs 2 slices_S16384x200_S4096x200_8192_0,
    ← hs 3 slices_S16384x200_S4096x200_12288_0]
  rfl

/-- The indices all lie in the table. -/
def Small (a0 : IVec S16384x200 32) : Prop := ∀ y, (a0 y).toNat < 100

theorem fldW_xpOf {a0 : IVec S16384x200 32} (h : Small a0) (y : S4096x200.Idx) (k : Fin 4) : fldW (xpOf a0 y) k = a0 (srcRow k y) := by
  rw [xpOf_eq]
  exact fldW_pack4 (fun m => a0 (srcRow m y)) (fun m => lt_trans (h _) (by decide)) k

theorem inTable_of_small {a0 : IVec S16384x200 32} (h : Small a0) : InTable (xpOf a0) := fun y k => by
  rw [fldW_xpOf h]
  exact lt_trans (h _) (by decide)

/-- The index that an element of the result is looked up by. -/
theorem fldW_at {a0 : IVec S16384x200 32} (h : Small a0) (y : S16384x200.Idx) :
    fldW (xpOf a0 (pRow (y 0).val (y 1))) ((y 0).val / 4096) = a0 y := by
  have h0 := (y 0).isLt
  have h0' : (y 0).val < 16384 := h0
  refine (fldW_xpOf h _ (⟨(y 0).val / 4096, by omega⟩ : Fin 4)).trans (congrArg a0 (funext fun a => Fin.ext ?_))
  match a with
  | 0 =>
    show 4096 * ((y 0).val / 4096) + (y 0).val % 4096 = (y 0).val
    omega
  | 1 => rfl

/-! ## The precondition -/

/-- A conjunction of bits is one only when each is. -/
theorem foldl_andi_one {α : Type} (f : α → BitVec 1) : ∀ (l : List α) (r : BitVec 1), l.foldl (fun r n => IntOp.andi r (f n)) r = 1#1 → r = 1#1 ∧ ∀ n ∈ l, f n = 1#1
  | [], _, h => ⟨h, fun _ hn => nomatch hn⟩
  | a :: l, r, h => by
    obtain ⟨h1, h2⟩ := foldl_andi_one f l _ h
    have key : ∀ p q : BitVec 1, IntOp.andi p q = 1#1 → p = 1#1 ∧ q = 1#1 := by decide
    obtain ⟨hr, ha⟩ := key _ _ h1
    refine ⟨hr, fun n hn => ?_⟩
    rcases List.mem_cons.mp hn with rfl | hn
    · exact ha
    · exact h2 n hn

theorem idx0_eq (i j : S_.Idx) : i = j := funext fun a => a.elim0

/-- The precondition says that the indices lie in the table. -/
theorem small_of_pre {F : FTy → Type} [FloatOps F] {a0 : IVec S16384x200 32} {a1 : FVec F S100x10 .f32} {a2 : FVec F S1x10 .f32} {a3 : FVec F S1 .f32}
    (h : Cert.Pre_in_range.fn (F := F) a0 a1 a2 a3 = fun _ => 1#1) : Small a0 := by
  intro y
  have h1 := congrFun h (Shape.Idx.first Cert.Pre_in_range.Gen.h_S_)
  have h2 := (foldl_andi_one _ _ _ h1).2 (S16384x200.rowMajor y) (List.mem_filter.mpr ⟨List.mem_finRange _, decide_eq_true (idx0_eq _ _)⟩)
  rw [Equiv.symm_apply_apply] at h2
  have key : ∀ v : BitVec 32, IntOp.andi (IntOp.cmpi .sge v 0#32) (IntOp.cmpi .slt v 100#32) = 1#1 → v.toNat < 100 := by
    intro v e
    have a1 (p q : Bool) : IntOp.andi (BitVec.ofBool p) (BitVec.ofBool q) = BitVec.ofBool (p && q) := by cases p <;> cases q <;> decide
    have a2 (p : Bool) : (BitVec.ofBool p = 1#1) ↔ p = true := by cases p <;> decide
    simp only [IntOp.cmpi, a1, a2, Bool.and_eq_true, BitVec.sle_eq_decide, BitVec.slt_eq_decide,
      decide_eq_true_eq, BitVec.toInt_eq_toNat_cond, BitVec.toNat_ofNat, Nat.reducePow, Nat.reduceMod] at e
    omega
  exact key _ h2

end Cert.KernelIdeal.Tile

end
-- ==== Proof.Frames.lean ====
/-
  The programs end, with their arguments as they were and every semaphore at zero.
-/
module

public import proofs.«01_k».proof.Defs
public import proofs.«01_k».proof.Proof.Gen.Kernel
public import proofs.«01_k».proof.Proof.Gen.ReferenceIdeal.Run
public import proofs.«01_k».proof.Proof.Launch
public import proofs.«01_k».proof.Proof.Pack

@[expose] public section

noncomputable section

namespace Cert.Proof

open Idealize.ShloMosaic Idealize.SL.Sem
open Cert.KernelIdeal.Tile (run_main inTable_of_small small_of_pre)

/-- The frame of the kernel over the machine's own numbers. -/
theorem frame_kernel : Cert.quiescent_Kernel := fun m ρ hpre =>
  (θ_run Cert.KernelIdeal.defs _ _).mono (fun _ h => ⟨fun c => (h.1 c).2, h.2⟩)
    (run_main (F := Bits) m ρ fun d => inTable_of_small (small_of_pre (hpre d)))

/-- The frame of the kernel over the ideal numbers. -/
theorem frame_kernelIdeal : Cert.quiescent_KernelIdeal := fun m ρ hpre =>
  (θ_run Cert.KernelIdeal.defs _ _).mono (fun _ h => ⟨fun c => (h.1 c).2, h.2⟩)
    (run_main (F := Ideal) m ρ fun d => inTable_of_small (small_of_pre (hpre d)))

/-- The frame of the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

end Cert.Proof

end
-- ==== Proof.Values.lean ====
/-
  The program's value over the ideal numbers: each element is the row its index names, times the weights, plus the bias.
-/
module

public import proofs.«01_k».proof.Proof.Launch
public import proofs.«01_k».proof.Proof.Pack
public import Idealize.ShloMosaic.Lib.KernelVsHost
public import Idealize.ShloMosaic.Lib.ValueIdx

@[expose] public section

noncomputable section

namespace Cert.KernelIdeal.Tile

open Idealize.ShloMosaic Idealize.ShloMosaic.ValueIdx
open Facts₀ Facts

/-! ## What the tiles are given, read at an entry -/

section Reads
variable {F : FTy → Type} [FloatOps F]

/-- An entry of the flat embedding is the embedding's. -/
theorem at1120_embOf (a1 : S100x10.Idx → F .f32) (n : Fin 100) (d : Fin 10) : at1120 (embOf a1) (10 * n.val + d.val) = a1 (ix2 n d) := by
  have hn := n.isLt
  have hd := d.isLt
  unfold at1120 embOf
  refine (pad_apply_of_inside _ _ _ _ _ _ _ _ (ix1 (⟨10 * n.val + d.val, by omega⟩ : Fin 1000)) fun a => ?_).trans ?_
  · obtain rfl : a = 0 := Subsingleton.elim _ _
    show (10 * n.val + d.val) % 1120 = 0 + (10 * n.val + d.val) * (0 + 1)
    omega
  · refine shapeCast_apply _ _ _ (ix2 n d) ?_
    rw [Shape.rowMajor_val_two, Shape.rowMajor_val_one]
    show n.val * 10 + d.val = 10 * n.val + d.val
    omega

/-- An entry of the repeated weights, by its group. -/
theorem at176_wbOf (a2 : S1x10.Idx → F .f32) (a3 : S1.Idx → F .f32) (g : Fin 11) (r : Nat) (hr : r < 16) :
    at176 (wbOf a2 a3) (16 * g.val + r)
      = concatenate S11 0 [⟨S10, shapeCast S10 a2 shapeCasts_S1x10_S10⟩, ⟨S1, a3⟩] concatenates_S10_S1_S11_d0 (ix1 g) := by
  have hg := g.isLt
  unfold at176 wbOf
  refine (shapeCast_apply _ _ _ (ix2 g (⟨r, hr⟩ : Fin 16)) ?_).trans ?_
  · rw [Shape.rowMajor_val_two, Shape.rowMajor_val_one]
    show g.val * 16 + r = (16 * g.val + r) % 176
    omega
  · refine broadcastInDim_apply _ _ _ _ (ix1 g) fun a => ?_
    obtain rfl : a = 0 := Subsingleton.elim _ _
    rfl

theorem at176_weight (a2 : S1x10.Idx → F .f32) (a3 : S1.Idx → F .f32) (d : Fin 10) (r : Nat) (hr : r < 16) :
    at176 (wbOf a2 a3) (16 * d.val + r) = a2 (ix2 0 d) := by
  have hd := d.isLt
  refine (at176_wbOf a2 a3 ⟨d.val, by omega⟩ r hr).trans ?_
  refine (concatenate_pair_apply_left (t := S11) 0 (shapeCast S10 a2 shapeCasts_S1x10_S10) a3 concatenates_S10_S1_S11_d0 (ix1 ⟨d.val, by omega⟩) rfl (ix1 d) fun b => ?_).trans ?_
  · obtain rfl : b = 0 := Subsingleton.elim _ _
    rfl
  · refine shapeCast_apply _ _ _ (ix2 0 d) ?_
    rw [Shape.rowMajor_val_two, Shape.rowMajor_val_one]
    show 0 * 10 + d.val = d.val
    omega

theorem at176_bias (a2 : S1x10.Idx → F .f32) (a3 : S1.Idx → F .f32) (r : Nat) (hr : r < 16) :
    at176 (wbOf a2 a3) (16 * 10 + r) = a3 (ix1 0) := by
  refine (at176_wbOf a2 a3 10 r hr).trans ?_
  refine concatenate_pair_apply_right (t := S11) 0 (shapeCast S10 a2 shapeCasts_S1x10_S10) a3 concatenates_S10_S1_S11_d0 (ix1 10) rfl rfl (ix1 0) (fun b hb => ?_) rfl
  exact absurd (Subsingleton.elim _ _) hb

end Reads

/-! ## The value -/

/-- The linear layer of the embedding's row that an index names. -/
def lin (a0 : IVec S16384x200 32) (a1 : S100x10.Idx → EReal) (a2 : S1x10.Idx → EReal) (a3 : S1.Idx → EReal) (r : Fin 16384) (c : Fin 200) : EReal :=
  (∑ d : Fin 10, a1 (ix2 ⟨(a0 (ix2 r c)).toNat % 100, Nat.mod_lt _ (by decide)⟩ d) * a2 (ix2 0 d)) + a3 (ix1 0)

/-- The ten products and the bias, as a sum. -/
theorem dot10_eq (e w : Nat → EReal) : dot10 (F := Ideal) e w = (∑ d : Fin 10, e d.val * w d.val) + w 10 := by
  have h : dot10 (F := Ideal) e w = w 10 + e 0 * w 0 + e 1 * w 1 + e 2 * w 2 + e 3 * w 3 + e 4 * w 4 + e 5 * w 5 + e 6 * w 6 + e 7 * w 7 + e 8 * w 8 + e 9 * w 9 := rfl
  rw [h, Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero, zero_add]
  show w 10 + e 0 * w 0 + e 1 * w 1 + e 2 * w 2 + e 3 * w 3 + e 4 * w 4 + e 5 * w 5 + e 6 * w 6 + e 7 * w 7 + e 8 * w 8 + e 9 * w 9
    = (e 0 * w 0 + e 1 * w 1 + e 2 * w 2 + e 3 * w 3 + e 4 * w 4 + e 5 * w 5 + e 6 * w 6 + e 7 * w 7 + e 8 * w 8 + e 9 * w 9) + w 10
  abel

/-- The logit of a row is its linear layer. -/
theorem logit_eq (a1 : S100x10.Idx → EReal) (a2 : S1x10.Idx → EReal) (a3 : S1.Idx → EReal) (n : Fin 100) :
    logit (F := Ideal) (embOf (F := Ideal) a1) (wbOf (F := Ideal) a2 a3) n.val = (∑ d : Fin 10, a1 (ix2 n d) * a2 (ix2 0 d)) + a3 (ix1 0) := by
  have hr : n.val % 16 < 16 := Nat.mod_lt _ (by decide)
  unfold logit
  rw [dot10_eq]
  refine congrArg₂ (· + ·) (Finset.sum_congr rfl fun d _ => congrArg₂ (· * ·) ?_ ?_) ?_
  · exact at1120_embOf (F := Ideal) a1 n d
  · exact at176_weight (F := Ideal) a2 a3 d _ hr
  · exact at176_bias (F := Ideal) a2 a3 _ hr

/-- The program's value, element by element. -/
theorem kerOf_eq {a0 : IVec S16384x200 32} (h : Small a0) (a1 : S100x10.Idx → EReal) (a2 : S1x10.Idx → EReal) (a3 : S1.Idx → EReal) (y : S16384x200x1.Idx) :
    kerOf (F := Ideal) a0 a1 a2 a3 y = lin a0 a1 a2 a3 (y 0) (y 1) := by
  unfold kerOf
  refine (broadcastInDim_apply _ _ _ _ (ix2 (y 0) (y 1)) fun a => ?_).trans ?_
  · match a with
    | ⟨0, _⟩ => rfl
    | ⟨1, _⟩ => rfl
  · have hx := h (ix2 (y 0) (y 1))
    have e := fldW_at h (ix2 (y 0) (y 1))
    have hn : (a0 (ix2 (y 0) (y 1))).toNat % 112 = (a0 (ix2 (y 0) (y 1))).toNat % 100 := by omega
    unfold outOf
    rw [e]
    refine Eq.trans ?_ (logit_eq a1 a2 a3 ⟨(a0 (ix2 (y 0) (y 1))).toNat % 100, Nat.mod_lt _ (by decide)⟩)
    exact congrArg (logit (F := Ideal) (embOf (F := Ideal) a1) (wbOf (F := Ideal) a2 a3)) hn

end Cert.KernelIdeal.Tile

end
-- ==== Proof.Reference.lean ====
/-
  The reference's value over the ideal numbers: the same linear layer of the row that an index names.
-/
module

public import proofs.«01_k».proof.Proof.Gen.ReferenceIdeal.Run
public import Idealize.ShloMosaic.Lib.KernelVsHost
public import Idealize.ShloMosaic.Lib.ValueIdx

@[expose] public section

noncomputable section

namespace Cert.ReferenceIdeal.Value

open Idealize.ShloMosaic Idealize.ShloMosaic.ValueIdx
open Facts₀ Facts

/-! ## The reference's terms -/

/-- The indices, a negative one counted from the end. -/
def wrapped (x : IVec S16384x200 32) : IVec S16384x200 32 :=
  select (cmpi .slt x (broadcastInDim S16384x200 ![] bcast_S_S16384x200 (constantI S_ 32 0#32))) (addi x (broadcastInDim S16384x200 ![] bcast_S_S16384x200 (constantI S_ 32 100#32))) x

/-- The indices as a column. -/
def column (x : IVec S16384x200 32) : IVec S16384x200x1 32 := broadcastInDim S16384x200x1 ![0, 1] bcast_S16384x200_S16384x200x1_0_1 (wrapped x)

/-- Whether an index names a row. -/
def valid (x : IVec S16384x200 32) : IVec S16384x200x1 1 :=
  andi (cmpi .sge (column x) (broadcastInDim S16384x200x1 ![] bcast_S_S16384x200x1 (constantI S_ 32 0#32)))
    (cmpi .sle (column x) (broadcastInDim S16384x200x1 ![0, 1, 2] bcast_S1x1x1_S16384x200x1_0_1_2 (broadcastInDim S1x1x1 ![2] bcast_S1_S1x1x1_2 (constantI S1 32 99#32))))

/-- The rows looked up. -/
def looked {F : FTy → Type} [FloatOps F] (x : IVec S16384x200 32) (e : FVec F S100x10 .f32) : FVec F S16384x200x10 .f32 :=
  select (broadcastInDim S16384x200x10 ![0, 1] bcast_S16384x200_S16384x200x10_0_1 (Host.reduce IntOp.andi (valid x) (constantI S_ 1 1#1) reducesTo_S16384x200x1_S16384x200_d2 h_S_))
    (Host.gather gather_S100x10_S16384x200x1_S16384x200x10_2_0_n_n_0_2_110 e (column x)) (broadcastInDim S16384x200x10 ![] bcast_S_S16384x200x10 (constant S_ .f32 0x7FC00000#32))

/-- The reference's value. -/
def refOf {F : FTy → Type} [FloatOps F] (x : IVec S16384x200 32) (e : FVec F S100x10 .f32) (w : FVec F S1x10 .f32) (b : FVec F S1 .f32) : FVec F S16384x200x1 .f32 :=
  addf (Host.dotGeneral dot_S16384x200x10_S1x10_S16384x200x1_2_1_01_0_n_n none (looked x e) w)
    (broadcastInDim S16384x200x1 ![0, 1, 2] bcast_S1x1x1_S16384x200x1_0_1_2 (broadcastInDim S1x1x1 ![2] bcast_S1_S1x1x1_2 b))

/-! ## The operations at an entry -/

/-- A conjunction of ones is one. -/
theorem foldl_ones {α : Type} (f : α → BitVec 1) (hf : ∀ n, f n = 1#1) : ∀ l : List α, l.foldl (fun r n => IntOp.andi r (f n)) 1#1 = 1#1
  | [] => rfl
  | a :: l => by
    rw [List.foldl_cons, hf a]
    exact foldl_ones f hf l

theorem reduce_ones {s t u : Shape} {axes : List (Fin s.rank)} {v : IVec s 1} (hv : ∀ i, v i = 1#1) {z : IVec u 1} (hz : z = fun _ => 1#1) (hd : s.ReducesTo axes t)
    (hu : 0 < u.numel) (j : t.Idx) : Host.reduce IntOp.andi v z hd hu j = 1#1 := by
  subst hz
  exact foldl_ones (fun n => v (s.rowMajor.symm n)) (fun n => hv _) _

theorem addf_at {s : Shape} (p q : FVec Ideal s .f32) (j : s.Idx) : addf p q j = (p j : EReal) + q j := rfl

/-- A broadcast of one value has it everywhere. -/
theorem bcast_of_const {α : Type} {s t : Shape} {dims : Fin s.rank → Fin t.rank} (hb : s.BroadcastsInDim t dims) (v : s.Idx → α) (k : α) (j : t.Idx) (hv : ∀ i, v i = k) :
    broadcastInDim t dims hb v j = k := hv _

theorem select_of_one {α : Type} {s : Shape} (p : IVec s 1) (a b : s.Idx → α) (j : s.Idx) (hp : p j = 1#1) : select p a b j = a j := by
  show Scalar.select (p j) (a j) (b j) = a j
  rw [hp]
  rfl

/-- The lookup reads the row that the index, kept inside the table, names. -/
theorem gather_at {α : Type} (e : S100x10.Idx → α) (v : IVec S16384x200x1 32) (r : Fin 16384) (c : Fin 200) (d : Fin 10) :
    Host.gather gather_S100x10_S16384x200x1_S16384x200x10_2_0_n_n_0_2_110 e v (ix3 r c d)
      = e (ix2 ⟨min (v (ix3 r c 0)).toInt.toNat 99, by omega⟩ d) := by
  unfold Host.gather
  refine congrArg e (funext fun a => Fin.ext ?_)
  match a with
  | ⟨0, _⟩ =>
    show min (v _).toInt.toNat 99 + 0 + 0 = _
    refine congrArg (fun i => min (v i).toInt.toNat 99) (funext fun b => Fin.ext ?_)
    match b with
    | ⟨0, _⟩ => rfl
    | ⟨1, _⟩ => rfl
    | ⟨2, _⟩ => rfl
  | ⟨1, _⟩ =>
    show 0 + 0 + d.val = d.val
    omega

/-! ## On indices in range -/

variable {x : IVec S16384x200 32} (h : ∀ y, (x y).toNat < 100)
include h

theorem wrapped_eq : wrapped x = x := by
  funext y
  have hx := h y
  have e : IntOp.cmpi .slt (x y) 0#32 = 0#1 := by
    simp only [IntOp.cmpi, BitVec.slt_eq_decide]
    rw [decide_eq_false]
    · rfl
    · rw [BitVec.toInt_eq_toNat_cond, if_pos (by omega)]
      show ¬ ((x y).toNat : Int) < 0
      omega
  show Scalar.select (IntOp.cmpi .slt (x y) 0#32) _ (x y) = x y
  rw [e]
  rfl

/-- The column's entry. -/
theorem column_at (r : Fin 16384) (c : Fin 200) (u : Fin 1) : column x (ix3 r c u) = x (ix2 r c) := by
  unfold column
  rw [wrapped_eq h]
  refine broadcastInDim_apply _ _ _ _ (ix2 r c) fun a => ?_
  match a with
  | ⟨0, _⟩ => rfl
  | ⟨1, _⟩ => rfl

theorem valid_eq (y : S16384x200x1.Idx) : valid x y = 1#1 := by
  have hc : column x y = x (ix2 (y 0) (y 1)) := by
    conv_lhs => rw [eq_ix3 y]
    exact column_at h _ _ _
  have hx := h (ix2 (y 0) (y 1))
  have key : ∀ v : BitVec 32, v.toNat < 100 → IntOp.andi (IntOp.cmpi .sge v 0#32) (IntOp.cmpi .sle v 99#32) = 1#1 := by
    intro v hv
    have e : v.toInt = v.toNat := by rw [BitVec.toInt_eq_toNat_cond, if_pos (by omega)]
    have e0 : (0#32).toInt = 0 := by decide
    have e1 : (99#32).toInt = 99 := by decide
    simp only [IntOp.cmpi, BitVec.sle_eq_decide]
    rw [e, e0, e1, decide_eq_true (by omega), decide_eq_true (by omega)]
    rfl
  show IntOp.andi (IntOp.cmpi .sge (column x y) 0#32) (IntOp.cmpi .sle (column x y) 99#32) = 1#1
  rw [hc]
  exact key _ hx

theorem looked_at {F : FTy → Type} [FloatOps F] (e : FVec F S100x10 .f32) (r : Fin 16384) (c : Fin 200) (d : Fin 10) :
    looked x e (ix3 r c d) = e (ix2 ⟨(x (ix2 r c)).toNat % 100, Nat.mod_lt _ (by decide)⟩ d) := by
  unfold looked
  rw [select_of_one _ _ _ _ (bcast_of_const _ _ _ _ (reduce_ones (z := constantI S_ 1 1#1) (valid_eq h) rfl _ _)), gather_at]
  refine congrArg (fun n => e (ix2 n d)) (Fin.ext ?_)
  have hx := h (ix2 r c)
  show min (column x (ix3 r c 0)).toInt.toNat 99 = (x (ix2 r c)).toNat % 100
  rw [column_at h]
  rw [BitVec.toInt_eq_toNat_cond, if_pos (by omega), Int.toNat_natCast]
  omega

omit h in
/-- The bias, at any entry. -/
theorem bias_at {F : FTy → Type} [FloatOps F] (b : FVec F S1 .f32) (y : S16384x200x1.Idx) :
    broadcastInDim S16384x200x1 ![0, 1, 2] bcast_S1x1x1_S16384x200x1_0_1_2 (broadcastInDim S1x1x1 ![2] bcast_S1_S1x1x1_2 b) y = b (ix1 0) := by
  refine (broadcastInDim_apply _ _ _ _ (ix3 0 0 0) fun a => ?_).trans (broadcastInDim_apply _ _ _ _ (ix1 0) fun a => ?_)
  · match a with
    | ⟨0, _⟩ => rfl
    | ⟨1, _⟩ => rfl
    | ⟨2, _⟩ => rfl
  · obtain rfl : a = 0 := Subsingleton.elim _ _
    rfl

omit h in
/-- The product with the weights, as a sum. -/
theorem dot_at (g : FVec Ideal S16384x200x10 .f32) (w : FVec Ideal S1x10 .f32) (r : Fin 16384) (c : Fin 200) (u : Fin 1) :
    Host.dotGeneral dot_S16384x200x10_S1x10_S16384x200x1_2_1_01_0_n_n none g w (ix3 r c u) = ∑ d : Fin 10, (g (ix3 r c d) : EReal) * w (ix2 0 d) := by
  show FloatOps.dotGeneral _ none _ g w _ = _
  rw [Ideal.dotGeneral_apply, ← Equiv.sum_comp (contrEquiv1 dot_S16384x200x10_S1x10_S16384x200x1_2_1_01_0_n_n 10 rfl rfl).symm]
  refine Finset.sum_congr rfl fun d _ => ?_
  have hd := contrEquiv1_symm_val dot_S16384x200x10_S1x10_S16384x200x1_2_1_01_0_n_n 10 rfl rfl d
  refine congrArg₂ (fun p q : EReal => p * q) (congrArg g ?_) (congrArg w ?_)
  · funext a
    apply Fin.ext
    match a with
    | ⟨0, _⟩ => simp [DotDims.lhsIdx]; rfl
    | ⟨1, _⟩ => simp [DotDims.lhsIdx]; rfl
    | ⟨2, _⟩ => simp [DotDims.lhsIdx]; exact hd
  · funext a
    apply Fin.ext
    match a with
    | ⟨0, _⟩ => exact Nat.lt_one_iff.mp (Fin.isLt (n := 1) _)
    | ⟨1, _⟩ => simp [DotDims.rhsIdx]; exact hd

/-- The reference's value, element by element. -/
theorem refOf_at (e : FVec Ideal S100x10 .f32) (w : FVec Ideal S1x10 .f32) (b : FVec Ideal S1 .f32) (r : Fin 16384) (c : Fin 200) (u : Fin 1) :
    refOf (F := Ideal) x e w b (ix3 r c u)
      = (∑ d : Fin 10, (e (ix2 ⟨(x (ix2 r c)).toNat % 100, Nat.mod_lt _ (by decide)⟩ d) : EReal) * w (ix2 0 d)) + b (ix1 0) := by
  unfold refOf
  rw [addf_at, bias_at, dot_at]
  refine congrArg (fun p : EReal => p + b (ix1 0)) (Finset.sum_congr rfl fun d _ => ?_)
  rw [looked_at h]

end Cert.ReferenceIdeal.Value

end
-- ==== Proof.Algebra.lean ====
/-
  The kernel and the reference give the same array over the ideal numbers.
-/
module

public import proofs.«01_k».proof.Proof.Frames
public import proofs.«01_k».proof.Proof.Values
public import proofs.«01_k».proof.Proof.Reference

@[expose] public section

noncomputable section

namespace Cert.Proof

open Idealize.ShloMosaic Idealize.SL.Sem Idealize.ShloMosaic.ValueIdx
open Cert.KernelIdeal.Tile (run_main inTable_of_small small_of_pre Small kerOf kerOf_eq lin)
open Cert.ReferenceIdeal.Value (refOf refOf_at)

/-- The frame of the reference on indices in range. -/
theorem frame_reference_pre : Cert.quiescent_ReferenceIdeal_pre_in_range := fun m ρ _ => frame_reference m ρ trivial

/-- On indices in range the reference's array is the kernel's. -/
theorem refOf_eq_kerOf {x : IVec Cert.KernelIdeal.S16384x200 32} (h : Small x) (e : FVec Ideal Cert.KernelIdeal.S100x10 .f32) (w : FVec Ideal Cert.KernelIdeal.S1x10 .f32)
    (b : FVec Ideal Cert.KernelIdeal.S1 .f32) : refOf (F := Ideal) x e w b = kerOf (F := Ideal) x e w b := by
  funext y
  obtain ⟨r, c, u, rfl⟩ : ∃ (r : Fin 16384) (c : Fin 200) (u : Fin 1), y = ix3 r c u := ⟨y 0, y 1, y 2, eq_ix3 y⟩
  exact (refOf_at h e w b r c u).trans (kerOf_eq h e w b (ix3 r c u)).symm

/-- Started on the same arguments, the kernel and the reference give the same array. -/
theorem algebraic : Cert.algebraic_KernelIdeal_ReferenceIdeal := by
  intro m g m' g' hpre hargs
  have hs := fun d => small_of_pre (hpre d)
  refine ⟨fun d => kerOf (F := Ideal) _ _ _ _,
    (θ_run Cert.KernelIdeal.defs _ _).mono (fun _ h => h.1) (run_main (F := Ideal) m g fun d => inTable_of_small (hs d)),
    (θ_run Cert.ReferenceIdeal.defs _ _).mono (fun r h c => ⟨?_, (h c).2⟩) (Cert.ReferenceIdeal.Value.run m' g')⟩
  obtain ⟨e0, e1, e2, e3⟩ := hargs c
  refine (h c).1.trans ?_
  rw [e0, e1, e2, e3]
  exact refOf_eq_kerOf (hs c) _ _ _

end Cert.Proof

end
-- ==== Proof.lean ====
/-
  The claims, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, algebraic⟩

end Cert.Proof

end
